-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_but_gain [hPre_finite_but_gain : Cert.Pre_finite_but_gain.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_but_gain.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_but_gain.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_but_gain.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_but_gain.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_but_gain [hPre_finite_but_gain : Cert.Pre_finite_but_gain.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_but_gain.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_but_gain.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_but_gain.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_but_gain.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_projection [hPre_finite_projection : Cert.Pre_finite_projection.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite_projection.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_projection [hPre_finite_projection : Cert.Pre_finite_projection.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite_projection.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_but_gain [hKernel2Ideal : Cert.Kernel2Ideal.Facts] [hPre_finite_but_gain : Cert.Pre_finite_but_gain.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_but_gain m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_but_gain [hReference2Ideal : Cert.Reference2Ideal.Facts] [hPre_finite_but_gain : Cert.Pre_finite_but_gain.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_but_gain m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_projection [hKernel4Ideal : Cert.Kernel4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_projection m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_projection [hReference4Ideal : Cert.Reference4Ideal.Facts] [hPre_finite_projection : Cert.Pre_finite_projection.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_projection m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "log2_e" .f32 0x3FB8AA3B#32 (((Real.log 2)⁻¹ : ℝ) : EReal)

def algebraic_Kernel2Ideal_Reference2Ideal_pre_finite_but_gain [hKernel2Ideal : Cert.Kernel2Ideal.Facts] [hReference2Ideal : Cert.Reference2Ideal.Facts] [hPre_finite_but_gain : Cert.Pre_finite_but_gain.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_but_gain m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v25) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  IdealRules.named_const.Statement Cert.Kernel4Ideal.κ "q_scale" .f32 0x3E38AA3B#32 (((Real.log 256)⁻¹ : ℝ) : EReal)

def algebraic_Kernel4Ideal_Reference4Ideal_pre_finite_projection [hKernel4Ideal : Cert.Kernel4Ideal.Facts] [hReference4Ideal : Cert.Reference4Ideal.Facts] [hPre_finite_projection : Cert.Pre_finite_projection.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_projection m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v42_0)) (v1 : (c : Dev Cert.Kernel4Ideal.nD) → Buf (Elt Ideal) ((c.tc : Thread Cert.Kernel4Ideal.nD Cert.Kernel4Ideal.τ).loc Cert.Kernel4Ideal.main_v42_1)) (v2 : (c : Dev Cert.Kernel4Ideal.nD) → Buf (Elt Ideal) ((c.tc : Thread Cert.Kernel4Ideal.nD Cert.Kernel4Ideal.τ).loc Cert.Kernel4Ideal.main_v42_2)) (v3 : (c : Dev Cert.Kernel4Ideal.nD) → Buf (Elt Ideal) ((c.tc : Thread Cert.Kernel4Ideal.nD Cert.Kernel4Ideal.τ).loc Cert.Kernel4Ideal.main_v42_3)) (v4 : (c : Dev Cert.Kernel4Ideal.nD) → Buf (Elt Ideal) ((c.tc : Thread Cert.Kernel4Ideal.nD Cert.Kernel4Ideal.τ).loc Cert.Kernel4Ideal.main_v42_4)) (v5 : (c : Dev Cert.Kernel4Ideal.nD) → Buf (Elt Ideal) ((c.tc : Thread Cert.Kernel4Ideal.nD Cert.Kernel4Ideal.τ).loc Cert.Kernel4Ideal.main_v42_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v42_0) = v0 c
          ∧ r.2.mem ((c.tc : Thread Cert.Kernel4Ideal.nD Cert.Kernel4Ideal.τ).loc Cert.Kernel4Ideal.main_v42_1) = v1 c
          ∧ r.2.mem ((c.tc : Thread Cert.Kernel4Ideal.nD Cert.Kernel4Ideal.τ).loc Cert.Kernel4Ideal.main_v42_2) = v2 c
          ∧ r.2.mem ((c.tc : Thread Cert.Kernel4Ideal.nD Cert.Kernel4Ideal.τ).loc Cert.Kernel4Ideal.main_v42_3) = v3 c
          ∧ r.2.mem ((c.tc : Thread Cert.Kernel4Ideal.nD Cert.Kernel4Ideal.τ).loc Cert.Kernel4Ideal.main_v42_4) = v4 c
          ∧ r.2.mem ((c.tc : Thread Cert.Kernel4Ideal.nD Cert.Kernel4Ideal.τ).loc Cert.Kernel4Ideal.main_v42_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v182) = v0 c
          ∧ r.2.mem ((c.tc : Thread Cert.Reference4Ideal.nD Cert.Reference4Ideal.τ).loc Cert.Reference4Ideal.main_v183) = v1 c
          ∧ r.2.mem ((c.tc : Thread Cert.Reference4Ideal.nD Cert.Reference4Ideal.τ).loc Cert.Reference4Ideal.main_v186) = v2 c
          ∧ r.2.mem ((c.tc : Thread Cert.Reference4Ideal.nD Cert.Reference4Ideal.τ).loc Cert.Reference4Ideal.main_v187) = v3 c
          ∧ r.2.mem ((c.tc : Thread Cert.Reference4Ideal.nD Cert.Reference4Ideal.τ).loc Cert.Reference4Ideal.main_v188) = v4 c
          ∧ r.2.mem ((c.tc : Thread Cert.Reference4Ideal.nD Cert.Reference4Ideal.τ).loc Cert.Reference4Ideal.main_v191) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_scores : Cert.Pre_finite_scores.Facts) (hPre_finite_but_gain : Cert.Pre_finite_but_gain.Facts) (hPre_finite_projection : Cert.Pre_finite_projection.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Kernel2Ideal_pre_finite_but_gain (hKernel2Ideal := hKernel2Ideal) (hPre_finite_but_gain := hPre_finite_but_gain)
    ∧ quiescent_Reference2Ideal (hReference2Ideal := hReference2Ideal)
    ∧ quiescent_Reference2Ideal_pre_finite_but_gain (hReference2Ideal := hReference2Ideal) (hPre_finite_but_gain := hPre_finite_but_gain)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_projection (hKernel4Ideal := hKernel4Ideal) (hPre_finite_projection := hPre_finite_projection)
    ∧ quiescent_Reference4Ideal (hReference4Ideal := hReference4Ideal)
    ∧ quiescent_Reference4Ideal_pre_finite_projection (hReference4Ideal := hReference4Ideal) (hPre_finite_projection := hPre_finite_projection)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal_pre_finite_but_gain (hKernel2Ideal := hKernel2Ideal) (hReference2Ideal := hReference2Ideal) (hPre_finite_but_gain := hPre_finite_but_gain)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_projection (hKernel4Ideal := hKernel4Ideal) (hReference4Ideal := hReference4Ideal) (hPre_finite_projection := hPre_finite_projection)
-- ==== Pre_finite_but_gain.lean ====
abbrev S4x64 : Shape := ⟨2, ![4, 64]⟩
abbrev S16384x512 : Shape := ⟨2, ![16384, 512]⟩
abbrev S32x512x512 : Shape := ⟨3, ![32, 512, 512]⟩
abbrev S1x128 : Shape := ⟨2, ![1, 128]⟩
abbrev S_ : Shape := ⟨0, ![]⟩

class Facts : Prop where
  bcast_S_S4x64 : S_.BroadcastsInDim S4x64 (![] : Fin 0 → Fin S4x64.rank)
  bitsLt_bf16_f32 : FTy.bits .bf16 < FTy.bits .f32
  bcast_S_S16384x512 : S_.BroadcastsInDim S16384x512 (![] : Fin 0 → Fin S16384x512.rank)
  bcast_S_S32x512x512 : S_.BroadcastsInDim S32x512x512 (![] : Fin 0 → Fin S32x512x512.rank)

variable [Facts]

def fn {F : FTy → Type} [FloatOps F] (main_arg0 : FVec F S4x64 .f32) (main_arg1 : FVec F S16384x512 .bf16) (main_arg2 : FVec F S16384x512 .bf16) (main_arg3 : FVec F S32x512x512 .bf16) (main_arg4 : FVec F S1x128 .f32) : IVec S4x64 1 × IVec S16384x512 1 × IVec S16384x512 1 × IVec S32x512x512 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S16384x512 .f32 := (extf .f32 · bitsLt_bf16_f32) main_arg1
  let main_v4 : FVec F S16384x512 .f32 := Host.absf main_v3
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_v7 : FVec F S16384x512 .f32 := (extf .f32 · bitsLt_bf16_f32) main_arg2
  let main_v8 : FVec F S16384x512 .f32 := Host.absf main_v7
  let main_cst_1 : FVec F S_ .f32 := constant S_ .f32 0x7F800000#32
  let main_v9 : FVec F S16384x512 .f32 := broadcastInDim S16384x512 ![] bcast_S_S16384x512 main_cst_1
  let main_v10 : IVec S16384x512 1 := cmpf .olt main_v8 main_v9
  let main_v11 : FVec F S32x512x512 .f32 := (extf .f32 · bitsLt_bf16_f32) main_arg3
  let main_v12 : FVec F S32x512x512 .f32 := Host.absf main_v11
  let main_cst_2 : FVec F S_ .f32 := constant S_ .f32 0x7F800000#32
  let main_v13 : FVec F S32x512x512 .f32 := broadcastInDim S32x512x512 ![] bcast_S_S32x512x512 main_cst_2
  let main_v14 : IVec S32x512x512 1 := cmpf .olt main_v12 main_v13
  (main_v2, main_v6, main_v10, main_v14)
-- ==== Pre_finite_projection.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x16 : Shape := ⟨2, ![16384, 16]⟩
abbrev S16384x8 : Shape := ⟨2, ![16384, 8]⟩
abbrev S_ : Shape := ⟨0, ![]⟩
abbrev S1024x640 : Shape := ⟨2, ![1024, 640]⟩

class Facts : Prop where
  bcast_S_S1x1024 : S_.BroadcastsInDim S1x1024 (![] : Fin 0 → Fin S1x1024.rank)
  slices_S1024x2304_S1024x640_0_0 : S1024x2304.Slices ![0, 0] S1024x640
  bitsLt_bf16_f32 : FTy.bits .bf16 < FTy.bits .f32
  bcast_S_S1024x640 : S_.BroadcastsInDim S1024x640 (![] : Fin 0 → Fin S1024x640.rank)

variable [Facts]

def fn {F : FTy → Type} [FloatOps F] (main_arg0 : FVec F S16384x1024 .f32) (main_arg1 : FVec F S1x1024 .f32) (main_arg2 : FVec F S1024x2304 .bf16) (main_arg3 : FVec F S1x64 .f32) (main_arg4 : FVec F S1x64 .f32) (main_arg5 : FVec F S16384x16 .f32) (main_arg6 : FVec F S16384x16 .f32) (main_arg7 : FVec F S16384x8 .f32) : IVec S1x1024 1 × IVec S1024x640 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1024x640 .bf16 := (extractStridedSlice S1024x640 ![0, 0] · slices_S1024x2304_S1024x640_0_0) main_arg2
  let main_v4 : FVec F S1024x640 .f32 := (extf .f32 · bitsLt_bf16_f32) main_v3
  let main_v5 : FVec F S1024x640 .f32 := Host.absf main_v4
  let main_cst_0 : FVec F S_ .f32 := constant S_ .f32 0x7F800000#32
  let main_v6 : FVec F S1024x640 .f32 := broadcastInDim S1024x640 ![] bcast_S_S1024x640 main_cst_0
  let main_v7 : IVec S1024x640 1 := cmpf .olt main_v5 main_v6
  (main_v2, main_v7)
-- ==== Pre_finite_scores.lean ====
abbrev S16384x512 : Shape := ⟨2, ![16384, 512]⟩
abbrev S16384x128 : Shape := ⟨2, ![16384, 128]⟩
abbrev S32x128x512 : Shape := ⟨3, ![32, 128, 512]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  bcast_S_S16384x128 : S_.BroadcastsInDim S16384x128 (![] : Fin 0 → Fin S16384x128.rank)

variable [Facts]

def fn {F : FTy → Type} [FloatOps F] (main_arg0 : FVec F S16384x512 .bf16) (main_arg1 : FVec F S16384x128 .bf16) (main_arg2 : FVec F S32x128x512 .bf16) : IVec S16384x512 1 × IVec S16384x128 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S16384x128 .f32 := (extf .f32 · bitsLt_bf16_f32) main_arg1
  let main_v5 : FVec F S16384x128 .f32 := Host.absf main_v4
  let main_cst_0 : FVec F S_ .f32 := constant S_ .f32 0x7F800000#32
  let main_v6 : FVec F S16384x128 .f32 := broadcastInDim S16384x128 ![] bcast_S_S16384x128 main_cst_0
  let main_v7 : IVec S16384x128 1 := cmpf .olt main_v5 main_v6
  (main_v3, main_v7)
-- ==== Kernel.lean ====
abbrev S16384x512 : Shape := ⟨2, ![16384, 512]⟩
abbrev S16384x128 : Shape := ⟨2, ![16384, 128]⟩
abbrev S32x128x512 : Shape := ⟨3, ![32, 128, 512]⟩
abbrev S2048x512 : Shape := ⟨2, ![2048, 512]⟩
abbrev S128x256 : Shape := ⟨2, ![128, 256]⟩
abbrev S32x64x512 : Shape := ⟨3, ![32, 64, 512]⟩
abbrev S8x512 : Shape := ⟨2, ![8, 512]⟩
abbrev S1024x512 : Shape := ⟨2, ![1024, 512]⟩
abbrev S64x512 : Shape := ⟨2, ![64, 512]⟩
abbrev S16x512 : Shape := ⟨2, ![16, 512]⟩
abbrev S128x128 : Shape := ⟨2, ![128, 128]⟩
abbrev S512x128 : Shape := ⟨2, ![512, 128]⟩
abbrev S128x512 : Shape := ⟨2, ![128, 512]⟩
abbrev S1024x128 : Shape := ⟨2, ![1024, 128]⟩
abbrev S1024x256 : Shape := ⟨2, ![1024, 256]⟩
abbrev S256 : Shape := ⟨1, ![256]⟩
abbrev S1x256 : Shape := ⟨2, ![1, 256]⟩
abbrev S1x512 : Shape := ⟨2, ![1, 512]⟩
abbrev S8x256 : Shape := ⟨2, ![8, 256]⟩
abbrev S16x256 : Shape := ⟨2, ![16, 256]⟩
abbrev S2x8x256 : Shape := ⟨3, ![2, 8, 256]⟩
abbrev S1x64x512 : Shape := ⟨3, ![1, 64, 512]⟩
abbrev S64x1024 : Shape := ⟨2, ![64, 1024]⟩
abbrev S512 : Shape := ⟨1, ![512]⟩

abbrev nBuf : Space → Nat
  | .hbm => 5
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S32x128x512, .bf16⟩
  | .hbm, ⟨3, _⟩ => ⟨S16384x512, .bf16⟩
  | .hbm, ⟨4, _⟩ => ⟨S2048x512, .f32⟩
  | .local _ .vmem, ⟨0, _⟩ => ⟨S128x256, .bf16⟩
  | .local _ .vmem, ⟨1, _⟩ => ⟨S128x256, .bf16⟩
  | .local _ .vmem, ⟨2, _⟩ => ⟨S16384x128, .bf16⟩
  | .local _ .vmem, ⟨3, _⟩ => ⟨S32x64x512, .bf16⟩
  | .local _ .vmem, ⟨4, _⟩ => ⟨S32x64x512, .bf16⟩
  | .local _ .vmem, ⟨5, _⟩ => ⟨S128x256, .bf16⟩
  | .local _ .vmem, ⟨6, _⟩ => ⟨S128x256, .bf16⟩
  | .local _ .vmem, ⟨7, _⟩ => ⟨S8x512, .f32⟩
  | .local _ .vmem, ⟨8, _⟩ => ⟨S8x512, .f32⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S64x512, .f32⟩
  | .local _ .vmem, ⟨13, _⟩ => ⟨S16x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 128], ![false, false]⟩

def k0_off1 (c_m1_i32 : BitVec 32) (c0_i32_375 : BitVec 32) : Fin 3 → Nat :=
  let c2_i32 : BitVec 32 := 2#32
  let c0_i32_374 : BitVec 32 := 0#32
  let v1635 : BitVec 32 := Scalar.maxsi c_m1_i32 c0_i32_374
  let v1636 : BitVec 32 := Scalar.muli c2_i32 v1635
  let v1637 : BitVec 32 := Scalar.addi v1636 c0_i32_375
  let v1638 : Index := Scalar.indexCast v1637
  let c0_376 : Index := 0#32
  let c0_377 : Index := 0#32
  ![v1638.toNat, 0, 0]
def k0_off1_at (r : Fin 8) : BitVec 32 × BitVec 32 :=
  if r.val < 4 then
    if r.val < 2 then
      if r.val < 1 then
        (4294967295#32, 0#32)
      else
        (4294967295#32, 1#32)
    else
      if r.val < 3 then
        (0#32, 0#32)
      else
        (0#32, 1#32)
  else
    if r.val < 6 then
      if r.val < 5 then
        (1#32, 0#32)
      else
        (1#32, 1#32)
    else
      if r.val < 7 then
        (2#32, 0#32)
      else
        (2#32, 1#32)
@[reducible] def k0_t1_loop : Scf.Loop 32 :=
  let c0_i32_1683 : BitVec 32 := 0#32
  let c2_i32_1684 : BitVec 32 := 2#32
  let v6471 : BitVec 32 := Scalar.addi c0_i32_1683 c2_i32_1684
  let c1_i32_1685 : BitVec 32 := 1#32
  ⟨c0_i32_1683, v6471, c1_i32_1685⟩
def k0_mult1 (k0_t1 : Fin k0_t1_loop.trips) : BitVec 32 :=
  let c4_i32 : BitVec 32 := 4#32
  let c0_i32_1683 : BitVec 32 := 0#32
  let c1_i32_1685 : BitVec 32 := 1#32
  let arg12 : BitVec 32 := Scf.iv c0_i32_1683 c1_i32_1685 k0_t1
  let c6_i32 : BitVec 32 := 6#32
  let v6514 : BitVec 32 := Scalar.muli arg12 c6_i32
  let v6515 : BitVec 32 := Scalar.addi c4_i32 v6514
  let c0_i32_1717 : BitVec 32 := 0#32
  let v6516 : BitVec 32 := Scalar.addi v6515 c0_i32_1717
  let c1024_i32 : BitVec 32 := 1024#32
  let v6519 : BitVec 32 := Scalar.muli v6516 c1024_i32
  v6519
def k0_off2 (k0_t1 : Fin k0_t1_loop.trips) (c0_i32_1717 : BitVec 32) : Fin 2 → Nat :=
  let c4_i32 : BitVec 32 := 4#32
  let c0_i32_1683 : BitVec 32 := 0#32
  let c1_i32_1685 : BitVec 32 := 1#32
  let arg12 : BitVec 32 := Scf.iv c0_i32_1683 c1_i32_1685 k0_t1
  let c6_i32 : BitVec 32 := 6#32
  let v6514 : BitVec 32 := Scalar.muli arg12 c6_i32
  let v6515 : BitVec 32 := Scalar.addi c4_i32 v6514
  let v6516 : BitVec 32 := Scalar.addi v6515 c0_i32_1717
  let c1024_i32 : BitVec 32 := 1024#32
  let v6519 : BitVec 32 := Scalar.muli v6516 c1024_i32
  let v6520 : BitVec 32 := v6519
  let v6521 : Index := Scalar.indexCast v6520
  let c0_1722 : Index := 0#32
  ![v6521.toNat, 0]
def k0_off3 (k0_t1 : Fin k0_t1_loop.trips) (c0_i32_1717 : BitVec 32) (c0_i32_2116 : BitVec 32) : Fin 3 → Nat :=
  let c2_i32_2115 : BitVec 32 := 2#32
  let c4_i32 : BitVec 32 := 4#32
  let c0_i32_1683 : BitVec 32 := 0#32
  let c1_i32_1685 : BitVec 32 := 1#32
  let arg12 : BitVec 32 := Scf.iv c0_i32_1683 c1_i32_1685 k0_t1
  let c6_i32 : BitVec 32 := 6#32
  let v6514 : BitVec 32 := Scalar.muli arg12 c6_i32
  let v6515 : BitVec 32 := Scalar.addi c4_i32 v6514
  let v6516 : BitVec 32 := Scalar.addi v6515 c0_i32_1717
  let c1_i32_2113 : BitVec 32 := 1#32
  let v8068 : BitVec 32 := Scalar.subi v6516 c1_i32_2113
  let c0_i32_2114 : BitVec 32 := 0#32
  let v8069 : BitVec 32 := Scalar.maxsi v8068 c0_i32_2114
  let v8070 : BitVec 32 := Scalar.muli c2_i32_2115 v8069
  let v8071 : BitVec 32 := Scalar.addi v8070 c0_i32_2116
  let v8072 : Index := Scalar.indexCast v8071
  let c0_2117 : Index := 0#32
  let c0_2118 : Index := 0#32
  ![v8072.toNat, 0, 0]
def k0_mult2 (k0_t1 : Fin k0_t1_loop.trips) : BitVec 32 :=
  let c4_i32_2146 : BitVec 32 := 4#32
  let c0_i32_1683 : BitVec 32 := 0#32
  let c1_i32_1685 : BitVec 32 := 1#32
  let arg12 : BitVec 32 := Scf.iv c0_i32_1683 c1_i32_1685 k0_t1
  let c6_i32_2145 : BitVec 32 := 6#32
  let v8117 : BitVec 32 := Scalar.muli arg12 c6_i32_2145
  let v8118 : BitVec 32 := Scalar.addi c4_i32_2146 v8117
  let c1_i32_2147 : BitVec 32 := 1#32
  let v8119 : BitVec 32 := Scalar.addi v8118 c1_i32_2147
  let c1024_i32_2152 : BitVec 32 := 1024#32
  let v8122 : BitVec 32 := Scalar.muli v8119 c1024_i32_2152
  v8122
def k0_mult3 (k0_t1 : Fin k0_t1_loop.trips) : BitVec 32 :=
  let c4_i32_2577 : BitVec 32 := 4#32
  let c0_i32_1683 : BitVec 32 := 0#32
  let c1_i32_1685 : BitVec 32 := 1#32
  let arg12 : BitVec 32 := Scf.iv c0_i32_1683 c1_i32_1685 k0_t1
  let c6_i32_2576 : BitVec 32 := 6#32
  let v9720 : BitVec 32 := Scalar.muli arg12 c6_i32_2576
  let v9721 : BitVec 32 := Scalar.addi c4_i32_2577 v9720
  let c2_i32_2578 : BitVec 32 := 2#32
  let v9722 : BitVec 32 := Scalar.addi v9721 c2_i32_2578
  let c1024_i32_2583 : BitVec 32 := 1024#32
  let v9725 : BitVec 32 := Scalar.muli v9722 c1024_i32_2583
  v9725
def k0_mult4 (k0_t1 : Fin k0_t1_loop.trips) : BitVec 32 :=
  let c4_i32_3008 : BitVec 32 := 4#32
  let c0_i32_1683 : BitVec 32 := 0#32
  let c1_i32_1685 : BitVec 32 := 1#32
  let arg12 : BitVec 32 := Scf.iv c0_i32_1683 c1_i32_1685 k0_t1
  let c6_i32_3007 : BitVec 32 := 6#32
  let v11323 : BitVec 32 := Scalar.muli arg12 c6_i32_3007
  let v11324 : BitVec 32 := Scalar.addi c4_i32_3008 v11323
  let c3_i32 : BitVec 32 := 3#32
  let v11325 : BitVec 32 := Scalar.addi v11324 c3_i32
  let c1024_i32_3013 : BitVec 32 := 1024#32
  let v11328 : BitVec 32 := Scalar.muli v11325 c1024_i32_3013
  v11328
def k0_mult5 (k0_t1 : Fin k0_t1_loop.trips) : BitVec 32 :=
  let c4_i32_3438 : BitVec 32 := 4#32
  let c0_i32_1683 : BitVec 32 := 0#32
  let c1_i32_1685 : BitVec 32 := 1#32
  let arg12 : BitVec 32 := Scf.iv c0_i32_1683 c1_i32_1685 k0_t1
  let c6_i32_3437 : BitVec 32 := 6#32
  let v12926 : BitVec 32 := Scalar.muli arg12 c6_i32_3437
  let v12927 : BitVec 32 := Scalar.addi c4_i32_3438 v12926
  let c4_i32_3439 : BitVec 32 := 4#32
  let v12928 : BitVec 32 := Scalar.addi v12927 c4_i32_3439
  let c1024_i32_3444 : BitVec 32 := 1024#32
  let v12931 : BitVec 32 := Scalar.muli v12928 c1024_i32_3444
  v12931
def k0_mult6 (k0_t1 : Fin k0_t1_loop.trips) : BitVec 32 :=
  let c4_i32_3869 : BitVec 32 := 4#32
  let c0_i32_1683 : BitVec 32 := 0#32
  let c1_i32_1685 : BitVec 32 := 1#32
  let arg12 : BitVec 32 := Scf.iv c0_i32_1683 c1_i32_1685 k0_t1
  let c6_i32_3868 : BitVec 32 := 6#32
  let v14529 : BitVec 32 := Scalar.muli arg12 c6_i32_3868
  let v14530 : BitVec 32 := Scalar.addi c4_i32_3869 v14529
  let c5_i32 : BitVec 32 := 5#32
  let v14531 : BitVec 32 := Scalar.addi v14530 c5_i32
  let c1024_i32_3874 : BitVec 32 := 1024#32
  let v14534 : BitVec 32 := Scalar.muli v14531 c1024_i32_3874
  v14534
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S32x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S16384x512 : Shape := ⟨2, ![16384, 512]⟩
abbrev S16384x128 : Shape := ⟨2, ![16384, 128]⟩
abbrev S32x128x512 : Shape := ⟨3, ![32, 128, 512]⟩
abbrev S16384x2x4x64 : Shape := ⟨4, ![16384, 2, 4, 64]⟩
abbrev S2x4x16384x64 : Shape := ⟨4, ![2, 4, 16384, 64]⟩
abbrev S16384x2x64 : Shape := ⟨3, ![16384, 2, 64]⟩
abbrev S2x16384x64 : Shape := ⟨3, ![2, 16384, 64]⟩
abbrev S32x512x128 : Shape := ⟨3, ![32, 512, 128]⟩
abbrev S2x4x16384x16384 : Shape := ⟨4, ![2, 4, 16384, 16384]⟩
abbrev S_ : Shape := ⟨0, ![]⟩
abbrev S2x4x16384 : Shape := ⟨3, ![2, 4, 16384]⟩
abbrev S2x4x16384x1 : Shape := ⟨4, ![2, 4, 16384, 1]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x128, .bf16⟩
  | .hbm, ⟨2, _⟩ => ⟨S32x128x512, .bf16⟩
  | .hbm, ⟨3, _⟩ => ⟨S16384x2x4x64, .bf16⟩
  | .hbm, ⟨4, _⟩ => ⟨S2x4x16384x64, .bf16⟩
  | .hbm, ⟨5, _⟩ => ⟨S16384x2x64, .bf16⟩
  | .hbm, ⟨6, _⟩ => ⟨S2x16384x64, .bf16⟩
  | .hbm, ⟨7, _⟩ => ⟨S32x512x128, .bf16⟩
  | .hbm, ⟨8, _⟩ => ⟨S16384x2x64, .bf16⟩
  | .hbm, ⟨9, _⟩ => ⟨S2x16384x64, .bf16⟩
  | .hbm, ⟨10, _⟩ => ⟨S2x4x16384x16384, .f32⟩
  | .hbm, ⟨11, _⟩ => ⟨S_, .f32⟩
  | .hbm, ⟨12, _⟩ => ⟨S_, .f32⟩
  | .hbm, ⟨13, _⟩ => ⟨S2x4x16384x16384, .f32⟩
  | .hbm, ⟨14, _⟩ => ⟨S2x4x16384x16384, .f32⟩
  | .hbm, ⟨15, _⟩ => ⟨S_, .f32⟩
  | .hbm, ⟨16, _⟩ => ⟨S2x4x16384, .f32⟩
  | .hbm, ⟨17, _⟩ => ⟨S_, .f32⟩
  | .hbm, ⟨18, _⟩ => ⟨S2x4x16384, .f32⟩
  | .hbm, ⟨19, _⟩ => ⟨S2x4x16384, .f32⟩
  | .hbm, ⟨20, _⟩ => ⟨S2x4x16384x1, .f32⟩
  | .hbm, ⟨21, _⟩ => ⟨S2x4x16384x16384, .f32⟩
  | .hbm, ⟨22, _⟩ => ⟨S2x4x16384x16384, .f32⟩
  | .hbm, ⟨23, _⟩ => ⟨S2x4x16384x16384, .f32⟩
  | .hbm, ⟨24, _⟩ => ⟨S_, .f32⟩
  | .hbm, ⟨25, _⟩ => ⟨S2x4x16384, .f32⟩
  | .hbm, ⟨26, _⟩ => ⟨S2x4x16384x1, .f32⟩
  | .hbm, ⟨27, _⟩ => ⟨S2x4x16384x16384, .f32⟩
  | .hbm, ⟨28, _⟩ => ⟨S2x4x16384x16384, .f32⟩
  | .hbm, ⟨29, _⟩ => ⟨S2x4x16384x16384, .bf16⟩
  | .hbm, ⟨30, _⟩ => ⟨S2x4x16384x64, .f32⟩
  | .hbm, ⟨31, _⟩ => ⟨S16384x2x4x64, .f32⟩
  | .hbm, ⟨32, _⟩ => ⟨S16384x512, .f32⟩
  | .hbm, ⟨33, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel2.lean ====
abbrev S4x64 : Shape := ⟨2, ![4, 64]⟩
abbrev S16384x512 : Shape := ⟨2, ![16384, 512]⟩
abbrev S32x512x512 : Shape := ⟨3, ![32, 512, 512]⟩
abbrev S1x128 : Shape := ⟨2, ![1, 128]⟩
abbrev S2048x512 : Shape := ⟨2, ![2048, 512]⟩
abbrev S256x128 : Shape := ⟨2, ![256, 128]⟩
abbrev S16384x128 : Shape := ⟨2, ![16384, 128]⟩
abbrev S32x128x512 : Shape := ⟨3, ![32, 128, 512]⟩
abbrev S8x512 : Shape := ⟨2, ![8, 512]⟩
abbrev S1024x512 : Shape := ⟨2, ![1024, 512]⟩
abbrev S128x512 : Shape := ⟨2, ![128, 512]⟩
abbrev S16x512 : Shape := ⟨2, ![16, 512]⟩
abbrev S512x128 : Shape := ⟨2, ![512, 128]⟩
abbrev S128x256 : Shape := ⟨2, ![128, 256]⟩
abbrev S1024x128 : Shape := ⟨2, ![1024, 128]⟩
abbrev S1024x256 : Shape := ⟨2, ![1024, 256]⟩
abbrev S256 : Shape := ⟨1, ![256]⟩
abbrev S1x256 : Shape := ⟨2, ![1, 256]⟩
abbrev S1x512 : Shape := ⟨2, ![1, 512]⟩
abbrev S8x256 : Shape := ⟨2, ![8, 256]⟩
abbrev S16x256 : Shape := ⟨2, ![16, 256]⟩
abbrev S2x8x256 : Shape := ⟨3, ![2, 8, 256]⟩
abbrev S1x128x512 : Shape := ⟨3, ![1, 128, 512]⟩
abbrev S128x1024 : Shape := ⟨2, ![128, 1024]⟩
abbrev S512 : Shape := ⟨1, ![512]⟩
abbrev S1x64 : Shape := ⟨2, ![1, 64]⟩
abbrev S1 : Shape := ⟨1, ![1]⟩
abbrev S1x1 : Shape := ⟨2, ![1, 1]⟩
abbrev S256x1 : Shape := ⟨2, ![256, 1]⟩

abbrev nBuf : Space → Nat
  | .hbm => 7
  | .vmem => 17
  | .smem => 0
  | _ => 0

abbrev bufTy : (tb : Table) → Fin (tcTables nBuf tb) → BufTy
  | .hbm, ⟨0, _⟩ => ⟨S4x64, .f32⟩
  | .hbm, ⟨1, _⟩ => ⟨S16384x512, .bf16⟩
  | .hbm, ⟨2, _⟩ => ⟨S16384x512, .bf16⟩
  | .hbm, ⟨3, _⟩ => ⟨S32x512x512, .bf16⟩
  | .hbm, ⟨4, _⟩ => ⟨S1x128, .f32⟩
  | .hbm, ⟨5, _⟩ => ⟨S16384x512, .bf16⟩
  | .hbm, ⟨6, _⟩ => ⟨S2048x512, .f32⟩
  | .local _ .vmem, ⟨0, _⟩ => ⟨S4x64, .f32⟩
  | .local _ .vmem, ⟨1, _⟩ => ⟨S256x128, .bf16⟩
  | .local _ .vmem, ⟨2, _⟩ => ⟨S256x128, .bf16⟩
  | .local _ .vmem, ⟨3, _⟩ => ⟨S16384x128, .bf16⟩
  | .local _ .vmem, ⟨4, _⟩ => ⟨S16384x128, .bf16⟩
  | .local _ .vmem, ⟨5, _⟩ => ⟨S32x128x512, .bf16⟩
  | .local _ .vmem, ⟨6, _⟩ => ⟨S32x128x512, .bf16⟩
  | .local _ .vmem, ⟨7, _⟩ => ⟨S1x128, .f32⟩
  | .local _ .vmem, ⟨8, _⟩ => ⟨S256x128, .bf16⟩
  | .local _ .vmem, ⟨9, _⟩ => ⟨S256x128, .bf16⟩
  | .local _ .vmem, ⟨10, _⟩ => ⟨S8x512, .f32⟩
  | .local _ .vmem, ⟨11, _⟩ => ⟨S8x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S128x512, .f32⟩
  | .local _ .vmem, ⟨16, _⟩ => ⟨S16x512, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 64], ![false, false]⟩

def k0_off1 (c_m1_i32 : BitVec 32) (c0_i32_355 : BitVec 32) : Fin 3 → Nat :=
  let c2_i32 : BitVec 32 := 2#32
  let c0_i32 : BitVec 32 := 0#32
  let v1591 : BitVec 32 := Scalar.maxsi c_m1_i32 c0_i32
  let v1592 : BitVec 32 := Scalar.muli c2_i32 v1591
  let v1593 : BitVec 32 := Scalar.addi v1592 c0_i32_355
  let v1594 : Index := Scalar.indexCast v1593
  let c0_356 : Index := 0#32
  let c0_357 : Index := 0#32
  ![v1594.toNat, 0, 0]
def k0_off1_at (r : Fin 8) : BitVec 32 × BitVec 32 :=
  if r.val < 4 then
    if r.val < 2 then
      if r.val < 1 then
        (4294967295#32, 0#32)
      else
        (4294967295#32, 1#32)
    else
      if r.val < 3 then
        (0#32, 0#32)
      else
        (0#32, 1#32)
  else
    if r.val < 6 then
      if r.val < 5 then
        (1#32, 0#32)
      else
        (1#32, 1#32)
    else
      if r.val < 7 then
        (2#32, 0#32)
      else
        (2#32, 1#32)
@[reducible] def k0_t1_loop : Scf.Loop 32 :=
  let c0_i32_1662 : BitVec 32 := 0#32
  let c2_i32_1663 : BitVec 32 := 2#32
  let v6427 : BitVec 32 := Scalar.addi c0_i32_1662 c2_i32_1663
  let c1_i32_1664 : BitVec 32 := 1#32
  ⟨c0_i32_1662, v6427, c1_i32_1664⟩
def k0_mult1 (k0_t1 : Fin k0_t1_loop.trips) : BitVec 32 :=
  let c4_i32 : BitVec 32 := 4#32
  let c0_i32_1662 : BitVec 32 := 0#32
  let c1_i32_1664 : BitVec 32 := 1#32
  let arg14 : BitVec 32 := Scf.iv c0_i32_1662 c1_i32_1664 k0_t1
  let c6_i32 : BitVec 32 := 6#32
  let v6492 : BitVec 32 := Scalar.muli arg14 c6_i32
  let v6493 : BitVec 32 := Scalar.addi c4_i32 v6492
  let c0_i32_1701 : BitVec 32 := 0#32
  let v6494 : BitVec 32 := Scalar.addi v6493 c0_i32_1701
  let c1024_i32 : BitVec 32 := 1024#32
  let v6497 : BitVec 32 := Scalar.muli v6494 c1024_i32
  v6497
def k0_off2 (k0_t1 : Fin k0_t1_loop.trips) (c0_i32_1701 : BitVec 32) : Fin 2 → Nat :=
  let c4_i32 : BitVec 32 := 4#32
  let c0_i32_1662 : BitVec 32 := 0#32
  let c1_i32_1664 : BitVec 32 := 1#32
  let arg14 : BitVec 32 := Scf.iv c0_i32_1662 c1_i32_1664 k0_t1
  let c6_i32 : BitVec 32 := 6#32
  let v6492 : BitVec 32 := Scalar.muli arg14 c6_i32
  let v6493 : BitVec 32 := Scalar.addi c4_i32 v6492
  let v6494 : BitVec 32 := Scalar.addi v6493 c0_i32_1701
  let c1024_i32 : BitVec 32 := 1024#32
  let v6497 : BitVec 32 := Scalar.muli v6494 c1024_i32
  let v6498 : BitVec 32 := v6497
  let v6499 : Index := Scalar.indexCast v6498
  let c0_1706 : Index := 0#32
  ![v6499.toNat, 0]
def k0_off3 (k0_t1 : Fin k0_t1_loop.trips) (c0_i32_1701 : BitVec 32) (c0_i32_2100 : BitVec 32) : Fin 3 → Nat :=
  let c2_i32_2099 : BitVec 32 := 2#32
  let c4_i32 : BitVec 32 := 4#32
  let c0_i32_1662 : BitVec 32 := 0#32
  let c1_i32_1664 : BitVec 32 := 1#32
  let arg14 : BitVec 32 := Scf.iv c0_i32_1662 c1_i32_1664 k0_t1
  let c6_i32 : BitVec 32 := 6#32
  let v6492 : BitVec 32 := Scalar.muli arg14 c6_i32
  let v6493 : BitVec 32 := Scalar.addi c4_i32 v6492
  let v6494 : BitVec 32 := Scalar.addi v6493 c0_i32_1701
  let c1_i32_2097 : BitVec 32 := 1#32
  let v8046 : BitVec 32 := Scalar.subi v6494 c1_i32_2097
  let c0_i32_2098 : BitVec 32 := 0#32
  let v8047 : BitVec 32 := Scalar.maxsi v8046 c0_i32_2098
  let v8048 : BitVec 32 := Scalar.muli c2_i32_2099 v8047
  let v8049 : BitVec 32 := Scalar.addi v8048 c0_i32_2100
  let v8050 : Index := Scalar.indexCast v8049
  let c0_2101 : Index := 0#32
  let c0_2102 : Index := 0#32
  ![v8050.toNat, 0, 0]
def k0_mult2 (k0_t1 : Fin k0_t1_loop.trips) : BitVec 32 :=
  let c4_i32_2130 : BitVec 32 := 4#32
  let c0_i32_1662 : BitVec 32 := 0#32
  let c1_i32_1664 : BitVec 32 := 1#32
  let arg14 : BitVec 32 := Scf.iv c0_i32_1662 c1_i32_1664 k0_t1
  let c6_i32_2129 : BitVec 32 := 6#32
  let v8095 : BitVec 32 := Scalar.muli arg14 c6_i32_2129
  let v8096 : BitVec 32 := Scalar.addi c4_i32_2130 v8095
  let c1_i32_2131 : BitVec 32 := 1#32
  let v8097 : BitVec 32 := Scalar.addi v8096 c1_i32_2131
  let c1024_i32_2136 : BitVec 32 := 1024#32
  let v8100 : BitVec 32 := Scalar.muli v8097 c1024_i32_2136
  v8100
def k0_mult3 (k0_t1 : Fin k0_t1_loop.trips) : BitVec 32 :=
  let c4_i32_2561 : BitVec 32 := 4#32
  let c0_i32_1662 : BitVec 32 := 0#32
  let c1_i32_1664 : BitVec 32 := 1#32
  let arg14 : BitVec 32 := Scf.iv c0_i32_1662 c1_i32_1664 k0_t1
  let c6_i32_2560 : BitVec 32 := 6#32
  let v9698 : BitVec 32 := Scalar.muli arg14 c6_i32_2560
  let v9699 : BitVec 32 := Scalar.addi c4_i32_2561 v9698
  let c2_i32_2562 : BitVec 32 := 2#32
  let v9700 : BitVec 32 := Scalar.addi v9699 c2_i32_2562
  let c1024_i32_2567 : BitVec 32 := 1024#32
  let v9703 : BitVec 32 := Scalar.muli v9700 c1024_i32_2567
  v9703
def k0_mult4 (k0_t1 : Fin k0_t1_loop.trips) : BitVec 32 :=
  let c4_i32_2992 : BitVec 32 := 4#32
  let c0_i32_1662 : BitVec 32 := 0#32
  let c1_i32_1664 : BitVec 32 := 1#32
  let arg14 : BitVec 32 := Scf.iv c0_i32_1662 c1_i32_1664 k0_t1
  let c6_i32_2991 : BitVec 32 := 6#32
  let v11301 : BitVec 32 := Scalar.muli arg14 c6_i32_2991
  let v11302 : BitVec 32 := Scalar.addi c4_i32_2992 v11301
  let c3_i32 : BitVec 32 := 3#32
  let v11303 : BitVec 32 := Scalar.addi v11302 c3_i32
  let c1024_i32_2997 : BitVec 32 := 1024#32
  let v11306 : BitVec 32 := Scalar.muli v11303 c1024_i32_2997
  v11306
def k0_mult5 (k0_t1 : Fin k0_t1_loop.trips) : BitVec 32 :=
  let c4_i32_3422 : BitVec 32 := 4#32
  let c0_i32_1662 : BitVec 32 := 0#32
  let c1_i32_1664 : BitVec 32 := 1#32
  let arg14 : BitVec 32 := Scf.iv c0_i32_1662 c1_i32_1664 k0_t1
  let c6_i32_3421 : BitVec 32 := 6#32
  let v12904 : BitVec 32 := Scalar.muli arg14 c6_i32_3421
  let v12905 : BitVec 32 := Scalar.addi c4_i32_3422 v12904
  let c4_i32_3423 : BitVec 32 := 4#32
  let v12906 : BitVec 32 := Scalar.addi v12905 c4_i32_3423
  let c1024_i32_3428 : BitVec 32 := 1024#32
  let v12909 : BitVec 32 := Scalar.muli v12906 c1024_i32_3428
  v12909
def k0_mult6 (k0_t1 : Fin k0_t1_loop.trips) : BitVec 32 :=
  let c4_i32_3853 : BitVec 32 := 4#32
  let c0_i32_1662 : BitVec 32 := 0#32
  let c1_i32_1664 : BitVec 32 := 1#32
  let arg14 : BitVec 32 := Scf.iv c0_i32_1662 c1_i32_1664 k0_t1
  let c6_i32_3852 : BitVec 32 := 6#32
  let v14507 : BitVec 32 := Scalar.muli arg14 c6_i32_3852
  let v14508 : BitVec 32 := Scalar.addi c4_i32_3853 v14507
  let c5_i32 : BitVec 32 := 5#32
  let v14509 : BitVec 32 := Scalar.addi v14508 c5_i32
  let c1024_i32_3858 : BitVec 32 := 1024#32
  let v14512 : BitVec 32 := Scalar.muli v14509 c1024_i32_3858
  v14512
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "log2_e" => some (((Real.log 2)⁻¹ : ℝ) : EReal)
  | _ => none
-- ==== Reference2Ideal.lean ====
abbrev S4x64 : Shape := ⟨2, ![4, 64]⟩
abbrev S16384x512 : Shape := ⟨2, ![16384, 512]⟩
abbrev S32x512x512 : Shape := ⟨3, ![32, 512, 512]⟩
abbrev S1x128 : Shape := ⟨2, ![1, 128]⟩
abbrev S1x64 : Shape := ⟨2, ![1, 64]⟩
abbrev S64 : Shape := ⟨1, ![64]⟩
abbrev S_ : Shape := ⟨0, ![]⟩
abbrev S16384x4x2x64 : Shape := ⟨4, ![16384, 4, 2, 64]⟩
abbrev S4x2x16384x64 : Shape := ⟨4, ![4, 2, 16384, 64]⟩
abbrev S16384x4x128 : Shape := ⟨3, ![16384, 4, 128]⟩
abbrev S4x16384x128 : Shape := ⟨3, ![4, 16384, 128]⟩
abbrev S4x2x16384x16384 : Shape := ⟨4, ![4, 2, 16384, 16384]⟩
abbrev S4x2x16384 : Shape := ⟨3, ![4, 2, 16384]⟩
abbrev S4x2x16384x1 : Shape := ⟨4, ![4, 2, 16384, 1]⟩
abbrev S4x1x16384x16384 : Shape := ⟨4, ![4, 1, 16384, 16384]⟩
abbrev S4x16384x16384 : Shape := ⟨3, ![4, 16384, 16384]⟩
abbrev S4x16384 : Shape := ⟨2, ![4, 16384]⟩
abbrev S4x16384x1 : Shape := ⟨3, ![4, 16384, 1]⟩
abbrev S128 : Shape := ⟨1, ![128]⟩
abbrev S1x1x128 : Shape := ⟨3, ![1, 1, 128]⟩

abbrev nBuf : Space → Nat
  | .hbm => 82
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S16384x512, .bf16⟩
  | .hbm, ⟨2, _⟩ => ⟨S16384x512, .bf16⟩
  | .hbm, ⟨3, _⟩ => ⟨S32x512x512, .bf16⟩
  | .hbm, ⟨4, _⟩ => ⟨S1x128, .f32⟩
  | .hbm, ⟨5, _⟩ => ⟨S1x64, .f32⟩
  | .hbm, ⟨6, _⟩ => ⟨S64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S16384x4x2x64, .bf16⟩
  | .hbm, ⟨25, _⟩ => ⟨S4x2x16384x64, .bf16⟩
  | .hbm, ⟨26, _⟩ => ⟨S16384x4x2x64, .bf16⟩
  | .hbm, ⟨27, _⟩ => ⟨S4x2x16384x64, .bf16⟩
  | .hbm, ⟨28, _⟩ => ⟨S32x512x512, .bf16⟩
  | .hbm, ⟨29, _⟩ => ⟨S16384x4x128, .bf16⟩
  | .hbm, ⟨30, _⟩ => ⟨S4x16384x128, .bf16⟩
  | .hbm, ⟨31, _⟩ => ⟨S4x2x16384x16384, .f32⟩
  | .hbm, ⟨32, _⟩ => ⟨S_, .f32⟩
  | .hbm, ⟨33, _⟩ => ⟨S_, .f32⟩
  | .hbm, ⟨34, _⟩ => ⟨S4x2x16384x16384, .f32⟩
  | .hbm, ⟨35, _⟩ => ⟨S4x2x16384x16384, .f32⟩
  | .hbm, ⟨36, _⟩ => ⟨S_, .f32⟩
  | .hbm, ⟨37, _⟩ => ⟨S4x2x16384, .f32⟩
  | .hbm, ⟨38, _⟩ => ⟨S_, .f32⟩
  | .hbm, ⟨39, _⟩ => ⟨S4x2x16384, .f32⟩
  | .hbm, ⟨40, _⟩ => ⟨S4x2x16384, .f32⟩
  | .hbm, ⟨41, _⟩ => ⟨S4x2x16384x1, .f32⟩
  | .hbm, ⟨42, _⟩ => ⟨S4x2x16384x16384, .f32⟩
  | .hbm, ⟨43, _⟩ => ⟨S4x2x16384x16384, .f32⟩
  | .hbm, ⟨44, _⟩ => ⟨S4x2x16384x16384, .f32⟩
  | .hbm, ⟨45, _⟩ => ⟨S_, .f32⟩
  | .hbm, ⟨46, _⟩ => ⟨S4x2x16384, .f32⟩
  | .hbm, ⟨47, _⟩ => ⟨S4x2x16384x1, .f32⟩
  | .hbm, ⟨48, _⟩ => ⟨S4x2x16384x16384, .f32⟩
  | .hbm, ⟨49, _⟩ => ⟨S4x2x16384x16384, .f32⟩
  | .hbm, ⟨50, _⟩ => ⟨S4x1x16384x16384, .f32⟩
  | .hbm, ⟨51, _⟩ => ⟨S4x16384x16384, .f32⟩
  | .hbm, ⟨52, _⟩ => ⟨S4x1x16384x16384, .f32⟩
  | .hbm, ⟨53, _⟩ => ⟨S4x16384x16384, .f32⟩
  | .hbm, ⟨54, _⟩ => ⟨S4x16384x16384, .f32⟩
  | .hbm, ⟨55, _⟩ => ⟨S4x16384x16384, .f32⟩
  | .hbm, ⟨56, _⟩ => ⟨S4x16384x16384, .f32⟩
  | .hbm, ⟨57, _⟩ => ⟨S4x16384x16384, .bf16⟩
  | .hbm, ⟨58, _⟩ => ⟨S4x16384x128, .f32⟩
  | .hbm, ⟨59, _⟩ => ⟨S4x16384x128, .f32⟩
  | .hbm, ⟨60, _⟩ => ⟨S_, .f32⟩
  | .hbm, ⟨61, _⟩ => ⟨S4x16384, .f32⟩
  | .hbm, ⟨62, _⟩ => ⟨S4x16384x1, .f32⟩
  | .hbm, ⟨63, _⟩ => ⟨S_, .f32⟩
  | .hbm, ⟨64, _⟩ => ⟨S4x16384x1, .f32⟩
  | .hbm, ⟨65, _⟩ => ⟨S4x16384x1, .f32⟩
  | .hbm, ⟨66, _⟩ => ⟨S_, .f32⟩
  | .hbm, ⟨67, _⟩ => ⟨S4x16384x1, .f32⟩
  | .hbm, ⟨68, _⟩ => ⟨S4x16384x1, .f32⟩
  | .hbm, ⟨69, _⟩ => ⟨S4x16384x1, .f32⟩
  | .hbm, ⟨70, _⟩ => ⟨S4x16384x128, .f32⟩
  | .hbm, ⟨71, _⟩ => ⟨S4x16384x128, .f32⟩
  | .hbm, ⟨72, _⟩ => ⟨S128, .f32⟩
  | .hbm, ⟨73, _⟩ => ⟨S1x1x128, .f32⟩
  | .hbm, ⟨74, _⟩ => ⟨S4x16384x128, .f32⟩
  | .hbm, ⟨75, _⟩ => ⟨S4x16384x128, .f32⟩
  | .hbm, ⟨76, _⟩ => ⟨S_, .f32⟩
  | .hbm, ⟨77, _⟩ => ⟨S4x16384x128, .f32⟩
  | .hbm, ⟨78, _⟩ => ⟨S4x16384x128, .f32⟩
  | .hbm, ⟨79, _⟩ => ⟨S16384x4x128, .f32⟩
  | .hbm, ⟨80, _⟩ => ⟨S16384x512, .f32⟩
  | .hbm, ⟨81, _⟩ => ⟨S16384x512, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_9 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x2048 : Shape := ⟨2, ![1024, 2048]⟩
abbrev S16x128x128 : Shape := ⟨3, ![16, 128, 128]⟩
abbrev S16x128x16384 : Shape := ⟨3, ![16, 128, 16384]⟩
abbrev S512x512 : Shape := ⟨2, ![512, 512]⟩
abbrev S512x1024 : Shape := ⟨2, ![512, 1024]⟩
abbrev S16x128x512 : Shape := ⟨3, ![16, 128, 512]⟩
abbrev S512 : Shape := ⟨1, ![512]⟩
abbrev S512x1 : Shape := ⟨2, ![512, 1]⟩
abbrev S512x2048 : Shape := ⟨2, ![512, 2048]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1x1024, .f32⟩
  | .hbm, ⟨5, _⟩ => ⟨S1024x2048, .bf16⟩
  | .hbm, ⟨6, _⟩ => ⟨S16x128x128, .bf16⟩
  | .hbm, ⟨7, _⟩ => ⟨S16384x1024, .f32⟩
  | .hbm, ⟨8, _⟩ => ⟨S16384x1024, .bf16⟩
  | .hbm, ⟨9, _⟩ => ⟨S16x128x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2048, .bf16⟩
  | .local _ .vmem, ⟨9, _⟩ => ⟨S16x128x128, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S16x128x512, .f32⟩
  | .local _ .vmem, ⟨15, _⟩ => ⟨S16x128x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S16384x512 : Shape := ⟨2, ![16384, 512]⟩
abbrev S16384x1024 : Shape := ⟨2, ![16384, 1024]⟩
abbrev S1024x1024 : Shape := ⟨2, ![1024, 1024]⟩
abbrev S1x1024 : Shape := ⟨2, ![1, 1024]⟩
abbrev S1024x2048 : Shape := ⟨2, ![1024, 2048]⟩
abbrev S16x128x128 : Shape := ⟨3, ![16, 128, 128]⟩
abbrev S_ : Shape := ⟨0, ![]⟩
abbrev S16384 : Shape := ⟨1, ![16384]⟩
abbrev S16384x1 : Shape := ⟨2, ![16384, 1]⟩
abbrev S1024 : Shape := ⟨1, ![1024]⟩
abbrev S16384x2048 : Shape := ⟨2, ![16384, 2048]⟩
abbrev S16384x8x2x128 : Shape := ⟨4, ![16384, 8, 2, 128]⟩
abbrev S8x2x128x128 : Shape := ⟨4, ![8, 2, 128, 128]⟩
abbrev S8x2x128x16384 : Shape := ⟨4, ![8, 2, 128, 16384]⟩
abbrev S16x128x16384 : Shape := ⟨3, ![16, 128, 16384]⟩

abbrev nBuf : Space → Nat
  | .hbm => 36
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x1024, .f32⟩
  | .hbm, ⟨3, _⟩ => ⟨S1024x1024, .bf16⟩
  | .hbm, ⟨4, _⟩ => ⟨S1x1024, .f32⟩
  | .hbm, ⟨5, _⟩ => ⟨S1024x2048, .bf16⟩
  | .hbm, ⟨6, _⟩ => ⟨S16x128x128, .bf16⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x1024, .bf16⟩
  | .hbm, ⟨28, _⟩ => ⟨S16384x2048, .f32⟩
  | .hbm, ⟨29, _⟩ => ⟨S16384x2048, .bf16⟩
  | .hbm, ⟨30, _⟩ => ⟨S16384x8x2x128, .bf16⟩
  | .hbm, ⟨31, _⟩ => ⟨S8x2x128x128, .bf16⟩
  | .hbm, ⟨32, _⟩ => ⟨S8x2x128x16384, .f32⟩
  | .hbm, ⟨33, _⟩ => ⟨S16384x8x2x128, .f32⟩
  | .hbm, ⟨34, _⟩ => ⟨S8x2x128x16384, .f32⟩
  | .hbm, ⟨35, _⟩ => ⟨S16x128x16384, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x16 : Shape := ⟨2, ![16384, 16]⟩
abbrev S16384x8 : Shape := ⟨2, ![16384, 8]⟩
abbrev S16384x64 : Shape := ⟨2, ![16384, 64]⟩
abbrev S_ : Shape := ⟨0, ![]⟩
abbrev S16384x48 : Shape := ⟨2, ![16384, 48]⟩
abbrev S16384x128 : Shape := ⟨2, ![16384, 128]⟩
abbrev S16384x512 : Shape := ⟨2, ![16384, 512]⟩
abbrev S8x64x8x64 : Shape := ⟨4, ![8, 64, 8, 64]⟩
abbrev S512x512 : Shape := ⟨2, ![512, 512]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S32x128x512 : Shape := ⟨3, ![32, 128, 512]⟩
abbrev S32x512x512 : Shape := ⟨3, ![32, 512, 512]⟩
abbrev S512x1024 : Shape := ⟨2, ![512, 1024]⟩
abbrev S512x128 : Shape := ⟨2, ![512, 128]⟩
abbrev S1x128x512 : Shape := ⟨3, ![1, 128, 512]⟩
abbrev S1x512x512 : Shape := ⟨3, ![1, 512, 512]⟩
abbrev S512x1 : Shape := ⟨2, ![512, 1]⟩
abbrev S512x2304 : Shape := ⟨2, ![512, 2304]⟩
abbrev S128x128 : Shape := ⟨2, ![128, 128]⟩
abbrev S128x512 : Shape := ⟨2, ![128, 512]⟩

abbrev nBuf : Space → Nat
  | .hbm => 62
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1024x2304, .bf16⟩
  | .hbm, ⟨3, _⟩ => ⟨S1x64, .f32⟩
  | .hbm, ⟨4, _⟩ => ⟨S1x64, .f32⟩
  | .hbm, ⟨5, _⟩ => ⟨S16384x16, .f32⟩
  | .hbm, ⟨6, _⟩ => ⟨S16384x16, .f32⟩
  | .hbm, ⟨7, _⟩ => ⟨S16384x8, .f32⟩
  | .hbm, ⟨8, _⟩ => ⟨S16384x16, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S16384x8, .f32⟩
  | .hbm, ⟨13, _⟩ => ⟨S16384x8, .f32⟩
  | .hbm, ⟨14, _⟩ => ⟨S16384x64, .f32⟩
  | .hbm, ⟨15, _⟩ => ⟨S16384x16, .f32⟩
  | .hbm, ⟨16, _⟩ => ⟨S16384x16, .f32⟩
  | .hbm, ⟨17, _⟩ => ⟨S16384x64, .f32⟩
  | .hbm, ⟨18, _⟩ => ⟨S_, .f32⟩
  | .hbm, ⟨19, _⟩ => ⟨S16384x48, .f32⟩
  | .hbm, ⟨20, _⟩ => ⟨S16384x64, .f32⟩
  | .hbm, ⟨21, _⟩ => ⟨S16384x8, .f32⟩
  | .hbm, ⟨22, _⟩ => ⟨S_, .f32⟩
  | .hbm, ⟨23, _⟩ => ⟨S16384x48, .f32⟩
  | .hbm, ⟨24, _⟩ => ⟨S16384x64, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S16384x128, .f32⟩
  | .hbm, ⟨29, _⟩ => ⟨S16384x512, .f32⟩
  | .hbm, ⟨30, _⟩ => ⟨S8x64x8x64, .i32⟩
  | .hbm, ⟨31, _⟩ => ⟨S8x64x8x64, .i32⟩
  | .hbm, ⟨32, _⟩ => ⟨S8x64x8x64, .i1⟩
  | .hbm, ⟨33, _⟩ => ⟨S_, .bf16⟩
  | .hbm, ⟨34, _⟩ => ⟨S8x64x8x64, .bf16⟩
  | .hbm, ⟨35, _⟩ => ⟨S_, .bf16⟩
  | .hbm, ⟨36, _⟩ => ⟨S8x64x8x64, .bf16⟩
  | .hbm, ⟨37, _⟩ => ⟨S8x64x8x64, .bf16⟩
  | .hbm, ⟨38, _⟩ => ⟨S512x512, .bf16⟩
  | .hbm, ⟨39, _⟩ => ⟨S64, .f32⟩
  | .hbm, ⟨40, _⟩ => ⟨S1x64, .f32⟩
  | .hbm, ⟨41, _⟩ => ⟨S8x64, .f32⟩
  | .hbm, ⟨42, _⟩ => ⟨S512, .f32⟩
  | .hbm, ⟨43, _⟩ => ⟨S_, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S1x512, .f32⟩
  | .hbm, ⟨51, _⟩ => ⟨S64, .f32⟩
  | .hbm, ⟨52, _⟩ => ⟨S1x64, .f32⟩
  | .hbm, ⟨53, _⟩ => ⟨S2x64, .f32⟩
  | .hbm, ⟨54, _⟩ => ⟨S128, .f32⟩
  | .hbm, ⟨55, _⟩ => ⟨S1x128, .f32⟩
  | .hbm, ⟨56, _⟩ => ⟨S16384x512, .bf16⟩
  | .hbm, ⟨57, _⟩ => ⟨S16384x128, .bf16⟩
  | .hbm, ⟨58, _⟩ => ⟨S32x128x512, .bf16⟩
  | .hbm, ⟨59, _⟩ => ⟨S16384x512, .bf16⟩
  | .hbm, ⟨60, _⟩ => ⟨S16384x512, .bf16⟩
  | .hbm, ⟨61, _⟩ => ⟨S32x512x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2304, .bf16⟩
  | .local _ .vmem, ⟨4, _⟩ => ⟨S1x512, .f32⟩
  | .local _ .vmem, ⟨5, _⟩ => ⟨S1x128, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x128, .bf16⟩
  | .local _ .vmem, ⟨12, _⟩ => ⟨S512x128, .bf16⟩
  | .local _ .vmem, ⟨13, _⟩ => ⟨S1x128x512, .bf16⟩
  | .local _ .vmem, ⟨14, _⟩ => ⟨S1x128x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S1x512x512, .bf16⟩
  | .local _ .vmem, ⟨20, _⟩ => ⟨S1x512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42_0 : Ref sig .tc := ⟨.hbm, 56, rfl⟩
abbrev main_v42_1 : Ref sig .tc := ⟨.hbm, 57, rfl⟩
abbrev main_v42_2 : Ref sig .tc := ⟨.hbm, 58, rfl⟩
abbrev main_v42_3 : Ref sig .tc := ⟨.hbm, 59, rfl⟩
abbrev main_v42_4 : Ref sig .tc := ⟨.hbm, 60, rfl⟩
abbrev main_v42_5 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel4Ideal.lean ====
variable {F : FTy → Type} [FloatOps F] [Named F]
def κ : String → Option EReal := fun
  | "q_scale" => some (((Real.log 256)⁻¹ : ℝ) : EReal)
  | _ => none
-- ==== Reference4Ideal.lean ====
abbrev S16384x1024 : Shape := ⟨2, ![16384, 1024]⟩
abbrev S1x1024 : Shape := ⟨2, ![1, 1024]⟩
abbrev S1024x2304 : Shape := ⟨2, ![1024, 2304]⟩
abbrev S1x64 : Shape := ⟨2, ![1, 64]⟩
abbrev S16384x16 : Shape := ⟨2, ![16384, 16]⟩
abbrev S16384x8 : Shape := ⟨2, ![16384, 8]⟩
abbrev S1024 : Shape := ⟨1, ![1024]⟩
abbrev S_ : Shape := ⟨0, ![]⟩
abbrev S16384 : Shape := ⟨1, ![16384]⟩
abbrev S16384x1 : Shape := ⟨2, ![16384, 1]⟩
abbrev S16384x2304 : Shape := ⟨2, ![16384, 2304]⟩
abbrev S16384x512 : Shape := ⟨2, ![16384, 512]⟩
abbrev S16384x128 : Shape := ⟨2, ![16384, 128]⟩
abbrev S16384x8x64 : Shape := ⟨3, ![16384, 8, 64]⟩
abbrev S64 : Shape := ⟨1, ![64]⟩
abbrev S16384x8x1 : Shape := ⟨3, ![16384, 8, 1]⟩
abbrev S1x1x64 : Shape := ⟨3, ![1, 1, 64]⟩
abbrev S16384x8x32 : Shape := ⟨3, ![16384, 8, 32]⟩
abbrev S16384x8x16 : Shape := ⟨3, ![16384, 8, 16]⟩
abbrev S16384x1x16 : Shape := ⟨3, ![16384, 1, 16]⟩
abbrev S16384x2x64 : Shape := ⟨3, ![16384, 2, 64]⟩
abbrev S16384x2 : Shape := ⟨2, ![16384, 2]⟩
abbrev S16384x2x1 : Shape := ⟨3, ![16384, 2, 1]⟩
abbrev S16384x2x32 : Shape := ⟨3, ![16384, 2, 32]⟩
abbrev S16384x2x16 : Shape := ⟨3, ![16384, 2, 16]⟩
abbrev S16384x8x8 : Shape := ⟨3, ![16384, 8, 8]⟩
abbrev S16384x1x8 : Shape := ⟨3, ![16384, 1, 8]⟩
abbrev S16384x8x48 : Shape := ⟨3, ![16384, 8, 48]⟩
abbrev S32x512x128 : Shape := ⟨3, ![32, 512, 128]⟩
abbrev S32x128x512 : Shape := ⟨3, ![32, 128, 512]⟩
abbrev S32x512x512 : Shape := ⟨3, ![32, 512, 512]⟩

abbrev nBuf : Space → Nat
  | .hbm => 213
  | .vmem => 0
  | .smem => 0
  | _ => 0

abbrev hbmTy0_0 (i : Nat) : BufTy := match i % 128 with
  | 0 => ⟨S16384x1024, .f32⟩
  | 1 => ⟨S1x1024, .f32⟩
  | 2 => ⟨S1024x2304, .bf16⟩
  | 3 => ⟨S1x64, .f32⟩
  | 4 => ⟨S1x64, .f32⟩
  | 5 => ⟨S16384x16, .f32⟩
  | 6 => ⟨S16384x16, .f32⟩
  | 7 => ⟨S16384x8, .f32⟩
  | 8 => ⟨S1024, .f32⟩
  | 9 => ⟨S16384x1024, .f32⟩
  | 10 => ⟨S_, .f32⟩
  | 11 => ⟨S16384, .f32⟩
  | 12 => ⟨S16384x1, .f32⟩
  | 13 => ⟨S_, .f32⟩
  | 14 => ⟨S16384x1, .f32⟩
  | 15 => ⟨S16384x1, .f32⟩
  | 16 => ⟨S_, .f32⟩
  | 17 => ⟨S16384x1, .f32⟩
  | 18 => ⟨S16384x1, .f32⟩
  | 19 => ⟨S16384x1, .f32⟩
  | 20 => ⟨S16384x1024, .f32⟩
  | 21 => ⟨S16384x1024, .f32⟩
  | 22 => ⟨S1x1024, .f32⟩
  | 23 => ⟨S16384x1024, .f32⟩
  | 24 => ⟨S16384x1024, .f32⟩
  | 25 => ⟨S16384x1024, .bf16⟩
  | 26 => ⟨S16384x2304, .f32⟩
  | 27 => ⟨S16384x512, .f32⟩
  | 28 => ⟨S16384x128, .f32⟩
  | 29 => ⟨S16384x128, .f32⟩
  | 30 => ⟨S16384x512, .f32⟩
  | 31 => ⟨S16384x512, .f32⟩
  | 32 => ⟨S16384x512, .f32⟩
  | 33 => ⟨S16384x8x64, .f32⟩
  | 34 => ⟨S64, .f32⟩
  | 35 => ⟨S16384x8x64, .f32⟩
  | 36 => ⟨S_, .f32⟩
  | 37 => ⟨S16384x8, .f32⟩
  | 38 => ⟨S16384x8x1, .f32⟩
  | 39 => ⟨S_, .f32⟩
  | 40 => ⟨S16384x8x1, .f32⟩
  | 41 => ⟨S16384x8x1, .f32⟩
  | 42 => ⟨S_, .f32⟩
  | 43 => ⟨S16384x8x1, .f32⟩
  | 44 => ⟨S16384x8x1, .f32⟩
  | 45 => ⟨S16384x8x1, .f32⟩
  | 46 => ⟨S16384x8x64, .f32⟩
  | 47 => ⟨S16384x8x64, .f32⟩
  | 48 => ⟨S1x1x64, .f32⟩
  | 49 => ⟨S16384x8x64, .f32⟩
  | 50 => ⟨S16384x8x64, .f32⟩
  | 51 => ⟨S16384x8x32, .f32⟩
  | 52 => ⟨S16384x8x16, .f32⟩
  | 53 => ⟨S16384x8x16, .f32⟩
  | 54 => ⟨S16384x16, .f32⟩
  | 55 => ⟨S16384x1x16, .f32⟩
  | 56 => ⟨S16384x16, .f32⟩
  | 57 => ⟨S16384x1x16, .f32⟩
  | 58 => ⟨S16384x8x16, .f32⟩
  | 59 => ⟨S16384x8x16, .f32⟩
  | 60 => ⟨S16384x8x16, .f32⟩
  | 61 => ⟨S16384x8x16, .f32⟩
  | 62 => ⟨S16384x8x16, .f32⟩
  | 63 => ⟨S16384x8x16, .f32⟩
  | 64 => ⟨S16384x8x16, .f32⟩
  | 65 => ⟨S16384x8x16, .f32⟩
  | 66 => ⟨S16384x8x16, .f32⟩
  | 67 => ⟨S16384x8x16, .f32⟩
  | 68 => ⟨S16384x8x32, .f32⟩
  | 69 => ⟨S16384x8x32, .f32⟩
  | 70 => ⟨S16384x8x16, .f32⟩
  | 71 => ⟨S16384x8x16, .f32⟩
  | 72 => ⟨S16384x16, .f32⟩
  | 73 => ⟨S16384x1x16, .f32⟩
  | 74 => ⟨S16384x16, .f32⟩
  | 75 => ⟨S16384x1x16, .f32⟩
  | 76 => ⟨S16384x8x16, .f32⟩
  | 77 => ⟨S16384x8x16, .f32⟩
  | 78 => ⟨S16384x8x16, .f32⟩
  | 79 => ⟨S16384x8x16, .f32⟩
  | 80 => ⟨S16384x8x16, .f32⟩
  | 81 => ⟨S16384x8x16, .f32⟩
  | 82 => ⟨S16384x8x16, .f32⟩
  | 83 => ⟨S16384x8x16, .f32⟩
  | 84 => ⟨S16384x8x16, .f32⟩
  | 85 => ⟨S16384x8x16, .f32⟩
  | 86 => ⟨S16384x8x32, .f32⟩
  | 87 => ⟨S16384x8x64, .f32⟩
  | 88 => ⟨S_, .f32⟩
  | 89 => ⟨S16384x8x64, .f32⟩
  | 90 => ⟨S16384x8x64, .f32⟩
  | 91 => ⟨S_, .f32⟩
  | 92 => ⟨S_, .f32⟩
  | 93 => ⟨S16384x8x64, .f32⟩
  | 94 => ⟨S16384x8x64, .f32⟩
  | 95 => ⟨S16384x512, .f32⟩
  | 96 => ⟨S16384x2x64, .f32⟩
  | 97 => ⟨S64, .f32⟩
  | 98 => ⟨S16384x2x64, .f32⟩
  | 99 => ⟨S_, .f32⟩
  | 100 => ⟨S16384x2, .f32⟩
  | 101 => ⟨S16384x2x1, .f32⟩
  | 102 => ⟨S_, .f32⟩
  | 103 => ⟨S16384x2x1, .f32⟩
  | 104 => ⟨S16384x2x1, .f32⟩
  | 105 => ⟨S_, .f32⟩
  | 106 => ⟨S16384x2x1, .f32⟩
  | 107 => ⟨S16384x2x1, .f32⟩
  | 108 => ⟨S16384x2x1, .f32⟩
  | 109 => ⟨S16384x2x64, .f32⟩
  | 110 => ⟨S16384x2x64, .f32⟩
  | 111 => ⟨S1x1x64, .f32⟩
  | 112 => ⟨S16384x2x64, .f32⟩
  | 113 => ⟨S16384x2x64, .f32⟩
  | 114 => ⟨S16384x2x32, .f32⟩
  | 115 => ⟨S16384x2x16, .f32⟩
  | 116 => ⟨S16384x2x16, .f32⟩
  | 117 => ⟨S16384x16, .f32⟩
  | 118 => ⟨S16384x1x16, .f32⟩
  | 119 => ⟨S16384x16, .f32⟩
  | 120 => ⟨S16384x1x16, .f32⟩
  | 121 => ⟨S16384x2x16, .f32⟩
  | 122 => ⟨S16384x2x16, .f32⟩
  | 123 => ⟨S16384x2x16, .f32⟩
  | 124 => ⟨S16384x2x16, .f32⟩
  | 125 => ⟨S16384x2x16, .f32⟩
  | 126 => ⟨S16384x2x16, .f32⟩
  | 127 => ⟨S16384x2x16, .f32⟩
  | _ => ⟨S16384x1024, .f32⟩

abbrev hbmTy0_1 (i : Nat) : BufTy := match i % 128 with
  | 0 => ⟨S16384x2x16, .f32⟩
  | 1 => ⟨S16384x2x16, .f32⟩
  | 2 => ⟨S16384x2x16, .f32⟩
  | 3 => ⟨S16384x2x32, .f32⟩
  | 4 => ⟨S16384x2x32, .f32⟩
  | 5 => ⟨S16384x2x16, .f32⟩
  | 6 => ⟨S16384x2x16, .f32⟩
  | 7 => ⟨S16384x16, .f32⟩
  | 8 => ⟨S16384x1x16, .f32⟩
  | 9 => ⟨S16384x16, .f32⟩
  | 10 => ⟨S16384x1x16, .f32⟩
  | 11 => ⟨S16384x2x16, .f32⟩
  | 12 => ⟨S16384x2x16, .f32⟩
  | 13 => ⟨S16384x2x16, .f32⟩
  | 14 => ⟨S16384x2x16, .f32⟩
  | 15 => ⟨S16384x2x16, .f32⟩
  | 16 => ⟨S16384x2x16, .f32⟩
  | 17 => ⟨S16384x2x16, .f32⟩
  | 18 => ⟨S16384x2x16, .f32⟩
  | 19 => ⟨S16384x2x16, .f32⟩
  | 20 => ⟨S16384x2x16, .f32⟩
  | 21 => ⟨S16384x2x32, .f32⟩
  | 22 => ⟨S16384x2x64, .f32⟩
  | 23 => ⟨S16384x128, .f32⟩
  | 24 => ⟨S16384x8x64, .f32⟩
  | 25 => ⟨S16384x8x16, .f32⟩
  | 26 => ⟨S16384x8x8, .f32⟩
  | 27 => ⟨S16384x8x8, .f32⟩
  | 28 => ⟨S16384x8, .f32⟩
  | 29 => ⟨S16384x1x8, .f32⟩
  | 30 => ⟨S16384x8, .f32⟩
  | 31 => ⟨S16384x1x8, .f32⟩
  | 32 => ⟨S16384x8x8, .f32⟩
  | 33 => ⟨S16384x8x8, .f32⟩
  | 34 => ⟨S16384x8x8, .f32⟩
  | 35 => ⟨S16384x8x8, .f32⟩
  | 36 => ⟨S16384x8x8, .f32⟩
  | 37 => ⟨S16384x8x8, .f32⟩
  | 38 => ⟨S16384x8x8, .f32⟩
  | 39 => ⟨S16384x8x8, .f32⟩
  | 40 => ⟨S16384x8x8, .f32⟩
  | 41 => ⟨S16384x8x8, .f32⟩
  | 42 => ⟨S16384x8x16, .f32⟩
  | 43 => ⟨S16384x8x48, .f32⟩
  | 44 => ⟨S16384x8x64, .f32⟩
  | 45 => ⟨S_, .f32⟩
  | 46 => ⟨S16384x8x64, .f32⟩
  | 47 => ⟨S16384x8x64, .f32⟩
  | 48 => ⟨S_, .f32⟩
  | 49 => ⟨S_, .f32⟩
  | 50 => ⟨S16384x8x64, .f32⟩
  | 51 => ⟨S16384x8x64, .f32⟩
  | 52 => ⟨S16384x512, .f32⟩
  | 53 => ⟨S16384x8x64, .f32⟩
  | 54 => ⟨S16384x8x16, .f32⟩
  | 55 => ⟨S16384x8x8, .f32⟩
  | 56 => ⟨S16384x8x8, .f32⟩
  | 57 => ⟨S16384x8, .f32⟩
  | 58 => ⟨S16384x1x8, .f32⟩
  | 59 => ⟨S16384x8, .f32⟩
  | 60 => ⟨S16384x1x8, .f32⟩
  | 61 => ⟨S16384x8x8, .f32⟩
  | 62 => ⟨S16384x8x8, .f32⟩
  | 63 => ⟨S16384x8x8, .f32⟩
  | 64 => ⟨S16384x8x8, .f32⟩
  | 65 => ⟨S16384x8x8, .f32⟩
  | 66 => ⟨S16384x8x8, .f32⟩
  | 67 => ⟨S16384x8x8, .f32⟩
  | 68 => ⟨S16384x8x8, .f32⟩
  | 69 => ⟨S16384x8x8, .f32⟩
  | 70 => ⟨S16384x8x8, .f32⟩
  | 71 => ⟨S16384x8x16, .f32⟩
  | 72 => ⟨S16384x8x48, .f32⟩
  | 73 => ⟨S16384x8x64, .f32⟩
  | 74 => ⟨S16384x512, .f32⟩
  | 75 => ⟨S16384x512, .bf16⟩
  | 76 => ⟨S16384x128, .bf16⟩
  | 77 => ⟨S16384x128, .bf16⟩
  | 78 => ⟨S32x512x128, .bf16⟩
  | 79 => ⟨S32x128x512, .bf16⟩
  | 80 => ⟨S16384x512, .bf16⟩
  | 81 => ⟨S16384x512, .bf16⟩
  | 82 => ⟨S16384x512, .bf16⟩
  | 83 => ⟨S32x512x512, .bf16⟩
  | 84 => ⟨S32x512x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_v84 : Ref sig .tc := ⟨.hbm, 101, rfl⟩
abbrev main_cst_8 : Ref sig .tc := ⟨.hbm, 102, rfl⟩
abbrev main_v85 : Ref sig .tc := ⟨.hbm, 103, rfl⟩
abbrev main_v86 : Ref sig .tc := ⟨.hbm, 104, rfl⟩
abbrev main_cst_9 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_cst_10 : Ref sig .tc := ⟨.hbm, 173, rfl⟩
abbrev main_v154 : Ref sig .tc := ⟨.hbm, 174, rfl⟩
abbrev main_v155 : Ref sig .tc := ⟨.hbm, 175, rfl⟩
abbrev main_cst_11 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩

abbrev nD : Nat := 1
abbrev τ : Topo := Topo.v7x

variable {F : FTy → Type} [FloatOps F]
-- ==== Proof.Peak.lean ====
/- The reference's greatest score of a query is a real number. -/
module

public import proofs.«01_k».proof.Proof.Gen.ReferenceIdeal
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen

/-- A query's greatest score. -/
def peak (s : FVec Ideal S2x4x16384x16384 .f32) : FVec Ideal S2x4x16384 .f32 :=
  maximumf (broadcastInDim S2x4x16384 ![] bcast_S_S2x4x16384 (constant S_ .f32 0xFF800000#32))
    (Host.reduce FloatOps.maximumf s (constant S_ .f32 0xFF800000#32) reducesTo_S2x4x16384x16384_S2x4x16384_d3 h_S_)
/-- The greatest of finitely many real numbers, if there are any, is one. -/
theorem fold_real {ι : Type} (s : Finset ι) (hs : s.Nonempty) (f : ι → EReal) (hf : ∀ i ∈ s, ∃ a : ℝ, f i = a) : ∃ b : ℝ, s.fold max ⊥ f = b := by
  obtain ⟨i, hi, e⟩ := Finset.exists_mem_eq_sup s hs f
  obtain ⟨a, ha⟩ := hf i hi
  exact ⟨a, e.trans ha⟩

/-- A reduction by maximum, from minus infinity, of real numbers is a real number. -/
theorem reduce_real {s t u : Shape} {axes : List (Fin s.rank)} (x : FVec Ideal s .f32) (init : FVec Ideal u .f32) (h : s.ReducesTo axes t) (hu : 0 < u.numel) (j : t.Idx)
    (hi : init (Shape.Idx.first hu) = ⊥) (i : s.Idx) (hd : h.drop i = j) (hx : ∀ i, h.drop i = j → ∃ a : ℝ, x i = a) :
    ∃ b : ℝ, Host.reduce FloatOps.maximumf x init h hu j = b := by
  have e : Host.reduce FloatOps.maximumf x init h hu j = (Finset.univ.filter fun i => h.drop i = j).fold max (init (Shape.Idx.first hu)) x :=
    Host.reduce_eq_fold (max : EReal → EReal → EReal) x init h hu j
  rw [e, hi]
  exact fold_real _ ⟨i, Finset.mem_filter.2 ⟨Finset.mem_univ _, hd⟩⟩ x fun i hi => hx i (Finset.mem_filter.1 hi).2

theorem low : Ideal.ofBits .f32 0xFF800000#32 = ⊥ := by simp [Ideal.ofBits, Ideal.ieee]
theorem const_low (u : Shape) (i : u.Idx) : (constant u .f32 0xFF800000#32 : FVec Ideal u .f32) i = ⊥ := low
theorem max_apply {s : Shape} (a b : FVec Ideal s .f32) (i : s.Idx) : maximumf a b i = max (a i) (b i) := rfl
theorem spread_low {u t : Shape} (f : Fin u.rank → Fin t.rank) (h : u.BroadcastsInDim t f) (i : t.Idx) :
    broadcastInDim t f h (constant u .f32 0xFF800000#32 : FVec Ideal u .f32) i = ⊥ := low

abbrev keep := reducesTo_S2x4x16384x16384_S2x4x16384_d3

theorem drop0 (i : S2x4x16384x16384.Idx) : (keep.drop i 0 : Nat) = i 0 := Shape.ReducesTo.drop_apply_val keep i 0
theorem drop1 (i : S2x4x16384x16384.Idx) : (keep.drop i 1 : Nat) = i 1 := Shape.ReducesTo.drop_apply_val keep i 1
theorem drop2 (i : S2x4x16384x16384.Idx) : (keep.drop i 2 : Nat) = i 2 := Shape.ReducesTo.drop_apply_val keep i 2

/-- The scores of a query are those with its indices. -/
theorem of_drop (g : Fin 2) (e : Fin 4) (r : Fin 16384) (i : S2x4x16384x16384.Idx) (hi : keep.drop i = ix3 g e r) : i = ix4 g e r (i 3) := by
  funext b
  refine Fin.ext ?_
  fin_cases b
  · exact (drop0 i).symm.trans (congrArg (fun z => (z 0 : Nat)) hi)
  · exact (drop1 i).symm.trans (congrArg (fun z => (z 1 : Nat)) hi)
  · exact (drop2 i).symm.trans (congrArg (fun z => (z 2 : Nat)) hi)
  · rfl
theorem drop_eq (g : Fin 2) (e : Fin 4) (r i : Fin 16384) : keep.drop (ix4 g e r i) = ix3 g e r := by
  funext b
  refine Fin.ext ?_
  fin_cases b
  · exact drop0 _
  · exact drop1 _
  · exact drop2 _

/-- Every query has a greatest score. -/
theorem peak_real (s : FVec Ideal S2x4x16384x16384 .f32) (g : Fin 2) (e : Fin 4) (r : Fin 16384) (hs : ∀ i, ∃ a : ℝ, s (ix4 g e r i) = a) :
    ∃ b : ℝ, peak s (ix3 g e r) = b := by
  obtain ⟨b, hb⟩ := reduce_real s (constant S_ .f32 0xFF800000#32) keep h_S_ (ix3 g e r) (const_low _ _) (ix4 g e r ⟨0, by omega⟩) (drop_eq _ _ _ _)
    fun i hi => by rw [of_drop g e r i hi]; exact hs _
  refine ⟨b, ?_⟩
  unfold peak
  rw [max_apply, spread_low, hb, max_eq_right bot_le]

end Cert.ReferenceIdeal.Hand

end
-- ==== Proof.Mem.lean ====
/- A small calculus for straight-line programs that own their buffers whole: `Runs H p x a y` says that the
   program `p`, from the memory that `H x` owns, returns `a` and leaves the memory `H y`. A load reads a
   rectangle of a buffer's contents (`take`), a store replaces one (`put`). -/
module

public import Idealize.ShloMosaic.Lib.Pipeline
public import Idealize.ShloMosaic.Lib.Scf
public import Idealize.ShloMosaic.Lib.Writes
public import Idealize.ShloMosaic.Lib.Memref
public import Idealize.ShloMosaic.Lib.Exec
public import Idealize.ShloMosaic.PureOps

@[expose] public section

noncomputable section

namespace Cert.Attn

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

/-- The contents `x` read over the rectangle `r`. -/
def take {s : Shape} {α : Type} (r : Rect s) (x : s.Idx → α) : r.shape.Idx → α := fun j => x (r.emb j)

/-- The contents `x` with `w` in place of the rectangle `r`. -/
def put {s : Shape} {α : Type} (r : Rect s) (x : s.Idx → α) (w : r.shape.Idx → α) : s.Idx → α :=
  fun i => open Classical in if h : ∃ j, r.emb j = i then w h.choose else x i

/-- Inside the rectangle the new contents are what was put there. -/
theorem put_emb {s : Shape} {α : Type} (r : Rect s) (x : s.Idx → α) (w : r.shape.Idx → α) (j : r.shape.Idx) :
    put r x w (r.emb j) = w j := by
  unfold put
  have h : ∃ j', r.emb j' = r.emb j := ⟨j, rfl⟩
  rw [dif_pos h]
  exact congrArg w (r.emb.injective h.choose_spec)

/-- Outside the rectangle the contents are the old ones. -/
theorem put_miss {s : Shape} {α : Type} (r : Rect s) (x : s.Idx → α) (w : r.shape.Idx → α) (i : s.Idx)
    (h : ∀ j, r.emb j ≠ i) : put r x w i = x i := by
  unfold put
  rw [dif_neg (fun ⟨j, hj⟩ => h j hj)]

variable {nD : Nat} {τ : Topo} {sig : RefSig} {Ix : Type} [DecidableEq Ix]
variable {Val : EltTy → Type} {Name : Type} [DecidableEq Name]
variable {U : Type} [URA U]
variable {Lvl : Type} {Λ : Labels}

local notation "𝕄" => MT nD τ sig Ix Val Name U Lvl

variable [Preorder Lvl] (defs : Defs nD τ sig Val Λ) (𝒱 : Variants) (c : Thread nD τ) (bd : Option 𝒱.V) (E : Set Name)

/-- The program `p` takes the memory `H x` to the memory `H y` and returns `a`. -/
def Runs {σ α : Type} (H : σ → sProp 𝕄) (p : Prog (TpuEff nD τ sig Val Λ c.2) α) (x : σ) (a : α) (y : σ) : Prop :=
  ∀ Q : α → sProp 𝕄, iprop(H x ∗ (H y -∗ Q a)) ⊢ wp frame (wpE defs 𝒱 c bd) E p Q

variable {defs 𝒱 c bd E}

/-- A value returned leaves the memory as it is. -/
theorem Runs.ret {σ α : Type} {H : σ → sProp 𝕄} (a : α) (x : σ) : Runs defs 𝒱 c bd E H (.ret a) x a x := by
  intro Q
  refine BIBase.Entails.trans ?_ (le_wp_ret _ _ _ _ _)
  iintro ⟨H, K⟩; iapply K; iexact H

/-- One program after another. -/
theorem Runs.bind {σ α β : Type} {H : σ → sProp 𝕄} {p : Prog (TpuEff nD τ sig Val Λ c.2) α} {k : α → Prog (TpuEff nD τ sig Val Λ c.2) β}
    {x y z : σ} {a : α} {b : β} (hp : Runs defs 𝒱 c bd E H p x a y) (hk : Runs defs 𝒱 c bd E H (k a) y b z) :
    Runs defs 𝒱 c bd E H (p >>= k) x b z := by
  intro Q
  rw [wp_bind]
  refine BIBase.Entails.trans ?_ (hp _)
  iintro ⟨HX, K⟩
  isplitl [HX]; · iexact HX
  iintro HY
  iapply (hk Q)
  isplitl [HY]; · iexact HY
  iexact K

/-- What is not touched may be carried along. -/
theorem Runs.frame {σ α : Type} {H : σ → sProp 𝕄} {p : Prog (TpuEff nD τ sig Val Λ c.2) α} {x y : σ} {a : α} (hp : Runs defs 𝒱 c bd E H p x a y)
    {ρ : Type} (H' : ρ → sProp 𝕄) (f : σ → ρ → sProp 𝕄) (hf : ∀ s r, f s r = iprop(H s ∗ H' r)) (r : ρ) :
    Runs defs 𝒱 c bd E (fun t : σ × ρ => f t.1 t.2) p (x, r) a (y, r) := by
  intro Q
  simp only [hf]
  refine BIBase.Entails.trans ?_ (hp Q)
  iintro ⟨⟨HX, HR⟩, K⟩
  isplitl [HX]; · iexact HX
  iintro HY
  iapply K
  isplitl [HY]; · iexact HY
  iexact HR

/-- A buffer of the memory: where it is, how its contents are read off the memory and replaced there. -/
structure Cell {σ : Type} (c : Thread nD τ) (H : σ → sProp 𝕄) {sp : Space} {s : Shape} {e : EltTy} (m : Memref sig c.2.kind sp s e)
    (get : σ → s.Idx → Val e) (set : σ → (s.Idx → Val e) → σ) : Prop where
  focus : ∀ x, H x ⊢ iprop(owns c m fullShare (get x) ∗ (∀ X, owns c m fullShare X -∗ H (set x X)))
  set_get : ∀ x, set x (get x) = x

/-- A load from a rectangle of an owned buffer. -/
theorem wp_load_owns {α : Type} {cs : CoreSpace} {s : Shape} {e : EltTy} {m : Memref sig c.2.kind cs s e} {r : Rect s} {hl : m.view.LoadsAt r}
    {k : (r.shape.Idx → Val e) → Prog (TpuEff nD τ sig Val Λ c.2) α} {X : s.Idx → Val e} {Q : α → sProp 𝕄} :
    (owns c m fullShare X : sProp 𝕄) ⊢ iprop((owns c m fullShare X -∗ wp frame (wpE defs 𝒱 c bd) E (k (take r X)) Q)
      -∗ wp frame (wpE defs 𝒱 c bd) E (.op (.load m r.toLoadRect hl) k) Q) := by
  unfold owns
  iintro ⟨%f, %hf, H⟩ K
  have hr : (m.access r).read Val f = take r X := by subst hf; rfl
  have h := wp_load_rect (defs := defs) 𝒱 c bd (Γ := .empty) E (Q := Q) (m := m) (r := r) (hl := hl) (k := k)
    (q := fullShare) (f := f) (S := m.view.set) (m.view.set_slice_subset r)
  rw [hr] at h
  iapply h $$ H
  iintro H
  iapply K
  iexists f
  isplitr; · ipureintro; exact hf
  iexact H

/-- A store to a rectangle of an owned buffer. -/
theorem wp_store_owns {α : Type} {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} {X : s.Idx → Val e} {Q : α → sProp 𝕄} :
    (owns c m fullShare X : sProp 𝕄) ⊢ iprop((owns c m fullShare (put r X w) -∗ wp frame (wpE defs 𝒱 c bd) E (k ⟨⟩) Q)
      -∗ wp frame (wpE defs 𝒱 c bd) E (.op (.store m r w Finset.univ hx hm) k) Q) := by
  unfold owns
  iintro ⟨%f, %hf, H⟩ K
  have h := wp_store_writes (defs := defs) 𝒱 c bd E (Q := Q) (m := m) (r := r) (w := w) (hx := hx) (hm := hm) (k := k)
    (f := f) (L := []) (S := m.view.set) (m.view.set_slice_subset r)
  rw [View.writes_nil] at h
  iapply h $$ H
  iintro H
  iapply K
  iexists (m.view.writes Val f [⟨r, w⟩])
  isplitr
  · ipureintro
    funext i
    by_cases hi : ∃ j, r.emb j = i
    · obtain ⟨j, rfl⟩ := hi
      rw [put_emb]
      exact View.read_writes_cons_emb _ _ r w [] j
    · rw [put_miss r X w i (fun j hj => hi ⟨j, hj⟩), View.read_writes_cons_miss]
      · subst hf; rfl
      · intro hmem
        rw [← Rect.map_emb_univ] at hmem
        obtain ⟨j, -, hj⟩ := Finset.mem_map.mp hmem
        exact hi ⟨j, hj⟩
  iexact H

/-- A load returns what the buffer holds over the rectangle and changes nothing. -/
theorem Cell.load {σ : Type} {H : σ → sProp 𝕄} {cs : CoreSpace} {s : Shape} {e : EltTy} {m : Memref sig c.2.kind cs s e}
    {get : σ → s.Idx → Val e} {set : σ → (s.Idx → Val e) → σ} (hc : Cell c H m get set) (r : Rect s) (hl : m.view.LoadsAt r) (x : σ) :
    Runs defs 𝒱 c bd E H (Prog.lift (.load m r.toLoadRect hl)) x (take r (get x)) x := by
  intro Q
  have hset := hc.set_get x
  iintro ⟨HX, K⟩
  ihave HX := (hc.focus x) $$ HX
  icases HX with ⟨HO, HC⟩
  iapply (wp_load_owns (defs := defs) (k := Prog.ret)) $$ HO
  iintro HO
  iapply (le_wp_ret _ _ _ _ _)
  iapply K
  ihave HC := HC $$ %(get x)
  rw [hset]
  iapply HC $$ HO

/-- A store replaces what the buffer holds over the rectangle. -/
theorem Cell.store {σ : Type} {H : σ → sProp 𝕄} {cs : CoreSpace} {s : Shape} {e : EltTy} {m : Memref sig c.2.kind cs s e}
    {get : σ → s.Idx → Val e} {set : σ → (s.Idx → Val e) → σ} (hc : Cell c H m get set) (r : Rect s) (w : r.shape.Idx → Val e)
    (hx : (m.access r).Stores Finset.univ) (hm : Finset.univ = Finset.univ ∨ ∀ a, r.stride a = 1) (x : σ) :
    Runs defs 𝒱 c bd E H (Prog.lift (.store m r w Finset.univ hx hm)) x ⟨⟩ (set x (put r (get x) w)) := by
  intro Q
  iintro ⟨HX, K⟩
  ihave HX := (hc.focus x) $$ HX
  icases HX with ⟨HO, HC⟩
  iapply (wp_store_owns (defs := defs) (k := Prog.ret)) $$ HO
  iintro HO
  iapply (le_wp_ret _ _ _ _ _)
  iapply K
  iapply HC $$ HO

/-- A loop's trips, one after another. -/
theorem Runs.forFrom {σ : Type} {H : σ → sProp 𝕄} {n : Nat} {body : Fin n → PUnit → Prog (TpuEff nD τ sig Val Λ c.2) PUnit} {f : Fin n → σ → σ}
    (hbody : ∀ k x, Runs defs 𝒱 c bd E H (body k ⟨⟩) x ⟨⟩ (f k x)) (ks : List (Fin n)) (x : σ) :
    Runs defs 𝒱 c bd E H (Scf.forFrom body ks ⟨⟩) x ⟨⟩ (ks.foldl (fun y k => f k y) x) := by
  induction ks generalizing x with
  | nil => exact Runs.ret _ _
  | cons k ks ih => exact Runs.bind (hbody k x) (ih _)

end Cert.Attn

end
-- ==== Proof.Step.lean ====
/- One chunk of a softmax over the keys, as a program over the buffers it owns: the powers of two of the scores of
   1024 keys against 512 query columns go, block by block, into one of three buffers, while the chunk before, read
   back from another, is weighted with the values. `dv` is the number of value columns. -/
module

public import proofs.«01_k».proof.Proof.Mem

@[expose] public section

set_option maxRecDepth 8192

noncomputable section

namespace Cert.Attn

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

abbrev S16384x128 : Shape := ⟨2, ![16384, 128]⟩
abbrev S1024x128 : Shape := ⟨2, ![1024, 128]⟩
abbrev S128x256 : Shape := ⟨2, ![128, 256]⟩
abbrev S1024x256 : Shape := ⟨2, ![1024, 256]⟩
abbrev S1024x512 : Shape := ⟨2, ![1024, 512]⟩
abbrev S16x256 : Shape := ⟨2, ![16, 256]⟩
abbrev S2x8x256 : Shape := ⟨3, ![2, 8, 256]⟩
abbrev S8x256 : Shape := ⟨2, ![8, 256]⟩
abbrev S8x512 : Shape := ⟨2, ![8, 512]⟩
abbrev S256 : Shape := ⟨1, ![256]⟩
abbrev S1x256 : Shape := ⟨2, ![1, 256]⟩
abbrev S1x512 : Shape := ⟨2, ![1, 512]⟩
abbrev S16x512 : Shape := ⟨2, ![16, 512]⟩
/-- The values, two slabs of 512 keys to a chunk. -/
abbrev SV (dv : Nat) : Shape := ⟨3, ![32, dv, 512]⟩
abbrev SV1 (dv : Nat) : Shape := ⟨3, ![1, dv, 512]⟩
abbrev SO (dv : Nat) : Shape := ⟨2, ![dv, 512]⟩
abbrev SVC (dv : Nat) : Shape := ⟨2, ![dv, 1024]⟩

/-- The shape conditions that depend on the number of value columns. -/
structure Sides (dv : Nat) : Prop where
  slab : (SV1 dv).ShapeCasts (SO dv)
  cat : Shape.Concatenates [SO dv, SO dv] (SVC dv) 1
  bc : S1x512.Broadcasts (SO dv)
  self : (SO dv).ShapeCasts (SO dv)
  pos : 0 < (SO dv).numel
  pos1 : 0 < (SV1 dv).numel
  inb : ∀ a, (![0, 0] : Fin 2 → Nat) a + (SO dv).size a ≤ (SO dv).size a
  wf : DotDims.WF (SVC dv) S1024x512 (SO dv) [1] [0] [0] [1] [] []

theorem dotS_wf : DotDims.WF S1024x128 S128x256 S1024x256 [1] [0] [0] [1] [] [] := by decide
/-- Keys against query columns. -/
def dotS : DotDims S1024x128 S128x256 S1024x256 where
  lhsContracting := [1]
  rhsContracting := [0]
  lhsNonContracting := [0]
  rhsNonContracting := [1]
  lhsBatch := []
  rhsBatch := []
  wf := dotS_wf
/-- Values against weights. -/
def dotV {dv : Nat} (hs : Sides dv) : DotDims (SVC dv) S1024x512 (SO dv) where
  lhsContracting := [1]
  rhsContracting := [0]
  lhsNonContracting := [0]
  rhsNonContracting := [1]
  lhsBatch := []
  rhsBatch := []
  wf := hs.wf

theorem slices_blk (b : Nat) (hb : b < 64) : S1024x256.Slices ![16 * b, 0] S16x256 := by
  refine ⟨rfl, fun a => ?_⟩
  match a with
  | ⟨0, _⟩ => show 16 * b + 16 ≤ 1024; omega
  | ⟨1, _⟩ => show 0 + 256 ≤ 256; omega
theorem inb_blk (h b : Nat) (hh : h < 2) (hb : b < 64) : ∀ a, (![16 * b, 256 * h] : Fin 2 → Nat) a + S16x256.size a ≤ S1024x512.size a := by
  intro a
  match a with
  | ⟨0, _⟩ => show 16 * b + 16 ≤ 1024; omega
  | ⟨1, _⟩ => show 256 * h + 256 ≤ 512; omega
theorem packed_blk (h b : Nat) (hh : h < 2) (hb : b < 64) :
    (Rect.unit (s := S1024x512) ![16 * b, 256 * h] S16x256.size (inb_blk h b hh hb)).PackedRows (EltTy.packing .bf16) := by
  refine .inr ⟨by decide, rfl, .inl ⟨?_, ?_⟩⟩
  · show 2 ∣ 16 * b; omega
  · show 2 ∣ 16; decide
theorem bc_1_16 : S1x256.Broadcasts S16x256 := by decide
theorem cast_2_8 : S16x256.ShapeCasts S2x8x256 := by decide
theorem red_2_8 : S2x8x256.Reduces [0] S8x256 := by decide
theorem red_16 : S16x256.Reduces [0] S256 := by decide
theorem cast_256 : S256.ShapeCasts S1x256 := by decide
theorem cast_16x256 : S16x256.ShapeCasts S16x256 := by decide
theorem bits_lt : FTy.bits .bf16 < FTy.bits .f32 := by decide
theorem pos_16x256 : 0 < S16x256.numel := by decide
theorem slices_mc (h : Nat) (hh : h < 2) : S1x512.Slices ![0, 256 * h] S1x256 := by
  refine ⟨rfl, fun a => ?_⟩
  match a with
  | ⟨0, _⟩ => show 0 + 1 ≤ 1; omega
  | ⟨1, _⟩ => show 256 * h + 256 ≤ 512; omega
theorem cat_1 : Shape.Concatenates [S1x256, S1x256] S1x512 1 := by decide
theorem cat_8 : Shape.Concatenates [S8x256, S8x256] S8x512 1 := by decide
theorem bc_1_8 : S1x512.Broadcasts S8x512 := by decide
theorem cast_8x512 : S8x512.ShapeCasts S8x512 := by decide
theorem cast_1x512 : S1x512.ShapeCasts S1x512 := by decide
theorem pos_1x512 : 0 < S1x512.numel := by decide
theorem pos_8x512 : 0 < S8x512.numel := by decide
theorem pos_1024x512 : 0 < S1024x512.numel := by decide
theorem pos_1024x128 : 0 < S1024x128.numel := by decide
theorem inb_row (r : Nat) (hr : r < 16) : ∀ a, (![r, 0] : Fin 2 → Nat) a + S1x512.size a ≤ S16x512.size a := by
  intro a
  match a with
  | ⟨0, _⟩ => show r + 1 ≤ 16; omega
  | ⟨1, _⟩ => show 0 + 512 ≤ 512; omega
theorem inb_L : ∀ a, (![8, 0] : Fin 2 → Nat) a + S8x512.size a ≤ S16x512.size a := by decide
theorem inb_slot : ∀ a, (![0, 0] : Fin 2 → Nat) a + S1024x512.size a ≤ S1024x512.size a := by decide

/-- Block `b` of a chunk's scores. -/
abbrev rBlk (h b : Nat) (hh : h < 2) (hb : b < 64) : Rect S1024x512 :=
  Rect.unit (s := S1024x512) ![16 * b, 256 * h] S16x256.size (inb_blk h b hh hb)
/-- Row `r` of the running sums. -/
abbrev rRow (r : Nat) (hr : r < 16) : Rect S16x512 := Rect.unit (s := S16x512) ![r, 0] S1x512.size (inb_row r hr)
/-- The eight rows of the denominators. -/
abbrev rL : Rect S16x512 := Rect.unit (s := S16x512) ![8, 0] S8x512.size inb_L
/-- A whole buffer of weights. -/
abbrev rSlot : Rect S1024x512 := Rect.unit (s := S1024x512) ![0, 0] S1024x512.size inb_slot
/-- The whole accumulator. -/
abbrev rAcc {dv : Nat} (hs : Sides dv) : Rect (SO dv) := Rect.unit (s := SO dv) ![0, 0] (SO dv).size hs.inb

variable {F : FTy → Type} [FloatOps F]

/-! ### Values -/

/-- A chunk's scores against half of the query columns. -/
def scores (k : FVec F S1024x128 .bf16) (q : FVec F S128x256 .bf16) : FVec F S1024x256 .f32 :=
  matmul dotS none k q (constant S1024x256 .f32 0x00000000#32)

/-- The powers of two of block `b`, the column maxima `mc` taken off. -/
def blk (s : FVec F S1024x256 .f32) (mc : FVec F S1x256 .f32) (b : Nat) (hb : b < 64) : FVec F S16x256 .f32 :=
  exp2 (subf (extractStridedSlice S16x256 ![16 * b, 0] s (slices_blk b hb)) (broadcastTo S16x256 mc bc_1_16))

/-- Sixteen rows summed to eight. -/
def blkSum (p : FVec F S16x256 .f32) : FVec F S8x256 .f32 :=
  multiReduction .add [0] S8x256 (shapeCast S2x8x256 p cast_2_8) 0x00000000#32 red_2_8 (.inl rfl) rfl

/-- Sums and maxima over the `n` blocks from block `b` on. -/
def foldBlk (s : FVec F S1024x256 .f32) (mc : FVec F S1x256 .f32) : (n b : Nat) → b + n = 64 → FVec F S8x256 .f32 → FVec F S16x256 .f32 →
    FVec F S8x256 .f32 × FVec F S16x256 .f32
  | 0, _, _, ps, pm => (ps, pm)
  | n + 1, b, hb, ps, pm =>
      foldBlk s mc n (b + 1) (by omega) (addf ps (blkSum (blk s mc b (by omega)))) (maximumf pm (blk s mc b (by omega)))

/-- A buffer of weights after the `n` blocks from block `b` on. -/
def slotBlk (s : FVec F S1024x256 .f32) (mc : FVec F S1x256 .f32) (h : Nat) (hh : h < 2) : (n b : Nat) → b + n = 64 → Vec F S1024x512 .bf16 →
    Vec F S1024x512 .bf16
  | 0, _, _, X => X
  | n + 1, b, hb, X =>
      slotBlk s mc h hh n (b + 1) (by omega)
        (put (rBlk h b hh (by omega)) X (shapeCast S16x256 (truncf .bf16 (blk s mc b (by omega)) bits_lt) cast_16x256))

/-- The sums of a half: eight partial sums per column. -/
def halfSum (s : FVec F S1024x256 .f32) (mc : FVec F S1x256 .f32) : FVec F S8x256 .f32 :=
  (foldBlk s mc 63 1 rfl (addf (broadcast S8x256 (Scalar.ofBits .f32 0x00000000#32)) (blkSum (blk s mc 0 (by omega)))) (blk s mc 0 (by omega))).1
/-- The largest of a half's powers of two per column. -/
def halfMax (s : FVec F S1024x256 .f32) (mc : FVec F S1x256 .f32) : FVec F S1x256 .f32 :=
  shapeCast S1x256 (multiReduction .maximumf [0] S256
    (foldBlk s mc 63 1 rfl (addf (broadcast S8x256 (Scalar.ofBits .f32 0x00000000#32)) (blkSum (blk s mc 0 (by omega)))) (blk s mc 0 (by omega))).2
    0xFF800000#32 red_16 (.inl rfl) rfl) cast_256

/-! ### Programs -/

variable {nD : Nat} {τ : Topo} {sig : RefSig} {Λ : Labels}

/-- One block: its powers of two into the buffer of weights. -/
def blkStore (m : Memref sig .tc .vmem S1024x512 .bf16) (hm : m.IsWhole) (h : Nat) (hh : h < 2) (b : Nat) (hb : b < 64)
    (p : FVec F S16x256 .f32) : Prog (TpuEff nD τ sig (Elt F) Λ .tc) PUnit := do
  let _ ← Prog.lift (.load m (rBlk h b hh hb).toLoadRect (View.loadsAt_vmem pos_16x256))
  Prog.lift (.store m (rBlk h b hh hb) (shapeCast S16x256 (truncf .bf16 p bits_lt) cast_16x256) Finset.univ
    (View.stores_vmem pos_16x256 (hm.storeExact_slice rfl _ (packed_blk h b hh hb)) (fun _ => rfl)) (.inl rfl))

/-- The `n` blocks from block `b` on. -/
def blkLoop (m : Memref sig .tc .vmem S1024x512 .bf16) (hm : m.IsWhole) (s : FVec F S1024x256 .f32) (mc : FVec F S1x256 .f32) (h : Nat) (hh : h < 2) :
    (n b : Nat) → b + n = 64 → FVec F S8x256 .f32 → FVec F S16x256 .f32 →
    Prog (TpuEff nD τ sig (Elt F) Λ .tc) (FVec F S8x256 .f32 × FVec F S16x256 .f32)
  | 0, _, _, ps, pm => .ret (ps, pm)
  | n + 1, b, hb, ps, pm => do
      blkStore m hm h hh b (by omega) (blk s mc b (by omega))
      blkLoop m hm s mc h hh n (b + 1) (by omega) (addf ps (blkSum (blk s mc b (by omega)))) (maximumf pm (blk s mc b (by omega)))

/-- One half of a chunk. -/
def halfProg (m : Memref sig .tc .vmem S1024x512 .bf16) (hm : m.IsWhole) (s : FVec F S1024x256 .f32) (mc : FVec F S1x256 .f32) (h : Nat) (hh : h < 2) :
    Prog (TpuEff nD τ sig (Elt F) Λ .tc) (FVec F S8x256 .f32 × FVec F S1x256 .f32) := do
  blkStore m hm h hh 0 (by omega) (blk s mc 0 (by omega))
  let z ← blkLoop m hm s mc h hh 63 1 rfl (addf (broadcast S8x256 (Scalar.ofBits .f32 0x00000000#32)) (blkSum (blk s mc 0 (by omega)))) (blk s mc 0 (by omega))
  .ret (z.1, shapeCast S1x256 (multiReduction .maximumf [0] S256 z.2 0xFF800000#32 red_16 (.inl rfl) rfl) cast_256)

/-- Two slabs of values side by side. -/
def slabs {dv : Nat} (hs : Sides dv) (v0 v1 : Vec F (SV1 dv) .bf16) : FVec F (SVC dv) .bf16 :=
  concatenate (SVC dv) 1 [⟨SO dv, shapeCast (SO dv) v0 hs.slab⟩, ⟨SO dv, shapeCast (SO dv) v1 hs.slab⟩] hs.cat

/-- The accumulator after a chunk's weights `p` meet its values. -/
def accNew {dv : Nat} (hs : Sides dv) (v0 v1 : Vec F (SV1 dv) .bf16) (acc : Vec F (SO dv) .f32) (p : Vec F S1024x512 .bf16)
    (sc : Vec F S1x512 .f32) : FVec F (SO dv) .f32 :=
  mulf (addf acc (matmul (dotV hs) none (slabs hs v0 v1) p (constant (SO dv) .f32 0x00000000#32))) (broadcastTo (SO dv) sc hs.bc)

/-- The weights of a chunk met with its values, whose slabs are at `o0` and `o1`. -/
def weightProg {dv : Nat} (hs : Sides dv) (mv : Memref sig .tc .vmem (SV dv) .bf16) (mp : Memref sig .tc .vmem S1024x512 .bf16)
    (ma : Memref sig .tc .vmem (SO dv) .f32)
    (o0 : Fin 3 → Nat) (h0 : ∀ a, o0 a + (SV1 dv).size a ≤ (SV dv).size a) (o1 : Fin 3 → Nat) (h1 : ∀ a, o1 a + (SV1 dv).size a ≤ (SV dv).size a)
    (sc : Vec F S1x512 .f32) : Prog (TpuEff nD τ sig (Elt F) Λ .tc) PUnit := do
  let v0 ← Prog.lift (.load mv (Rect.unit (s := SV dv) o0 (SV1 dv).size h0).toLoadRect (View.loadsAt_vmem hs.pos1))
  let v1 ← Prog.lift (.load mv (Rect.unit (s := SV dv) o1 (SV1 dv).size h1).toLoadRect (View.loadsAt_vmem hs.pos1))
  let acc ← Prog.lift (.load ma (rAcc hs).toLoadRect (View.loadsAt_vmem hs.pos))
  let p ← Prog.lift (.load mp rSlot.toLoadRect (View.loadsAt_vmem pos_1024x512))
  let _ ← Prog.lift (.load ma (rAcc hs).toLoadRect (View.loadsAt_vmem hs.pos))
  Prog.lift (.store ma (rAcc hs) (shapeCast (SO dv) (accNew hs v0 v1 acc p sc) hs.self) Finset.univ (View.stores_vmem_bits_univ hs.pos rfl) (.inl rfl))

/-- One row of the running sums replaced. -/
def rowProg (ms : Memref sig .tc .vmem S16x512 .f32) (r : Nat) (hr : r < 16) (x : FVec F S1x512 .f32) :
    Prog (TpuEff nD τ sig (Elt F) Λ .tc) PUnit := do
  let _ ← Prog.lift (.load ms (rRow r hr).toLoadRect (View.loadsAt_vmem pos_1x512))
  Prog.lift (.store ms (rRow r hr) (shapeCast S1x512 x cast_1x512) Finset.univ (View.stores_vmem_bits_univ pos_1x512 rfl) (.inl rfl))

/-- The larger of a chunk's largest power of two and one. -/
def bigOf (pmax : FVec F S1x512 .f32) : FVec F S1x512 .f32 := maximumf pmax (broadcast S1x512 (Scalar.ofBits .f32 0x3F800000#32))
/-- The factor that brings the sums to the new maxima. -/
def scaleOf (pmax : FVec F S1x512 .f32) : FVec F S1x512 .f32 := divf (broadcast S1x512 (Scalar.ofBits .f32 0x3F800000#32)) (bigOf pmax)
/-- The denominators after a chunk. -/
def lNew (pmax : FVec F S1x512 .f32) (l : Vec F S8x512 .f32) (s0 s1 : FVec F S8x256 .f32) : FVec F S8x512 .f32 :=
  mulf (addf l (concatenate S8x512 1 [⟨S8x256, s0⟩, ⟨S8x256, s1⟩] cat_8)) (broadcastTo S8x512 (scaleOf pmax) bc_1_8)
/-- The maxima after a chunk; `lc` is the logarithm's factor. -/
def mNew (lc : F .f32) (pmax : FVec F S1x512 .f32) (m : Vec F S1x512 .f32) : FVec F S1x512 .f32 :=
  addf m (mulf (log (bigOf pmax)) (broadcast S1x512 lc))

/-- The running sums after a chunk: denominators, maxima, factor, flag. -/
def updProg (ms : Memref sig .tc .vmem S16x512 .f32) (lc : F .f32) (pmax : FVec F S1x512 .f32) (m : Vec F S1x512 .f32) (s0 s1 : FVec F S8x256 .f32) :
    Prog (TpuEff nD τ sig (Elt F) Λ .tc) PUnit := do
  let l ← Prog.lift (.load ms rL.toLoadRect (View.loadsAt_vmem pos_8x512))
  let _ ← Prog.lift (.load ms rL.toLoadRect (View.loadsAt_vmem pos_8x512))
  Prog.lift (.store ms rL (shapeCast S8x512 (lNew pmax l s0 s1) cast_8x512) Finset.univ (View.stores_vmem_bits_univ pos_8x512 rfl) (.inl rfl))
  rowProg ms 0 (by omega) (mNew lc pmax m)
  rowProg ms 1 (by omega) (scaleOf pmax)
  let f : Vec F S1x512 .f32 ← Prog.lift (.load ms (rRow 2 (by omega)).toLoadRect (View.loadsAt_vmem pos_1x512))
  rowProg ms 2 (by omega) (maximumf f pmax)

/-- One chunk: its keys are the rows from `ok` on, the values of the chunk before are the slabs at `o0` and `o1`. -/
def stepProg {dv : Nat} (hs : Sides dv) (mk : Memref sig .tc .vmem S16384x128 .bf16) (mv : Memref sig .tc .vmem (SV dv) .bf16)
    (mw : Memref sig .tc .vmem S1024x512 .bf16) (hw : mw.IsWhole) (mr : Memref sig .tc .vmem S1024x512 .bf16)
    (ma : Memref sig .tc .vmem (SO dv) .f32) (ms : Memref sig .tc .vmem S16x512 .f32) (lc : F .f32)
    (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a) (o1 : Fin 3 → Nat) (h1 : ∀ a, o1 a + (SV1 dv).size a ≤ (SV dv).size a) :
    Prog (TpuEff nD τ sig (Elt F) Λ .tc) PUnit := do
  let sc ← Prog.lift (.load ms (rRow 1 (by omega)).toLoadRect (View.loadsAt_vmem pos_1x512))
  let m : Vec F S1x512 .f32 ← Prog.lift (.load ms (rRow 0 (by omega)).toLoadRect (View.loadsAt_vmem pos_1x512))
  let k : Vec F S1024x128 .bf16 ← Prog.lift (.load mk (Rect.unit (s := S16384x128) ok S1024x128.size hk).toLoadRect (View.loadsAt_vmem pos_1024x128))
  let z0 ← halfProg mw hw (scores k q0) (extractStridedSlice S1x256 ![0, 0] m (slices_mc 0 (by omega))) 0 (by omega)
  let z1 ← halfProg mw hw (scores k q1) (extractStridedSlice S1x256 ![0, 256] m (slices_mc 1 (by omega))) 1 (by omega)
  weightProg hs mv mr ma o0 h0 o1 h1 sc
  updProg ms lc (concatenate S1x512 1 [⟨S1x256, z0.2⟩, ⟨S1x256, z1.2⟩] cat_1) m z0.1 z1.1

theorem inb_st : ∀ a, (![0, 0] : Fin 2 → Nat) a + S16x512.size a ≤ S16x512.size a := by decide
theorem pos_16x512 : 0 < S16x512.numel := by decide
theorem cast_16x512 : S16x512.ShapeCasts S16x512 := by decide
theorem cast_1024x512 : S1024x512.ShapeCasts S1024x512 := by decide
theorem red_1024 : S1024x256.Reduces [0] S256 := by decide
theorem inb_key (j : Nat) (hj : j < 16) : ∀ a, (![1024 * j, 0] : Fin 2 → Nat) a + S1024x128.size a ≤ S16384x128.size a := by
  intro a
  match a with
  | ⟨0, _⟩ => show 1024 * j + 1024 ≤ 16384; omega
  | ⟨1, _⟩ => show 0 + 128 ≤ 128; omega
theorem inb_val (dv : Nat) (j : Nat) (hj : j < 32) : ∀ a, (![j, 0, 0] : Fin 3 → Nat) a + (SV1 dv).size a ≤ (SV dv).size a := by
  intro a
  match a with
  | ⟨0, _⟩ => show j + 1 ≤ 32; omega
  | ⟨1, _⟩ => show 0 + dv ≤ dv; omega
  | ⟨2, _⟩ => show 0 + 512 ≤ 512; omega
theorem packed_slot :
    (Rect.unit (s := S1024x512) ![0, 0] S1024x512.size inb_slot).PackedRows (EltTy.packing .bf16) := by
  refine .inr ⟨by decide, rfl, .inl ⟨?_, ?_⟩⟩
  · show 2 ∣ 0; decide
  · show 2 ∣ 1024; decide
/-- All the running sums. -/
abbrev rSt : Rect S16x512 := Rect.unit (s := S16x512) ![0, 0] S16x512.size inb_st
/-- The keys of chunk `j`. -/
abbrev rKey (j : Nat) (hj : j < 16) : Rect S16384x128 := Rect.unit (s := S16384x128) ![1024 * j, 0] S1024x128.size (inb_key j hj)

/-- The first maxima: those of the first chunk's scores. -/
def firstMax (k : FVec F S1024x128 .bf16) (q0 q1 : FVec F S128x256 .bf16) : FVec F S1x512 .f32 :=
  concatenate S1x512 1
    [⟨S1x256, shapeCast S1x256 (multiReduction .maximumf [0] S256 (scores k q0) 0xFF800000#32 red_1024 (.inl rfl) rfl) cast_256⟩,
     ⟨S1x256, shapeCast S1x256 (multiReduction .maximumf [0] S256 (scores k q1) 0xFF800000#32 red_1024 (.inl rfl) rfl) cast_256⟩] cat_1

/-- The start: no sums yet, the first maxima, the factor one, no weights. -/
def initProg {dv : Nat} (hs : Sides dv) (mk : Memref sig .tc .vmem S16384x128 .bf16)
    (m2 : Memref sig .tc .vmem S1024x512 .bf16) (h2 : m2.IsWhole)
    (ma : Memref sig .tc .vmem (SO dv) .f32) (ms : Memref sig .tc .vmem S16x512 .f32)
    (q0 q1 : FVec F S128x256 .bf16) : Prog (TpuEff nD τ sig (Elt F) Λ .tc) PUnit := do
  let k : Vec F S1024x128 .bf16 ← Prog.lift (.load mk (rKey 0 (by omega)).toLoadRect (View.loadsAt_vmem pos_1024x128))
  let _ ← Prog.lift (.load ms rSt.toLoadRect (View.loadsAt_vmem pos_16x512))
  Prog.lift (.store ms rSt (shapeCast S16x512 (broadcast S16x512 (Scalar.ofBits .f32 0x00000000#32 : F .f32)) cast_16x512) Finset.univ
    (View.stores_vmem_bits_univ pos_16x512 rfl) (.inl rfl))
  rowProg ms 0 (by omega) (firstMax k q0 q1)
  rowProg ms 1 (by omega) (broadcast S1x512 (Scalar.ofBits .f32 0x3F800000#32))
  let _ ← Prog.lift (.load ma (rAcc hs).toLoadRect (View.loadsAt_vmem hs.pos))
  Prog.lift (.store ma (rAcc hs) (shapeCast (SO dv) (broadcast (SO dv) (Scalar.ofBits .f32 0x00000000#32 : F .f32)) hs.self) Finset.univ
    (View.stores_vmem_bits_univ hs.pos rfl) (.inl rfl))
  let _ ← Prog.lift (.load m2 rSlot.toLoadRect (View.loadsAt_vmem pos_1024x512))
  Prog.lift (.store m2 rSlot (shapeCast S1024x512 (broadcast S1024x512 (Scalar.ofBits .bf16 0x0000#16 : F .bf16)) cast_1024x512) Finset.univ
    (View.stores_vmem pos_1024x512 (h2.storeExact_slice rfl _ packed_slot) (fun _ => rfl)) (.inl rfl))

/-- A loop of six chunks a trip: where each chunk's keys and the values of the chunk before lie. -/
structure Offs (dv : Nat) where
  loop : Scf.Loop 32
  ok : loop.OK
  key : Fin loop.trips → Fin 6 → Fin 2 → Nat
  key_inb : ∀ t u a, key t u a + S1024x128.size a ≤ S16384x128.size a
  val : Fin loop.trips → Fin 6 → Fin 2 → Fin 3 → Nat
  val_inb : ∀ t u r a, val t u r a + (SV1 dv).size a ≤ (SV dv).size a

section flash
variable {dv : Nat} (hs : Sides dv) (o : Offs dv) (mk : Memref sig .tc .vmem S16384x128 .bf16) (mv : Memref sig .tc .vmem (SV dv) .bf16)
    (m0 : Memref sig .tc .vmem S1024x512 .bf16) (h0 : m0.IsWhole) (m1 : Memref sig .tc .vmem S1024x512 .bf16) (h1 : m1.IsWhole)
    (m2 : Memref sig .tc .vmem S1024x512 .bf16) (h2 : m2.IsWhole)
    (ma : Memref sig .tc .vmem (SO dv) .f32) (ms : Memref sig .tc .vmem S16x512 .f32) (lc : F .f32) (q0 q1 : FVec F S128x256 .bf16)

/-- Chunk `j`, before the loop; `jv` is the chunk whose weights meet their values. -/
def leadStep (mw : Memref sig .tc .vmem S1024x512 .bf16) (hw : mw.IsWhole) (mr : Memref sig .tc .vmem S1024x512 .bf16)
    (j : Nat) (hj : j < 16) (jv : Nat) (hjv : jv < 16) : Prog (TpuEff nD τ sig (Elt F) Λ .tc) PUnit :=
  stepProg hs mk mv mw hw mr ma ms lc q0 q1 ![1024 * j, 0] (inb_key j hj)
    ![2 * jv, 0, 0] (inb_val dv (2 * jv) (by omega)) ![2 * jv + 1, 0, 0] (inb_val dv (2 * jv + 1) (by omega))

/-- Chunk `4 + 6 t + u`. -/
def tripStep (mw : Memref sig .tc .vmem S1024x512 .bf16) (hw : mw.IsWhole) (mr : Memref sig .tc .vmem S1024x512 .bf16)
    (t : Fin o.loop.trips) (u : Fin 6) : Prog (TpuEff nD τ sig (Elt F) Λ .tc) PUnit :=
  stepProg hs mk mv mw hw mr ma ms lc q0 q1 (o.key t u) (o.key_inb t u) (o.val t u 0) (o.val_inb t u 0) (o.val t u 1) (o.val_inb t u 1)

/-- Six chunks, writing the three buffers of weights in turn. -/
def tripProg (t : Fin o.loop.trips) : Prog (TpuEff nD τ sig (Elt F) Λ .tc) PUnit := do
  tripStep hs o mk mv ma ms lc q0 q1 m1 h1 m0 t 0
  tripStep hs o mk mv ma ms lc q0 q1 m2 h2 m1 t 1
  tripStep hs o mk mv ma ms lc q0 q1 m0 h0 m2 t 2
  tripStep hs o mk mv ma ms lc q0 q1 m1 h1 m0 t 3
  tripStep hs o mk mv ma ms lc q0 q1 m2 h2 m1 t 4
  tripStep hs o mk mv ma ms lc q0 q1 m0 h0 m2 t 5

/-- The last chunk's weights met with their values. -/
def lastProg : Prog (TpuEff nD τ sig (Elt F) Λ .tc) PUnit := do
  let sc : Vec F S1x512 .f32 ← Prog.lift (.load ms (rRow 1 (by omega)).toLoadRect (View.loadsAt_vmem pos_1x512))
  weightProg hs mv m0 ma ![30, 0, 0] (inb_val dv 30 (by omega)) ![31, 0, 0] (inb_val dv 31 (by omega)) sc

/-- The start and the first four chunks. -/
def headProg : Prog (TpuEff nD τ sig (Elt F) Λ .tc) PUnit := do
  initProg hs mk m2 h2 ma ms q0 q1
  leadStep hs mk mv ma ms lc q0 q1 m0 h0 m2 0 (by omega) 0 (by omega)
  leadStep hs mk mv ma ms lc q0 q1 m1 h1 m0 1 (by omega) 0 (by omega)
  leadStep hs mk mv ma ms lc q0 q1 m2 h2 m1 2 (by omega) 1 (by omega)
  leadStep hs mk mv ma ms lc q0 q1 m0 h0 m2 3 (by omega) 2 (by omega)

end flash

end Cert.Attn

end
-- ==== Proof.Body.lean ====
/- The kernel's body: the query heads of a key-value head set against its columns, sixteen chunks of keys, the
   quotient of the sums, and the heads put back side by side. -/
module

public import proofs.«01_k».proof.Proof.Step
public import proofs.«01_k».proof.KernelIdeal
public import Idealize.ShloMosaic.Lib.Tactic
public import proofs.«01_k».proof.Proof.Gen.KernelIdeal

@[expose] public section

set_option maxRecDepth 16384

noncomputable section

namespace Cert.KernelIdeal.Hand

open Idealize.ShloMosaic Idealize.ShloMosaic.Tactic
open Cert.Attn (Sides Offs headProg tripProg lastProg rRow rL)

open Idealize.SL.Sem
open Facts₀ Facts

variable {F : FTy → Type} [FloatOps F] [Named F]

/-- The shape conditions for 64 value columns. -/
theorem sides64 : Sides 64 where
  slab := by decide
  cat := by decide
  bc := by decide
  self := by decide
  pos := by decide
  pos1 := by decide
  inb := by decide
  wf := by decide

/-- The factor that turns a natural logarithm into one to base two. -/
def lc : F .f32 := Named.named κ "log2_e" 0x3FB8AA3B#32

/-- Where the loop's chunks lie. -/
def offs : Offs 64 where
  loop := k0_t1_loop
  ok := k0_t1_ok
  key t u := k0_off2 t (BitVec.ofNat 32 u.val)
  key_inb := k0_off2_inb
  val t u r := k0_off3 t (BitVec.ofNat 32 u.val) (BitVec.ofNat 32 r.val)
  val_inb := k0_off3_inb

/-- A lane's number. -/
def lane : IVec S128x128 32 := iota .tc S128x128 32 [1] iota_S128x128_d1_w32
/-- A lane's head of 64 columns: the quotient of its number by 64. -/
def group : IVec S128x128 32 :=
  select (andi
    (cmpi .ne (subi (extui 32 (cmpi .sgt lane (broadcast S128x128 0#32)) natLt_1_32) (extui 32 (cmpi .slt lane (broadcast S128x128 0#32)) natLt_1_32))
      (broadcast S128x128 (Scalar.subi (Scalar.extui (Scalar.cmpi .sgt 64#32 0#32)) (Scalar.extui (Scalar.cmpi .slt 64#32 0#32)))))
    (cmpi .ne (remsi lane (broadcast S128x128 64#32)) (broadcast S128x128 0#32)))
    (subi (divsi lane (broadcast S128x128 64#32)) (broadcast S128x128 1#32))
    (divsi lane (broadcast S128x128 64#32))
/-- The lanes of head `g`. -/
def mine (g : BitVec 32) : IVec S128x128 1 := cmpi .eq group (broadcast S128x128 g)
/-- The query head in half `e` of a pair, moved to the lanes of head `g`, zero elsewhere. -/
def headOf (g e : BitVec 32) (x : Vec F S128x128 .bf16) : FVec F S128x128 .f32 :=
  select (mine g) (Scalar.select (Scalar.cmpi .eq g e) (extf .f32 x bitsLt_bf16_f32) (dynamicRotate 1 64#32 none (extf .f32 x bitsLt_bf16_f32) rotates_S128x128_d1))
    (broadcast S128x128 (Scalar.ofBits .f32 0x00000000#32))
/-- The four heads' queries as columns. -/
def qcols (g : BitVec 32) (x x' y y' : Vec F S128x128 .bf16) : FVec F S128x512 .bf16 :=
  truncf .bf16 (transpose S128x512 [1, 0]
    (concatenate S512x128 0 [⟨S128x128, headOf g 0#32 x⟩, ⟨S128x128, headOf g 1#32 x'⟩, ⟨S128x128, headOf g 0#32 y⟩, ⟨S128x128, headOf g 1#32 y'⟩]
      concatenates_S128x128_S128x128_S128x128_S128x128_S512x128_d0) transposes_S512x128_p1_0_S128x512) bitsLt_bf16_f32
/-- The columns of the first two heads. -/
def qc0 (g : BitVec 32) (x x' y y' : Vec F S128x128 .bf16) : FVec F S128x256 .bf16 := extractStridedSlice S128x256 ![0, 0] (qcols g x x' y y') slices_S128x512_o0_0_S128x256
/-- The columns of the last two heads. -/
def qc1 (g : BitVec 32) (x x' y y' : Vec F S128x128 .bf16) : FVec F S128x256 .bf16 := extractStridedSlice S128x256 ![0, 256] (qcols g x x' y y') slices_S128x512_o0_256_S128x256

/-- The left half of the query tile. -/
abbrev rX : Rect S128x256 := Rect.unit (s := S128x256) ![0, 0] S128x128.size inb_S128x256_S128x128_0_0
/-- The right half. -/
abbrev rY : Rect S128x256 := Rect.unit (s := S128x256) ![0, 128] S128x128.size inb_S128x256_S128x128_0_128
/-- The whole accumulator. -/
abbrev rA : Rect S64x512 := Rect.unit (s := S64x512) ![0, 0] S64x512.size inb_S64x512_S64x512_0_0
/-- The whole flag tile. -/
abbrev rFlag : Rect S8x512 := Rect.unit (s := S8x512) ![0, 0] S8x512.size inb_S8x512_S8x512_0_0

/-- The flag rows. -/
def flagOf (f : Vec F S1x512 .f32) : FVec F S8x512 .f32 := broadcastTo S8x512 (shapeCast S1x512 f shapeCasts_S1x512_S1x512) broadcasts_S1x512_S8x512
/-- The denominators: the eight partial sums added up. -/
def denOf (l : Vec F S8x512 .f32) : FVec F S1x512 .f32 :=
  shapeCast S1x512 (multiReduction .add [0] S512 l 0x00000000#32 reduces_S8x512_S512 (.inl rfl) rfl) shapeCasts_S512_S1x512
/-- The quotients, a row for each query column, padded to 128 lanes. -/
def quotT (a : Vec F S64x512 .f32) (l : FVec F S1x512 .f32) : FVec F S512x128 .f32 :=
  transpose S512x128 [1, 0] (concatenate S128x512 0
    [⟨S64x512, divf a (broadcastTo S64x512 l broadcasts_S1x512_S64x512)⟩,
     ⟨S64x512, broadcast S64x512 (Scalar.ofBits .f32 0x00000000#32)⟩] concatenates_S64x512_S64x512_S128x512_d0) transposes_S128x512_p1_0_S512x128
/-- Two heads side by side. -/
def pairOf (x y : FVec F S128x128 .f32) : FVec F S128x128 .bf16 :=
  truncf .bf16 (select (cmpi .slt lane (broadcast S128x128 64#32)) x (dynamicRotate 1 64#32 none y rotates_S128x128_d1)) bitsLt_bf16_f32
/-- The first two heads' results. -/
def outX (a : Vec F S64x512 .f32) (l : FVec F S1x512 .f32) : FVec F S128x128 .bf16 :=
  pairOf (extractStridedSlice S128x128 ![0, 0] (quotT a l) slices_S512x128_o0_0_S128x128) (extractStridedSlice S128x128 ![128, 0] (quotT a l) slices_S512x128_o128_0_S128x128)
/-- The last two heads' results. -/
def outY (a : Vec F S64x512 .f32) (l : FVec F S1x512 .f32) : FVec F S128x128 .bf16 :=
  pairOf (extractStridedSlice S128x128 ![256, 0] (quotT a l) slices_S512x128_o256_0_S128x128) (extractStridedSlice S128x128 ![384, 0] (quotT a l) slices_S512x128_o384_0_S128x128)

theorem packed_x (h : ∀ a, (![0, 0] : Fin 2 → Nat) a + S128x128.size a ≤ S128x256.size a) :
    (Rect.unit (s := S128x256) ![0, 0] S128x128.size h).PackedRows (EltTy.packing .bf16) := by
  refine .inr ⟨by decide, rfl, .inl ⟨?_, ?_⟩⟩
  · show 2 ∣ 0; decide
  · show 2 ∣ 128; decide
theorem packed_y (h : ∀ a, (![0, 128] : Fin 2 → Nat) a + S128x128.size a ≤ S128x256.size a) :
    (Rect.unit (s := S128x256) ![0, 128] S128x128.size h).PackedRows (EltTy.packing .bf16) := by
  refine .inr ⟨by decide, rfl, .inl ⟨?_, ?_⟩⟩
  · show 2 ∣ 0; decide
  · show 2 ∣ 128; decide

/-- The chunks, and what they leave: the sums of weighted values, the denominators added up, the flag rows. -/
def mainProg (g : BitVec 32) (arg2 : Memref sig .tc .vmem S128x256 .bf16) (arg3 : Memref sig .tc .vmem S16384x128 .bf16) (arg4 : Memref sig .tc .vmem S32x64x512 .bf16)
    (arg7 : Memref sig .tc .vmem S1024x512 .bf16) (h7 : arg7.IsWhole) (arg8 : Memref sig .tc .vmem S1024x512 .bf16) (h8 : arg8.IsWhole)
    (arg9 : Memref sig .tc .vmem S1024x512 .bf16) (h9 : arg9.IsWhole)
    (arg10 : Memref sig .tc .vmem S64x512 .f32) (arg11 : Memref sig .tc .vmem S16x512 .f32) :
    Prog (TpuEff nD τ sig (Elt F) Λ₀ .tc) (Σ' (_ : Vec F S64x512 .f32) (_ : FVec F S1x512 .f32), FVec F S8x512 .f32) := do
  let x : Vec F S128x128 .bf16 ← Prog.lift (.load arg2 rX.toLoadRect (View.loadsAt_vmem h_S128x128))
  let x' : Vec F S128x128 .bf16 ← Prog.lift (.load arg2 rX.toLoadRect (View.loadsAt_vmem h_S128x128))
  let y : Vec F S128x128 .bf16 ← Prog.lift (.load arg2 rY.toLoadRect (View.loadsAt_vmem h_S128x128))
  let y' : Vec F S128x128 .bf16 ← Prog.lift (.load arg2 rY.toLoadRect (View.loadsAt_vmem h_S128x128))
  headProg sides64 arg3 arg4 arg7 h7 arg8 h8 arg9 h9 arg10 arg11 lc (qc0 g x x' y y') (qc1 g x x' y y')
  Scf.Loop.for (offs).loop (offs).ok ⟨⟩ fun t _ =>
    tripProg sides64 offs arg3 arg4 arg7 h7 arg8 h8 arg9 h9 arg10 arg11 lc (qc0 g x x' y y') (qc1 g x x' y y') t
  lastProg sides64 arg4 arg7 arg10 arg11
  let a : Vec F S64x512 .f32 ← Prog.lift (.load arg10 rA.toLoadRect (View.loadsAt_vmem h_S64x512))
  let l : Vec F S8x512 .f32 ← Prog.lift (.load arg11 rL.toLoadRect (View.loadsAt_vmem h_S8x512))
  let f : Vec F S1x512 .f32 ← Prog.lift (.load arg11 (rRow 2 (by omega)).toLoadRect (View.loadsAt_vmem h_S1x512))
  .ret ⟨a, denOf l, flagOf f⟩

/-- What follows the chunks: the flag, the quotients, the heads put back. -/
def tailProg (arg5 : Memref sig .tc .vmem S128x256 .bf16) (h5 : arg5.IsWhole) (arg6 : Memref sig .tc .vmem S8x512 .f32)
    (z : Σ' (_ : Vec F S64x512 .f32) (_ : FVec F S1x512 .f32), FVec F S8x512 .f32) : Prog (TpuEff nD τ sig (Elt F) Λ₀ .tc) PUnit := do
  let _ ← Prog.lift (.load arg6 rFlag.toLoadRect (View.loadsAt_vmem h_S8x512))
  Prog.lift (.store arg6 rFlag z.2.2 Finset.univ (View.stores_vmem_bits_univ h_S8x512 rfl) (.inl rfl))
  let _ ← Prog.lift (.load arg5 rX.toLoadRect (View.loadsAt_vmem h_S128x128))
  Prog.lift (.store arg5 rX (outX z.1 z.2.1) Finset.univ (View.stores_vmem h_S128x128 (h5.storeExact_slice rfl _ (packed_x _)) (fun _ => rfl)) (.inl rfl))
  let _ ← Prog.lift (.load arg5 rY.toLoadRect (View.loadsAt_vmem h_S128x128))
  Prog.lift (.store arg5 rY (outY z.1 z.2.1) Finset.univ (View.stores_vmem h_S128x128 (h5.storeExact_slice rfl _ (packed_y _)) (fun _ => rfl)) (.inl rfl))

/-- The body. -/
def body (g : BitVec 32) (arg2 : Memref sig .tc .vmem S128x256 .bf16) (arg3 : Memref sig .tc .vmem S16384x128 .bf16) (arg4 : Memref sig .tc .vmem S32x64x512 .bf16)
    (arg5 : Memref sig .tc .vmem S128x256 .bf16) (h5 : arg5.IsWhole) (arg6 : Memref sig .tc .vmem S8x512 .f32)
    (arg7 : Memref sig .tc .vmem S1024x512 .bf16) (h7 : arg7.IsWhole) (arg8 : Memref sig .tc .vmem S1024x512 .bf16) (h8 : arg8.IsWhole)
    (arg9 : Memref sig .tc .vmem S1024x512 .bf16) (h9 : arg9.IsWhole)
    (arg10 : Memref sig .tc .vmem S64x512 .f32) (arg11 : Memref sig .tc .vmem S16x512 .f32) : Prog (TpuEff nD τ sig (Elt F) Λ₀ .tc) PUnit :=
  (mainProg g arg2 arg3 arg4 arg7 h7 arg8 h8 arg9 h9 arg10 arg11 >>= fun z => tailProg arg5 h5 arg6 z) >>= fun _ => pure ⟨⟩

/-- The printed body is this one. -/
theorem body_eq (i : grid0.Coords) (arg2 : Memref sig .tc .vmem S128x256 .bf16) (harg2 : arg2.IsWhole) (arg3 : Memref sig .tc .vmem S16384x128 .bf16) (harg3 : arg3.IsWhole) (arg4 : Memref sig .tc .vmem S32x64x512 .bf16) (harg4 : arg4.IsWhole) (arg5 : Memref sig .tc .vmem S128x256 .bf16) (harg5 : arg5.IsWhole) (arg6 : Memref sig .tc .vmem S8x512 .f32) (harg6 : arg6.IsWhole) (arg7 : Memref sig .tc .vmem S1024x512 .bf16) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S64x512 .f32) (harg10 : arg10.IsWhole) (arg11 : Memref sig .tc .vmem S16x512 .f32) (harg11 : arg11.IsWhole) :
    cc0_gqa_fast (F := F) i arg2 harg2 arg3 harg3 arg4 harg4 arg5 harg5 arg6 harg6 arg7 harg7 arg8 harg8 arg9 harg9 arg10 harg10 arg11 harg11
      = body (BitVec.ofNat 32 (i 0).val) arg2 arg3 arg4 arg5 harg5 arg6 arg7 harg7 arg8 harg8 arg9 harg9 arg10 arg11 := by
  sl_kernel_rfl

end Cert.KernelIdeal.Hand

end
-- ==== Proof.Run.lean ====
/- What the programs of the chunks do to the buffers they own, as functions of the buffers' contents. -/
module

public import proofs.«01_k».proof.Proof.Step

@[expose] public section

set_option maxRecDepth 8192

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The contents of the buffers of a flash pass. -/
structure St (dv : Nat) (F : FTy → Type) where
  k : Vec F S16384x128 .bf16
  v : Vec F (SV dv) .bf16
  p : Fin 3 → Vec F S1024x512 .bf16
  acc : Vec F (SO dv) .f32
  st : Vec F S16x512 .f32

variable {dv : Nat}

/-- Buffer `w` of weights replaced. -/
def St.setP (x : St dv F) (w : Fin 3) (X : Vec F S1024x512 .bf16) : St dv F := { x with p := Function.update x.p w X }

omit [FloatOps F] in
theorem St.setP_p (x : St dv F) (w : Fin 3) (X : Vec F S1024x512 .bf16) : (x.setP w X).p w = X := Function.update_self ..
omit [FloatOps F] in
theorem St.setP_p_ne (x : St dv F) (w r : Fin 3) (h : r ≠ w) (X : Vec F S1024x512 .bf16) : (x.setP w X).p r = x.p r := Function.update_of_ne h ..
omit [FloatOps F] in
theorem St.setP_setP (x : St dv F) (w : Fin 3) (X Y : Vec F S1024x512 .bf16) : (x.setP w X).setP w Y = x.setP w Y := by
  unfold St.setP; rw [Function.update_idem]
omit [FloatOps F] in
theorem St.setP_self (x : St dv F) (w : Fin 3) : x.setP w (x.p w) = x := by
  unfold St.setP; rw [Function.update_eq_self]

/-- A buffer of weights after half `h` of a chunk. -/
def halfSlot (s : FVec F S1024x256 .f32) (mc : FVec F S1x256 .f32) (h : Nat) (hh : h < 2) (X : Vec F S1024x512 .bf16) : Vec F S1024x512 .bf16 :=
  slotBlk s mc h hh 63 1 rfl (put (rBlk h 0 hh (by omega)) X (shapeCast S16x256 (truncf .bf16 (blk s mc 0 (by omega)) bits_lt) cast_16x256))

/-- The column maxima of half `h`. -/
def mc0 (m : Vec F S1x512 .f32) : FVec F S1x256 .f32 := extractStridedSlice S1x256 ![0, 0] m (slices_mc 0 (by omega))
def mc1 (m : Vec F S1x512 .f32) : FVec F S1x256 .f32 := extractStridedSlice S1x256 ![0, 256] m (slices_mc 1 (by omega))

/-- The weights of a chunk. -/
def slotOf (k : FVec F S1024x128 .bf16) (q0 q1 : FVec F S128x256 .bf16) (m : Vec F S1x512 .f32) (X : Vec F S1024x512 .bf16) : Vec F S1024x512 .bf16 :=
  halfSlot (scores k q1) (mc1 m) 1 (by omega) (halfSlot (scores k q0) (mc0 m) 0 (by omega) X)
/-- The largest weights of a chunk. -/
def pmaxOf (k : FVec F S1024x128 .bf16) (q0 q1 : FVec F S128x256 .bf16) (m : Vec F S1x512 .f32) : FVec F S1x512 .f32 :=
  concatenate S1x512 1 [⟨S1x256, halfMax (scores k q0) (mc0 m)⟩, ⟨S1x256, halfMax (scores k q1) (mc1 m)⟩] cat_1

/-- A row of the running sums replaced. -/
def putRow (r : Nat) (hr : r < 16) (st : Vec F S16x512 .f32) (x : FVec F S1x512 .f32) : Vec F S16x512 .f32 :=
  put (rRow r hr) st (shapeCast S1x512 x cast_1x512)
/-- The running sums after a chunk. -/
def stNew (lc : F .f32) (pmax : FVec F S1x512 .f32) (m : Vec F S1x512 .f32) (s0 s1 : FVec F S8x256 .f32) (st : Vec F S16x512 .f32) : Vec F S16x512 .f32 :=
  let st1 := putRow 1 (by omega) (putRow 0 (by omega) (put rL st (shapeCast S8x512 (lNew pmax (take rL st) s0 s1) cast_8x512)) (mNew lc pmax m)) (scaleOf pmax)
  putRow 2 (by omega) st1 (maximumf (take (rRow 2 (by omega)) st1) pmax)

/-- The accumulator after a chunk's weights meet its values. -/
def accPut (hs : Sides dv) (v : Vec F (SV dv) .bf16) (p : Vec F S1024x512 .bf16) (o0 : Fin 3 → Nat) (h0 : ∀ a, o0 a + (SV1 dv).size a ≤ (SV dv).size a)
    (o1 : Fin 3 → Nat) (h1 : ∀ a, o1 a + (SV1 dv).size a ≤ (SV dv).size a) (sc : Vec F S1x512 .f32) (acc : Vec F (SO dv) .f32) : Vec F (SO dv) .f32 :=
  put (rAcc hs) acc (shapeCast (SO dv)
    (accNew hs (take (Rect.unit (s := SV dv) o0 (SV1 dv).size h0) v) (take (Rect.unit (s := SV dv) o1 (SV1 dv).size h1) v)
      (take (rAcc hs) acc) (take rSlot p) sc) hs.self)

/-- All the contents after a chunk that writes the weights `w` and reads the weights `r`. -/
def stepSt (hs : Sides dv) (w r : Fin 3) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) : St dv F :=
  let sc := take (rRow 1 (by omega)) x.st
  let m := take (rRow 0 (by omega)) x.st
  let k := take (Rect.unit (s := S16384x128) ok S1024x128.size hk) x.k
  let y := x.setP w (slotOf k q0 q1 m (x.p w))
  { y with
    acc := accPut hs x.v (y.p r) o0 h0 o1 h1 sc x.acc
    st := stNew lc (pmaxOf k q0 q1 m) m (halfSum (scores k q0) (mc0 m)) (halfSum (scores k q1) (mc1 m)) x.st }

/-- The contents at the start. -/
def initSt (hs : Sides dv) (q0 q1 : FVec F S128x256 .bf16) (x : St dv F) : St dv F :=
  { x with
    st := putRow 1 (by omega) (putRow 0 (by omega)
      (put rSt x.st (shapeCast S16x512 (broadcast S16x512 (Scalar.ofBits .f32 0x00000000#32 : F .f32)) cast_16x512))
      (firstMax (take (rKey 0 (by omega)) x.k) q0 q1)) (broadcast S1x512 (Scalar.ofBits .f32 0x3F800000#32))
    acc := put (rAcc hs) x.acc (shapeCast (SO dv) (broadcast (SO dv) (Scalar.ofBits .f32 0x00000000#32 : F .f32)) hs.self)
    p := Function.update x.p 2 (put rSlot (x.p 2) (shapeCast S1024x512 (broadcast S1024x512 (Scalar.ofBits .bf16 0x0000#16 : F .bf16)) cast_1024x512)) }

/-- The contents after chunk `j`, before the loop. -/
def leadSt (hs : Sides dv) (lc : F .f32) (q0 q1 : FVec F S128x256 .bf16) (w r : Fin 3) (j : Nat) (hj : j < 16) (jv : Nat) (hjv : jv < 16) (x : St dv F) : St dv F :=
  stepSt hs w r lc q0 q1 ![1024 * j, 0] (inb_key j hj) ![2 * jv, 0, 0] (inb_val dv (2 * jv) (by omega)) ![2 * jv + 1, 0, 0] (inb_val dv (2 * jv + 1) (by omega)) x

/-- The contents after chunk `4 + 6 t + u`. -/
def tripStepSt (hs : Sides dv) (o : Offs dv) (lc : F .f32) (q0 q1 : FVec F S128x256 .bf16) (w r : Fin 3) (t : Fin o.loop.trips) (u : Fin 6) (x : St dv F) : St dv F :=
  stepSt hs w r lc q0 q1 (o.key t u) (o.key_inb t u) (o.val t u 0) (o.val_inb t u 0) (o.val t u 1) (o.val_inb t u 1) x

/-- The contents after a trip. -/
def tripSt (hs : Sides dv) (o : Offs dv) (lc : F .f32) (q0 q1 : FVec F S128x256 .bf16) (t : Fin o.loop.trips) (x : St dv F) : St dv F :=
  tripStepSt hs o lc q0 q1 0 2 t 5 (tripStepSt hs o lc q0 q1 2 1 t 4 (tripStepSt hs o lc q0 q1 1 0 t 3
    (tripStepSt hs o lc q0 q1 0 2 t 2 (tripStepSt hs o lc q0 q1 2 1 t 1 (tripStepSt hs o lc q0 q1 1 0 t 0 x)))))

/-- The contents after the first four chunks. -/
def headSt (hs : Sides dv) (lc : F .f32) (q0 q1 : FVec F S128x256 .bf16) (x : St dv F) : St dv F :=
  leadSt hs lc q0 q1 0 2 3 (by omega) 2 (by omega) (leadSt hs lc q0 q1 2 1 2 (by omega) 1 (by omega)
    (leadSt hs lc q0 q1 1 0 1 (by omega) 0 (by omega) (leadSt hs lc q0 q1 0 2 0 (by omega) 0 (by omega) (initSt hs q0 q1 x))))

/-- The contents after the last weights meet their values. -/
def lastSt (hs : Sides dv) (x : St dv F) : St dv F :=
  { x with acc := accPut hs x.v (x.p 0) ![30, 0, 0] (inb_val dv 30 (by omega)) ![31, 0, 0] (inb_val dv 31 (by omega)) (take (rRow 1 (by omega)) x.st) x.acc }

/-- The contents at the end. -/
def flashSt (hs : Sides dv) (o : Offs dv) (lc : F .f32) (q0 q1 : FVec F S128x256 .bf16) (x : St dv F) : St dv F :=
  lastSt hs ((List.finRange o.loop.trips).foldl (fun y t => tripSt hs o lc q0 q1 t y) (headSt hs lc q0 q1 x))

/-! ### The programs do that -/

variable {nD : Nat} {τ : Topo} {sig : RefSig} {Ix : Type} [DecidableEq Ix]
variable {Name : Type} [DecidableEq Name] {U : Type} [URA U] {Lvl : Type} {Λ : Labels} [Preorder Lvl]

/-- The buffers of a flash pass. -/
structure Mems (sig : RefSig) (dv : Nat) where
  k : Memref sig .tc .vmem S16384x128 .bf16
  v : Memref sig .tc .vmem (SV dv) .bf16
  p : Fin 3 → Memref sig .tc .vmem S1024x512 .bf16
  hp : ∀ w, (p w).IsWhole
  acc : Memref sig .tc .vmem (SO dv) .f32
  st : Memref sig .tc .vmem S16x512 .f32

local notation "𝕄" => MT nD τ sig Ix (Elt F) Name U Lvl

variable {defs : Defs nD τ sig (Elt F) Λ} {𝒱 : Variants} {c : Dev nD} {bd : Option 𝒱.V} {E : Set Name}

/-- The buffers hold the contents. -/
def Mems.own (M : Mems sig dv) (c : Dev nD) (x : St dv F) : sProp 𝕄 :=
  iprop(owns (c : Thread nD τ) M.k fullShare x.k ∗ owns (c : Thread nD τ) M.v fullShare x.v ∗ owns (c : Thread nD τ) (M.p 0) fullShare (x.p 0)
    ∗ owns (c : Thread nD τ) (M.p 1) fullShare (x.p 1) ∗ owns (c : Thread nD τ) (M.p 2) fullShare (x.p 2)
    ∗ owns (c : Thread nD τ) M.acc fullShare x.acc ∗ owns (c : Thread nD τ) M.st fullShare x.st)

variable (M : Mems sig dv)

theorem cell_k : Cell (Ix := Ix) (Name := Name) (U := U) (Lvl := Lvl) (c : Thread nD τ) (M.own (F := F) c) M.k (fun x => x.k) (fun x X => { x with k := X }) where
  focus x := by
    unfold Mems.own
    iintro ⟨H0, H1, H2, H3, H4, H5, H6⟩
    isplitl [H0]; · iexact H0
    iintro %X H0
    iframe
  set_get _ := rfl

theorem cell_v : Cell (Ix := Ix) (Name := Name) (U := U) (Lvl := Lvl) (c : Thread nD τ) (M.own (F := F) c) M.v (fun x => x.v) (fun x X => { x with v := X }) where
  focus x := by
    unfold Mems.own
    iintro ⟨H0, H1, H2, H3, H4, H5, H6⟩
    isplitl [H1]; · iexact H1
    iintro %X H1
    iframe
  set_get _ := rfl

theorem cell_acc : Cell (Ix := Ix) (Name := Name) (U := U) (Lvl := Lvl) (c : Thread nD τ) (M.own (F := F) c) M.acc (fun x => x.acc) (fun x X => { x with acc := X }) where
  focus x := by
    unfold Mems.own
    iintro ⟨H0, H1, H2, H3, H4, H5, H6⟩
    isplitl [H5]; · iexact H5
    iintro %X H5
    iframe
  set_get _ := rfl

theorem cell_st : Cell (Ix := Ix) (Name := Name) (U := U) (Lvl := Lvl) (c : Thread nD τ) (M.own (F := F) c) M.st (fun x => x.st) (fun x X => { x with st := X }) where
  focus x := by
    unfold Mems.own
    iintro ⟨H0, H1, H2, H3, H4, H5, H6⟩
    isplitl [H6]; · iexact H6
    iintro %X H6
    iframe
  set_get _ := rfl

theorem cell_p (w : Fin 3) : Cell (Ix := Ix) (Name := Name) (U := U) (Lvl := Lvl) (c : Thread nD τ) (M.own (F := F) c) (M.p w) (fun x => x.p w) (fun x X => x.setP w X) where
  focus x := by
    unfold Mems.own
    match w with
    | 0 =>
      iintro ⟨H0, H1, H2, H3, H4, H5, H6⟩
      isplitl [H2]; · iexact H2
      iintro %X H2
      rw [St.setP_p, St.setP_p_ne _ 0 1 (by decide), St.setP_p_ne _ 0 2 (by decide)]
      unfold St.setP
      iframe
    | 1 =>
      iintro ⟨H0, H1, H2, H3, H4, H5, H6⟩
      isplitl [H3]; · iexact H3
      iintro %X H3
      rw [St.setP_p, St.setP_p_ne _ 1 0 (by decide), St.setP_p_ne _ 1 2 (by decide)]
      unfold St.setP
      iframe
    | 2 =>
      iintro ⟨H0, H1, H2, H3, H4, H5, H6⟩
      isplitl [H4]; · iexact H4
      iintro %X H4
      rw [St.setP_p, St.setP_p_ne _ 2 0 (by decide), St.setP_p_ne _ 2 1 (by decide)]
      unfold St.setP
      iframe
  set_get x := St.setP_self x w

/-- A program over the buffers of a flash pass takes the contents `x` to `y` and returns `a`. -/
abbrev Does {α : Type} (defs : Defs nD τ sig (Elt F) Λ) (𝒱 : Variants) (c : Dev nD) (bd : Option 𝒱.V) (E : Set Name) (M : Mems sig dv)
    (p : Prog (TpuEff nD τ sig (Elt F) Λ .tc) α) (x : St dv F) (a : α) (y : St dv F) : Prop :=
  Runs (Ix := Ix) (U := U) (Lvl := Lvl) defs 𝒱 (c : Thread nD τ) bd E (M.own (F := F) c) p x a y

local notation "does" => Does (Ix := Ix) (U := U) (Lvl := Lvl) defs 𝒱 c bd E M

theorem blkStore_does (w : Fin 3) (h : Nat) (hh : h < 2) (b : Nat) (hb : b < 64) (p : FVec F S16x256 .f32) (x : St dv F) :
    does (blkStore (M.p w) (M.hp w) h hh b hb p) x ⟨⟩
      (x.setP w (put (rBlk h b hh hb) (x.p w) (shapeCast S16x256 (truncf .bf16 p bits_lt) cast_16x256))) :=
  .bind ((cell_p M w).load _ _ _) ((cell_p M w).store _ _ _ _ _)

theorem blkLoop_does (w : Fin 3) (s : FVec F S1024x256 .f32) (mc : FVec F S1x256 .f32) (h : Nat) (hh : h < 2) (n b : Nat) (hb : b + n = 64)
    (ps : FVec F S8x256 .f32) (pm : FVec F S16x256 .f32) (x : St dv F) :
    does (blkLoop (M.p w) (M.hp w) s mc h hh n b hb ps pm) x (foldBlk s mc n b hb ps pm) (x.setP w (slotBlk s mc h hh n b hb (x.p w))) := by
  induction n generalizing b ps pm x with
  | zero => unfold blkLoop foldBlk slotBlk; rw [St.setP_self]; exact .ret _ _
  | succ n ih =>
    unfold blkLoop foldBlk slotBlk
    refine .bind (blkStore_does M w h hh b _ _ x) ?_
    have := ih (b + 1) (by omega) (addf ps (blkSum (blk s mc b (by omega)))) (maximumf pm (blk s mc b (by omega)))
      (x.setP w (put (rBlk h b hh (by omega)) (x.p w) (shapeCast S16x256 (truncf .bf16 (blk s mc b (by omega)) bits_lt) cast_16x256)))
    rw [St.setP_setP, St.setP_p] at this
    exact this

theorem halfProg_does (w : Fin 3) (s : FVec F S1024x256 .f32) (mc : FVec F S1x256 .f32) (h : Nat) (hh : h < 2) (x : St dv F) :
    does (halfProg (M.p w) (M.hp w) s mc h hh) x (halfSum s mc, halfMax s mc) (x.setP w (halfSlot s mc h hh (x.p w))) := by
  unfold halfProg halfSum halfMax halfSlot
  refine .bind (blkStore_does M w h hh 0 _ _ x) (.bind (blkLoop_does M w s mc h hh 63 1 rfl _ _ _) ?_)
  rw [St.setP_setP, St.setP_p]
  exact .ret _ _

theorem weightProg_does (hs : Sides dv) (r : Fin 3) (o0 : Fin 3 → Nat) (h0 : ∀ a, o0 a + (SV1 dv).size a ≤ (SV dv).size a) (o1 : Fin 3 → Nat)
    (h1 : ∀ a, o1 a + (SV1 dv).size a ≤ (SV dv).size a) (sc : Vec F S1x512 .f32) (x : St dv F) :
    does (weightProg hs M.v (M.p r) M.acc o0 h0 o1 h1 sc) x ⟨⟩ { x with acc := accPut hs x.v (x.p r) o0 h0 o1 h1 sc x.acc } :=
  .bind ((cell_v M).load _ _ _) <| .bind ((cell_v M).load _ _ _) <| .bind ((cell_acc M).load _ _ _) <| .bind ((cell_p M r).load _ _ _) <|
    .bind ((cell_acc M).load _ _ _) <| (cell_acc M).store _ _ _ _ _

theorem rowProg_does (r : Nat) (hr : r < 16) (v : FVec F S1x512 .f32) (x : St dv F) :
    does (rowProg M.st r hr v) x ⟨⟩ { x with st := putRow r hr x.st v } :=
  .bind ((cell_st M).load _ _ _) <| (cell_st M).store _ _ _ _ _

theorem updProg_does (lc : F .f32) (pmax : FVec F S1x512 .f32) (m : Vec F S1x512 .f32) (s0 s1 : FVec F S8x256 .f32) (x : St dv F) :
    does (updProg M.st lc pmax m s0 s1) x ⟨⟩ { x with st := stNew lc pmax m s0 s1 x.st } :=
  .bind ((cell_st M).load _ _ _) <| .bind ((cell_st M).load _ _ _) <| .bind ((cell_st M).store _ _ _ _ _) <|
    .bind (rowProg_does M 0 _ _ _) <| .bind (rowProg_does M 1 _ _ _) <| .bind ((cell_st M).load _ _ _) <| rowProg_does M 2 _ _ _

theorem stepProg_does (hs : Sides dv) (w r : Fin 3) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) :
    does (stepProg hs M.k M.v (M.p w) (M.hp w) (M.p r) M.acc M.st lc q0 q1 ok hk o0 h0 o1 h1) x ⟨⟩ (stepSt hs w r lc q0 q1 ok hk o0 h0 o1 h1 x) := by
  unfold stepProg
  refine .bind ((cell_st M).load _ _ _) <| .bind ((cell_st M).load _ _ _) <| .bind ((cell_k M).load _ _ _) <|
    .bind (halfProg_does M w _ _ 0 _ _) <| .bind (halfProg_does M w _ _ 1 _ _) <| .bind (weightProg_does M hs r _ _ _ _ _ _) ?_
  rw [St.setP_setP, St.setP_p]
  exact updProg_does M _ _ _ _ _ _

theorem initProg_does (hs : Sides dv) (q0 q1 : FVec F S128x256 .bf16) (x : St dv F) :
    does (initProg hs M.k (M.p 2) (M.hp 2) M.acc M.st q0 q1) x ⟨⟩ (initSt hs q0 q1 x) :=
  .bind ((cell_k M).load _ _ _) <| .bind ((cell_st M).load _ _ _) <| .bind ((cell_st M).store _ _ _ _ _) <|
    .bind (rowProg_does M 0 _ _ _) <| .bind (rowProg_does M 1 _ _ _) <| .bind ((cell_acc M).load _ _ _) <| .bind ((cell_acc M).store _ _ _ _ _) <|
    .bind ((cell_p M 2).load _ _ _) <| (cell_p M 2).store _ _ _ _ _

theorem headProg_does (hs : Sides dv) (lc : F .f32) (q0 q1 : FVec F S128x256 .bf16) (x : St dv F) :
    does (headProg hs M.k M.v (M.p 0) (M.hp 0) (M.p 1) (M.hp 1) (M.p 2) (M.hp 2) M.acc M.st lc q0 q1) x ⟨⟩ (headSt hs lc q0 q1 x) :=
  .bind (initProg_does M hs q0 q1 x) <| .bind (stepProg_does M hs 0 2 _ _ _ _ _ _ _ _ _ _) <| .bind (stepProg_does M hs 1 0 _ _ _ _ _ _ _ _ _ _) <|
    .bind (stepProg_does M hs 2 1 _ _ _ _ _ _ _ _ _ _) <| stepProg_does M hs 0 2 _ _ _ _ _ _ _ _ _ _

theorem tripProg_does (hs : Sides dv) (o : Offs dv) (lc : F .f32) (q0 q1 : FVec F S128x256 .bf16) (t : Fin o.loop.trips) (x : St dv F) :
    does (tripProg hs o M.k M.v (M.p 0) (M.hp 0) (M.p 1) (M.hp 1) (M.p 2) (M.hp 2) M.acc M.st lc q0 q1 t) x ⟨⟩ (tripSt hs o lc q0 q1 t x) :=
  .bind (stepProg_does M hs 1 0 _ _ _ _ _ _ _ _ _ _) <| .bind (stepProg_does M hs 2 1 _ _ _ _ _ _ _ _ _ _) <| .bind (stepProg_does M hs 0 2 _ _ _ _ _ _ _ _ _ _) <|
    .bind (stepProg_does M hs 1 0 _ _ _ _ _ _ _ _ _ _) <| .bind (stepProg_does M hs 2 1 _ _ _ _ _ _ _ _ _ _) <| stepProg_does M hs 0 2 _ _ _ _ _ _ _ _ _ _

/-- Trips one after another. -/
theorem forFrom_does {n : Nat} (body : Fin n → PUnit → Prog (TpuEff nD τ sig (Elt F) Λ .tc) PUnit) (f : Fin n → St dv F → St dv F)
    (h : ∀ k x, does (body k ⟨⟩) x ⟨⟩ (f k x)) (ks : List (Fin n)) (x : St dv F) :
    does (Scf.forFrom body ks ⟨⟩) x ⟨⟩ (ks.foldl (fun y k => f k y) x) := Runs.forFrom h ks x

theorem loop_does (hs : Sides dv) (o : Offs dv) (lc : F .f32) (q0 q1 : FVec F S128x256 .bf16) (x : St dv F) :
    does (Scf.Loop.for o.loop o.ok ⟨⟩ fun t _ => tripProg hs o M.k M.v (M.p 0) (M.hp 0) (M.p 1) (M.hp 1) (M.p 2) (M.hp 2) M.acc M.st lc q0 q1 t) x ⟨⟩
      ((List.finRange o.loop.trips).foldl (fun y t => tripSt hs o lc q0 q1 t y) x) := by
  have e : Scf.Loop.for o.loop o.ok PUnit.unit (fun (t : Fin o.loop.trips) (_ : PUnit) =>
      tripProg (nD := nD) (τ := τ) (Λ := Λ) hs o M.k M.v (M.p 0) (M.hp 0) (M.p 1) (M.hp 1) (M.p 2) (M.hp 2) M.acc M.st lc q0 q1 t) = _ :=
    Scf.for_eq o.loop.lb o.loop.ub o.loop.st o.ok PUnit.unit _
  rw [e]
  exact forFrom_does M _ (fun t y => tripSt hs o lc q0 q1 t y) (fun t y => tripProg_does M hs o lc q0 q1 t y) _ _

theorem lastProg_does (hs : Sides dv) (x : St dv F) : does (lastProg hs M.v (M.p 0) M.acc M.st) x ⟨⟩ (lastSt hs x) :=
  .bind ((cell_st M).load _ _ _) <| weightProg_does M hs 0 _ _ _ _ _ _

end Cert.Attn

end
-- ==== Proof.Tile.lean ====
/- Rectangles of a buffer at coordinates, and what the buffers of weights hold after a chunk: nothing of what they
   held before. -/
module

public import proofs.«01_k».proof.Proof.Run
public import Idealize.ShloMosaic.Lib.Pointwise
public import Idealize.ShloMosaic.Lib.Pipeline.ValueKit

@[expose] public section

set_option maxRecDepth 8192

noncomputable section

namespace Cert.Attn

open Idealize.ShloMosaic Idealize.ShloMosaic.Tactic

/-- Functions of two coordinates agree when they do at every pair. -/
theorem ext2 {α : Type} {A B : Nat} {f g : (⟨2, ![A, B]⟩ : Shape).Idx → α} (h : ∀ (a : Fin A) (b : Fin B), f (ix2 a b) = g (ix2 a b)) : f = g := by
  funext i
  have e := h (i 0) (i 1)
  rwa [← eq_ix2 i] at e

/-- Where a rectangle's cell lies. -/
theorem emb2 {A B a b o0 o1 : Nat} (h : ∀ x, (![o0, o1] : Fin 2 → Nat) x + (![a, b] : Fin 2 → Nat) x ≤ (⟨2, ![A, B]⟩ : Shape).size x)
    (i : Fin a) (j : Fin b) (hi : o0 + i < A) (hj : o1 + j < B) :
    (Rect.unit (s := ⟨2, ![A, B]⟩) ![o0, o1] ![a, b] h).emb (ix2 i j : (⟨2, ![a, b]⟩ : Shape).Idx) = (ix2 ⟨o0 + i, hi⟩ ⟨o1 + j, hj⟩ : (⟨2, ![A, B]⟩ : Shape).Idx) := by
  funext x
  match x with
  | ⟨0, _⟩ => exact Fin.ext (ValueKit.rect_emb_unit_val _ _ _ _ _)
  | ⟨1, _⟩ => exact Fin.ext (ValueKit.rect_emb_unit_val _ _ _ _ _)

/-- A rectangle read at a cell. -/
theorem take2 {α : Type} {A B a b o0 o1 : Nat} (h : ∀ x, (![o0, o1] : Fin 2 → Nat) x + (![a, b] : Fin 2 → Nat) x ≤ (⟨2, ![A, B]⟩ : Shape).size x)
    (X : (⟨2, ![A, B]⟩ : Shape).Idx → α) (i : Fin a) (j : Fin b) (hi : o0 + i < A) (hj : o1 + j < B) :
    take (Rect.unit (s := ⟨2, ![A, B]⟩) ![o0, o1] ![a, b] h) X (ix2 i j : (⟨2, ![a, b]⟩ : Shape).Idx) = X (ix2 ⟨o0 + i, hi⟩ ⟨o1 + j, hj⟩) :=
  congrArg X (emb2 h i j hi hj)

/-- A rectangle of three axes read at a cell. -/
theorem take3 {α : Type} {A B C a b c o0 o1 o2 : Nat}
    (h : ∀ x, (![o0, o1, o2] : Fin 3 → Nat) x + (![a, b, c] : Fin 3 → Nat) x ≤ (⟨3, ![A, B, C]⟩ : Shape).size x)
    (X : (⟨3, ![A, B, C]⟩ : Shape).Idx → α) (i : Fin a) (j : Fin b) (k : Fin c) (hi : o0 + i < A) (hj : o1 + j < B) (hk : o2 + k < C) :
    take (Rect.unit (s := ⟨3, ![A, B, C]⟩) ![o0, o1, o2] ![a, b, c] h) X (ix3 i j k : (⟨3, ![a, b, c]⟩ : Shape).Idx)
      = X (ix3 ⟨o0 + i, hi⟩ ⟨o1 + j, hj⟩ ⟨o2 + k, hk⟩) := by
  refine congrArg X ?_
  funext x
  match x with
  | ⟨0, _⟩ => exact Fin.ext (ValueKit.rect_emb_unit_val _ _ _ _ _)
  | ⟨1, _⟩ => exact Fin.ext (ValueKit.rect_emb_unit_val _ _ _ _ _)
  | ⟨2, _⟩ => exact Fin.ext (ValueKit.rect_emb_unit_val _ _ _ _ _)

/-- A rectangle replaced, read at a cell. -/
theorem put2 {α : Type} {A B a b o0 o1 : Nat} (h : ∀ x, (![o0, o1] : Fin 2 → Nat) x + (![a, b] : Fin 2 → Nat) x ≤ (⟨2, ![A, B]⟩ : Shape).size x)
    (X : (⟨2, ![A, B]⟩ : Shape).Idx → α) (w : (⟨2, ![a, b]⟩ : Shape).Idx → α) (r : Fin A) (c : Fin B) :
    put (Rect.unit (s := ⟨2, ![A, B]⟩) ![o0, o1] ![a, b] h) X w (ix2 r c)
      = if hc : (o0 ≤ r ∧ r < o0 + a) ∧ (o1 ≤ c ∧ c < o1 + b) then w (ix2 ⟨r - o0, by omega⟩ ⟨c - o1, by omega⟩) else X (ix2 r c) := by
  split
  next hc =>
    have e : (Rect.unit (s := ⟨2, ![A, B]⟩) ![o0, o1] ![a, b] h).emb (ix2 ⟨r - o0, by omega⟩ ⟨c - o1, by omega⟩ : (⟨2, ![a, b]⟩ : Shape).Idx) = ix2 r c := by
      rw [emb2 h _ _ (by have := r.isLt; simp only []; omega) (by have := c.isLt; simp only []; omega)]
      exact (ix2_inj _ _ _ _).2 ⟨Fin.ext (by simp only []; omega), Fin.ext (by simp only []; omega)⟩
    conv_lhs => rw [← e]
    exact put_emb _ _ _ _
  next hc =>
    refine put_miss _ _ _ _ fun j hj => hc ?_
    have h0 := ValueKit.rect_emb_unit_val (s := ⟨2, ![A, B]⟩) ![o0, o1] ![a, b] h j 0
    have h1 := ValueKit.rect_emb_unit_val (s := ⟨2, ![A, B]⟩) ![o0, o1] ![a, b] h j 1
    rw [hj] at h0 h1
    have b0 : (j 0 : Nat) < a := (j 0).isLt
    have b1 : (j 1 : Nat) < b := (j 1).isLt
    have h0' : (r : Nat) = o0 + (j 0 : Nat) := h0
    have h1' : (c : Nat) = o1 + (j 1 : Nat) := h1
    omega

/-- A rectangle that is everything, replaced: nothing is left. -/
theorem put_full2 {α : Type} {A B : Nat} (h : ∀ x, (![0, 0] : Fin 2 → Nat) x + (![A, B] : Fin 2 → Nat) x ≤ (⟨2, ![A, B]⟩ : Shape).size x)
    (X : (⟨2, ![A, B]⟩ : Shape).Idx → α) (w : (⟨2, ![A, B]⟩ : Shape).Idx → α) :
    put (Rect.unit (s := ⟨2, ![A, B]⟩) ![0, 0] ![A, B] h) X w = w := by
  refine ext2 fun a b => (put2 h X w a b).trans ?_
  rw [dif_pos (by omega)]
  rfl

/-- A rectangle that is everything, read. -/
theorem take_full2 {α : Type} {A B : Nat} (h : ∀ x, (![0, 0] : Fin 2 → Nat) x + (![A, B] : Fin 2 → Nat) x ≤ (⟨2, ![A, B]⟩ : Shape).size x)
    (X : (⟨2, ![A, B]⟩ : Shape).Idx → α) : take (Rect.unit (s := ⟨2, ![A, B]⟩) ![0, 0] ![A, B] h) X = X := by
  refine ext2 fun a b => (take2 h X a b (by omega) (by omega)).trans ?_
  refine congrArg X ((ix2_inj _ _ _ _).2 ⟨Fin.ext ?_, Fin.ext ?_⟩)
  · exact Nat.zero_add _
  · exact Nat.zero_add _

variable {F : FTy → Type} [FloatOps F]

/-- A chunk's weight of key `r` in column `c` of a half. -/
def wt (s : FVec F S1024x256 .f32) (mc : FVec F S1x256 .f32) (r : Fin 1024) (c : Fin 256) : F .bf16 :=
  truncf .bf16 (blk s mc (r / 16) (by omega)) bits_lt (ix2 ⟨r % 16, by omega⟩ c : S16x256.Idx)

/-- One block replaced, read at a cell. -/
theorem put_blk (s : FVec F S1024x256 .f32) (mc : FVec F S1x256 .f32) (h : Nat) (hh : h < 2) (b : Nat) (hb : b < 64) (X : Vec F S1024x512 .bf16)
    (r : Fin 1024) (c : Fin 512) :
    put (rBlk h b hh hb) X (shapeCast S16x256 (truncf .bf16 (blk s mc b hb) bits_lt) cast_16x256) (ix2 r c : S1024x512.Idx)
      = if hc : (16 * b ≤ r ∧ r < 16 * b + 16) ∧ (256 * h ≤ c ∧ c < 256 * h + 256) then wt s mc r ⟨c - 256 * h, by omega⟩ else X (ix2 r c : S1024x512.Idx) := by
  refine (put2 (inb_blk h b hh hb) X _ r c).trans ?_
  split
  next hc =>
    rw [shapeCast_self]
    unfold wt
    have e : (r : Nat) / 16 = b := by omega
    have e' : (r : Nat) % 16 = r - 16 * b := by omega
    subst e
    refine congrArg _ ((ix2_inj _ _ _ _).2 ⟨Fin.ext ?_, rfl⟩)
    exact e'.symm
  next => rfl

/-- A buffer after the blocks from `b` on, read at a cell. -/
theorem slotBlk_apply (s : FVec F S1024x256 .f32) (mc : FVec F S1x256 .f32) (h : Nat) (hh : h < 2) (n : Nat) : ∀ (b : Nat) (hb : b + n = 64)
    (X : Vec F S1024x512 .bf16) (r : Fin 1024) (c : Fin 512),
    slotBlk s mc h hh n b hb X (ix2 r c : S1024x512.Idx)
      = if hc : 16 * b ≤ r ∧ (256 * h ≤ c ∧ c < 256 * h + 256) then wt s mc r ⟨c - 256 * h, by omega⟩ else X (ix2 r c : S1024x512.Idx) := by
  induction n with
  | zero =>
    intro b hb X r c
    unfold slotBlk
    rw [dif_neg (by omega)]
  | succ n ih =>
    intro b hb X r c
    unfold slotBlk
    rw [ih, put_blk]
    by_cases h1 : 16 * (b + 1) ≤ (r : Nat) ∧ (256 * h ≤ (c : Nat) ∧ (c : Nat) < 256 * h + 256)
    · rw [dif_pos h1, dif_pos (by omega)]
    · rw [dif_neg h1]
      by_cases h2 : (16 * b ≤ (r : Nat) ∧ (r : Nat) < 16 * b + 16) ∧ (256 * h ≤ (c : Nat) ∧ (c : Nat) < 256 * h + 256)
      · rw [dif_pos h2, dif_pos (by omega)]
      · rw [dif_neg h2, dif_neg (by omega)]

theorem halfSlot_apply (s : FVec F S1024x256 .f32) (mc : FVec F S1x256 .f32) (h : Nat) (hh : h < 2) (X : Vec F S1024x512 .bf16) (r : Fin 1024) (c : Fin 512) :
    halfSlot s mc h hh X (ix2 r c : S1024x512.Idx)
      = if hc : 256 * h ≤ c ∧ c < 256 * h + 256 then wt s mc r ⟨c - 256 * h, by omega⟩ else X (ix2 r c : S1024x512.Idx) := by
  unfold halfSlot
  rw [slotBlk_apply, put_blk]
  by_cases h0 : 256 * h ≤ (c : Nat) ∧ (c : Nat) < 256 * h + 256
  · rw [dif_pos h0]
    by_cases h1 : 16 * 1 ≤ (r : Nat) ∧ (256 * h ≤ (c : Nat) ∧ (c : Nat) < 256 * h + 256)
    · rw [dif_pos h1]
    · rw [dif_neg h1, dif_pos (by omega)]
  · rw [dif_neg h0, dif_neg (by omega), dif_neg (by omega)]

/-- The weights of a chunk, read at a cell: what the buffer held before is gone. -/
theorem slotOf_apply (k : FVec F S1024x128 .bf16) (q0 q1 : FVec F S128x256 .bf16) (m : Vec F S1x512 .f32) (X : Vec F S1024x512 .bf16) (r : Fin 1024) (c : Fin 512) :
    slotOf k q0 q1 m X (ix2 r c : S1024x512.Idx)
      = if hc : (c : Nat) < 256 then wt (scores k q0) (mc0 m) r ⟨c, hc⟩ else wt (scores k q1) (mc1 m) r ⟨c - 256, by omega⟩ := by
  unfold slotOf
  rw [halfSlot_apply, halfSlot_apply]
  by_cases h : (c : Nat) < 256
  · rw [dif_neg (by omega), dif_pos (by omega), dif_pos h]
    rfl
  · rw [dif_pos (by omega), dif_neg h]

theorem slotOf_indep (k : FVec F S1024x128 .bf16) (q0 q1 : FVec F S128x256 .bf16) (m : Vec F S1x512 .f32) (X Y : Vec F S1024x512 .bf16) :
    slotOf k q0 q1 m X = slotOf k q0 q1 m Y := by
  exact ext2 fun r c => (slotOf_apply k q0 q1 m X r c).trans (slotOf_apply k q0 q1 m Y r c).symm

variable {dv : Nat}

/-- The buffer a chunk writes may have held anything. -/
theorem stepSt_setP_w (hs : Sides dv) (w r : Fin 3) (hr : r ≠ w) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) (X : Vec F S1024x512 .bf16) :
    stepSt hs w r lc q0 q1 ok hk o0 h0 o1 h1 (x.setP w X) = stepSt hs w r lc q0 q1 ok hk o0 h0 o1 h1 x := by
  unfold stepSt
  dsimp only
  rw [St.setP_setP, slotOf_indep _ _ _ _ ((x.setP w X).p w) (x.p w)]
  rfl

/-- A buffer a chunk neither writes nor reads is left as it is. -/
theorem stepSt_setP_ne (hs : Sides dv) (w r u : Fin 3) (hw : u ≠ w) (hr : u ≠ r) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) (X : Vec F S1024x512 .bf16) :
    stepSt hs w r lc q0 q1 ok hk o0 h0 o1 h1 (x.setP u X) = (stepSt hs w r lc q0 q1 ok hk o0 h0 o1 h1 x).setP u X := by
  unfold stepSt
  dsimp only
  rw [St.setP_p_ne x u w hw.symm]
  have e : (x.setP u X).setP w = fun Y => (x.setP w Y).setP u X := by
    funext Y
    unfold St.setP
    rw [Function.update_comm hw]
  rw [e]
  simp only []
  rw [St.setP_p_ne _ u r hr.symm]
  rfl

/-- The contents at the start depend on keys and values alone, but for the two buffers written next. -/
theorem initSt_scratch (hs : Sides dv) (q0 q1 : FVec F S128x256 .bf16) (x x' : St dv F) (hk : x'.k = x.k) (hv : x'.v = x.v) :
    initSt hs q0 q1 x' = ((initSt hs q0 q1 x).setP 0 (x'.p 0)).setP 1 (x'.p 1) := by
  obtain ⟨k, v, p, acc, st⟩ := x
  obtain ⟨k', v', p', acc', st'⟩ := x'
  subst hk hv
  have eA : ∀ X w, put (rAcc hs) X w = (w : Vec F (SO dv) .f32) := fun X w => put_full2 hs.inb X w
  have eS : ∀ X w, put rSt X w = (w : Vec F S16x512 .f32) := fun X w => put_full2 inb_st X w
  have eP : ∀ X w, put rSlot X w = (w : Vec F S1024x512 .bf16) := fun X w => put_full2 inb_slot X w
  unfold initSt St.setP
  rw [eA, eA, eS, eS, eP, eP]
  congr 1
  funext w
  match w with
  | 0 => rfl
  | 1 => rfl
  | 2 => rfl

/-- The contents at the end depend on keys and values alone. -/
theorem flashSt_scratch (hs : Sides dv) (o : Offs dv) (lc : F .f32) (q0 q1 : FVec F S128x256 .bf16) (x x' : St dv F) (hk : x'.k = x.k) (hv : x'.v = x.v) :
    flashSt hs o lc q0 q1 x' = flashSt hs o lc q0 q1 x := by
  have e : headSt hs lc q0 q1 x' = headSt hs lc q0 q1 x := by
    unfold headSt leadSt
    rw [initSt_scratch hs q0 q1 x x' hk hv, stepSt_setP_ne hs 0 2 1 (by decide) (by decide), stepSt_setP_w hs 0 2 (by decide),
      stepSt_setP_w hs 1 0 (by decide)]
  unfold flashSt
  rw [e]

/-- What every step keeps, all the steps keep. -/
theorem foldl_keep {σ ι β : Type} (f : σ → β) (g : σ → ι → σ) (h : ∀ t y, f (g y t) = f y) (ts : List ι) (x : σ) : f (ts.foldl g x) = f x := by
  induction ts generalizing x with
  | nil => rfl
  | cons t ts ih => rw [List.foldl_cons, ih, h]

theorem stepSt_k (hs : Sides dv) (w r : Fin 3) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) : (stepSt hs w r lc q0 q1 ok hk o0 h0 o1 h1 x).k = x.k := rfl
theorem stepSt_v (hs : Sides dv) (w r : Fin 3) (lc : F .f32) (q0 q1 : FVec F S128x256 .bf16) (ok : Fin 2 → Nat) (hk : ∀ a, ok a + S1024x128.size a ≤ S16384x128.size a)
    (o0 : Fin 3 → Nat) (h0 : ∀ a, o0 a + (SV1 dv).size a ≤ (SV dv).size a)
    (o1 : Fin 3 → Nat) (h1 : ∀ a, o1 a + (SV1 dv).size a ≤ (SV dv).size a) (x : St dv F) : (stepSt hs w r lc q0 q1 ok hk o0 h0 o1 h1 x).v = x.v := rfl
theorem initSt_k (hs : Sides dv) (q0 q1 : FVec F S128x256 .bf16) (x : St dv F) : (initSt hs q0 q1 x).k = x.k := rfl
theorem initSt_v (hs : Sides dv) (q0 q1 : FVec F S128x256 .bf16) (x : St dv F) : (initSt hs q0 q1 x).v = x.v := rfl
theorem lastSt_k (hs : Sides dv) (x : St dv F) : (lastSt hs x).k = x.k := rfl
theorem lastSt_v (hs : Sides dv) (x : St dv F) : (lastSt hs x).v = x.v := rfl

/-- The keys stay. -/
theorem flashSt_k (hs : Sides dv) (o : Offs dv) (lc : F .f32) (q0 q1 : FVec F S128x256 .bf16) (x : St dv F) : (flashSt hs o lc q0 q1 x).k = x.k := by
  unfold flashSt
  rw [lastSt_k, foldl_keep (fun y : St dv F => y.k)]
  · unfold headSt leadSt
    rw [stepSt_k, stepSt_k, stepSt_k, stepSt_k, initSt_k]
  · intro t y
    unfold tripSt tripStepSt
    rw [stepSt_k, stepSt_k, stepSt_k, stepSt_k, stepSt_k, stepSt_k]
/-- The values stay. -/
theorem flashSt_v (hs : Sides dv) (o : Offs dv) (lc : F .f32) (q0 q1 : FVec F S128x256 .bf16) (x : St dv F) : (flashSt hs o lc q0 q1 x).v = x.v := by
  unfold flashSt
  rw [lastSt_v, foldl_keep (fun y : St dv F => y.v)]
  · unfold headSt leadSt
    rw [stepSt_v, stepSt_v, stepSt_v, stepSt_v, initSt_v]
  · intro t y
    unfold tripSt tripStepSt
    rw [stepSt_v, stepSt_v, stepSt_v, stepSt_v, stepSt_v, stepSt_v]

end Cert.Attn

end
-- ==== Proof.Launch.lean ====
/- The kernel's launch: the body takes its blocks to the attention's tile and the flag's, at every point of the grid. -/
module

public import proofs.«01_k».proof.Proof.Body
public import proofs.«01_k».proof.Proof.Tile
public import proofs.«01_k».proof.Proof.Gen.KernelIdeal.Frame.Runs
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.KernelIdeal.Gen

variable {F : FTy → Type} [FloatOps F] [Named F]

local notation "𝕄" => MT nD τ sig Unit (Elt F) ℕ (UR sig nD τ) ℕ

/-- Zeros. -/
def zeros (s : Shape) (φ : FTy) : FVec F s φ := broadcast s (Scalar.ofBits φ 0 : F φ)
/-- The contents of a flash pass's buffers before it, whatever they were but for keys and values. -/
def st₀ (k : Vec F S16384x128 .bf16) (v : Vec F S32x64x512 .bf16) : St 64 F := ⟨k, v, fun _ => zeros _ _, zeros _ _, zeros _ _⟩
/-- The query columns of the first two heads of a tile. -/
def qa (g : BitVec 32) (q : Vec F S128x256 .bf16) : FVec F S128x256 .bf16 := qc0 g (take rX q) (take rX q) (take rY q) (take rY q)
/-- The query columns of the last two. -/
def qb (g : BitVec 32) (q : Vec F S128x256 .bf16) : FVec F S128x256 .bf16 := qc1 g (take rX q) (take rX q) (take rY q) (take rY q)
/-- The contents of the buffers after the chunks. -/
def fin (g : BitVec 32) (q : Vec F S128x256 .bf16) (x : St 64 F) : St 64 F := flashSt sides64 offs lc (qa g q) (qb g q) x
/-- The tile the contents give. -/
def tileOf (o : Vec F S128x256 .bf16) (x : St 64 F) : Vec F S128x256 .bf16 :=
  put rY (put rX o (outX (take rA x.acc) (denOf (take rL x.st)))) (outY (take rA x.acc) (denOf (take rL x.st)))
/-- The flag tile the contents give. -/
def flagTile (f : Vec F S8x512 .f32) (x : St 64 F) : Vec F S8x512 .f32 := put rFlag f (flagOf (take (rRow 2 (by omega)) x.st))

/-- The tile does not depend on what was there before. -/
theorem tileOf_indep (o o' : Vec F S128x256 .bf16) (x : St 64 F) : tileOf o x = tileOf o' x := by
  funext i
  have e : i = (ix2 (i 0) (i 1) : S128x256.Idx) := eq_ix2 i
  have h0 : (i 0 : Nat) < 128 := (i 0).isLt
  have h1 : (i 1 : Nat) < 256 := (i 1).isLt
  rw [e]
  unfold tileOf
  refine (put2 _ _ _ (i 0) (i 1)).trans (Eq.trans ?_ (put2 _ _ _ (i 0) (i 1)).symm)
  split
  next => rfl
  next hn =>
    refine (put2 _ _ _ (i 0) (i 1)).trans (Eq.trans ?_ (put2 _ _ _ (i 0) (i 1)).symm)
    rw [dif_pos (by omega), dif_pos (by omega)]

theorem flagTile_indep (f f' : Vec F S8x512 .f32) (x : St 64 F) : flagTile f x = flagTile f' x := by
  unfold flagTile
  exact (put_full2 _ _ _).trans (put_full2 _ _ _).symm

section body
variable (c : Dev nD) (arg2 : Memref sig .tc .vmem S128x256 .bf16) (arg3 : Memref sig .tc .vmem S16384x128 .bf16) (arg4 : Memref sig .tc .vmem S32x64x512 .bf16)
    (arg5 : Memref sig .tc .vmem S128x256 .bf16) (h5 : arg5.IsWhole) (arg6 : Memref sig .tc .vmem S8x512 .f32)
    (arg7 : Memref sig .tc .vmem S1024x512 .bf16) (h7 : arg7.IsWhole) (arg8 : Memref sig .tc .vmem S1024x512 .bf16) (h8 : arg8.IsWhole)
    (arg9 : Memref sig .tc .vmem S1024x512 .bf16) (h9 : arg9.IsWhole)
    (arg10 : Memref sig .tc .vmem S64x512 .f32) (arg11 : Memref sig .tc .vmem S16x512 .f32)

/-- The buffers of the flash pass. -/
def mems : Mems sig 64 where
  k := arg3
  v := arg4
  p w := match w with | 0 => arg7 | 1 => arg8 | 2 => arg9
  hp w := match w with | 0 => h7 | 1 => h8 | 2 => h9
  acc := arg10
  st := arg11

/-- The contents of the blocks around it: the query tile, the result tile, the flag tile. -/
abbrev Around (F : FTy → Type) : Type := Vec F S128x256 .bf16 × Vec F S128x256 .bf16 × Vec F S8x512 .f32

/-- The blocks hold the contents. -/
def around (r : Around F) : sProp 𝕄 :=
  iprop(owns (c : Thread nD τ) arg2 fullShare r.1 ∗ owns (c : Thread nD τ) arg5 fullShare r.2.1 ∗ owns (c : Thread nD τ) arg6 fullShare r.2.2)

/-- All the buffers hold the contents. -/
def all (t : St 64 F × Around F) : sProp 𝕄 := iprop((mems arg3 arg4 arg7 h7 arg8 h8 arg9 h9 arg10 arg11).own (F := F) c t.1 ∗ around c arg2 arg5 arg6 t.2)

theorem cell_q : Cell (Ix := Unit) (Name := ℕ) (U := UR sig nD τ) (Lvl := ℕ) (c : Thread nD τ) (all (F := F) c arg2 arg3 arg4 arg5 arg6 arg7 h7 arg8 h8 arg9 h9 arg10 arg11) arg2
    (fun t => t.2.1) (fun t X => (t.1, X, t.2.2)) where
  focus x := by
    unfold all around
    iintro ⟨H, H0, H1, H2⟩
    isplitl [H0]; · iexact H0
    iintro %X H0
    iframe
  set_get _ := rfl
theorem cell_o : Cell (Ix := Unit) (Name := ℕ) (U := UR sig nD τ) (Lvl := ℕ) (c : Thread nD τ) (all (F := F) c arg2 arg3 arg4 arg5 arg6 arg7 h7 arg8 h8 arg9 h9 arg10 arg11) arg5
    (fun t => t.2.2.1) (fun t X => (t.1, t.2.1, X, t.2.2.2)) where
  focus x := by
    unfold all around
    iintro ⟨H, H0, H1, H2⟩
    isplitl [H1]; · iexact H1
    iintro %X H1
    iframe
  set_get _ := rfl
theorem cell_f : Cell (Ix := Unit) (Name := ℕ) (U := UR sig nD τ) (Lvl := ℕ) (c : Thread nD τ) (all (F := F) c arg2 arg3 arg4 arg5 arg6 arg7 h7 arg8 h8 arg9 h9 arg10 arg11) arg6
    (fun t => t.2.2.2) (fun t X => (t.1, t.2.1, t.2.2.1, X)) where
  focus x := by
    unfold all around
    iintro ⟨H, H0, H1, H2⟩
    isplitl [H2]; · iexact H2
    iintro %X H2
    iframe
  set_get _ := rfl

/-- A flash program carries the blocks around along. -/
theorem carry {α : Type} {bd : Option (Variants.none).V} {E : Set ℕ} {p : Prog (TpuEff nD τ sig (Elt F) Λ₀ .tc) α} {x y : St 64 F} {a : α}
    (h : Does (Ix := Unit) (Name := ℕ) (U := UR sig nD τ) (Lvl := ℕ) (defs₀ (F := F)) Variants.none c bd E (mems arg3 arg4 arg7 h7 arg8 h8 arg9 h9 arg10 arg11) p x a y) (r : Around F) :
    Runs (Ix := Unit) (U := UR sig nD τ) (Lvl := ℕ) (defs₀ (F := F)) Variants.none (c : Thread nD τ) bd E
      (all (F := F) c arg2 arg3 arg4 arg5 arg6 arg7 h7 arg8 h8 arg9 h9 arg10 arg11) p (x, r) a (y, r) :=
  Runs.frame h (around c arg2 arg5 arg6) (fun s r => all (F := F) c arg2 arg3 arg4 arg5 arg6 arg7 h7 arg8 h8 arg9 h9 arg10 arg11 (s, r)) (fun _ _ => rfl) r

/-- What the body does to the buffers. -/
theorem body_runs (g : BitVec 32) {bd : Option (Variants.none).V} {E : Set ℕ} (x : St 64 F) (q o : Vec F S128x256 .bf16) (f : Vec F S8x512 .f32) :
    Runs (Ix := Unit) (U := UR sig nD τ) (Lvl := ℕ) (defs₀ (F := F)) Variants.none (c : Thread nD τ) bd E
      (all (F := F) c arg2 arg3 arg4 arg5 arg6 arg7 h7 arg8 h8 arg9 h9 arg10 arg11)
      (body g arg2 arg3 arg4 arg5 h5 arg6 arg7 h7 arg8 h8 arg9 h9 arg10 arg11) (x, q, o, f) ⟨⟩
      (fin g q x, q, tileOf o (fin g q x), flagTile f (fin g q x)) := by
  have hq := cell_q (F := F) c arg2 arg3 arg4 arg5 arg6 arg7 h7 arg8 h8 arg9 h9 arg10 arg11
  have ho := cell_o (F := F) c arg2 arg3 arg4 arg5 arg6 arg7 h7 arg8 h8 arg9 h9 arg10 arg11
  have hf := cell_f (F := F) c arg2 arg3 arg4 arg5 arg6 arg7 h7 arg8 h8 arg9 h9 arg10 arg11
  have main : Runs (Ix := Unit) (U := UR sig nD τ) (Lvl := ℕ) (defs₀ (F := F)) Variants.none (c : Thread nD τ) bd E
      (all (F := F) c arg2 arg3 arg4 arg5 arg6 arg7 h7 arg8 h8 arg9 h9 arg10 arg11)
      (mainProg g arg2 arg3 arg4 arg7 h7 arg8 h8 arg9 h9 arg10 arg11) (x, q, o, f)
      ⟨take rA (fin g q x).acc, denOf (take rL (fin g q x).st), flagOf (take (rRow 2 (by omega)) (fin g q x).st)⟩ (fin g q x, q, o, f) := by
    unfold mainProg
    refine .bind (hq.load _ _ _) <| .bind (hq.load _ _ _) <| .bind (hq.load _ _ _) <| .bind (hq.load _ _ _) <|
      .bind (carry c arg2 arg3 arg4 arg5 arg6 arg7 h7 arg8 h8 arg9 h9 arg10 arg11 (headProg_does (mems arg3 arg4 arg7 h7 arg8 h8 arg9 h9 arg10 arg11) sides64 _ _ _ _) _) <|
      .bind (carry c arg2 arg3 arg4 arg5 arg6 arg7 h7 arg8 h8 arg9 h9 arg10 arg11 (loop_does (mems arg3 arg4 arg7 h7 arg8 h8 arg9 h9 arg10 arg11) sides64 offs _ _ _ _) _) <|
      .bind (carry c arg2 arg3 arg4 arg5 arg6 arg7 h7 arg8 h8 arg9 h9 arg10 arg11 (lastProg_does (mems arg3 arg4 arg7 h7 arg8 h8 arg9 h9 arg10 arg11) sides64 _) _) <|
      .bind (carry c arg2 arg3 arg4 arg5 arg6 arg7 h7 arg8 h8 arg9 h9 arg10 arg11 ((cell_acc (mems arg3 arg4 arg7 h7 arg8 h8 arg9 h9 arg10 arg11)).load _ _ _) _) <|
      .bind (carry c arg2 arg3 arg4 arg5 arg6 arg7 h7 arg8 h8 arg9 h9 arg10 arg11 ((cell_st (mems arg3 arg4 arg7 h7 arg8 h8 arg9 h9 arg10 arg11)).load _ _ _) _) <|
      .bind (carry c arg2 arg3 arg4 arg5 arg6 arg7 h7 arg8 h8 arg9 h9 arg10 arg11 ((cell_st (mems arg3 arg4 arg7 h7 arg8 h8 arg9 h9 arg10 arg11)).load _ _ _) _) <| .ret _ _
  have tail : Runs (Ix := Unit) (U := UR sig nD τ) (Lvl := ℕ) (defs₀ (F := F)) Variants.none (c : Thread nD τ) bd E
      (all (F := F) c arg2 arg3 arg4 arg5 arg6 arg7 h7 arg8 h8 arg9 h9 arg10 arg11)
      (tailProg arg5 h5 arg6 ⟨take rA (fin g q x).acc, denOf (take rL (fin g q x).st), flagOf (take (rRow 2 (by omega)) (fin g q x).st)⟩) (fin g q x, q, o, f)
      ⟨⟩ (fin g q x, q, tileOf o (fin g q x), flagTile f (fin g q x)) := by
    unfold tailProg
    exact .bind (hf.load _ _ _) <| .bind (hf.store _ _ _ _ _) <| .bind (ho.load _ _ _) <| .bind (ho.store _ _ _ _ _) <| .bind (ho.load _ _ _) <| ho.store _ _ _ _ _
  unfold body
  exact Runs.bind (a := PUnit.unit) (Runs.bind main tail) (Runs.ret _ _)

end body

variable (m : (ℓ : Loc nD τ sig) → Buf (Elt F) ℓ) (ρ : Dev nD → PrngReg)

/-- The contents after the chunks at point `t`. -/
def finAt (c : Dev nD) (t : Fin cfg0.N) : St 64 F :=
  fin (BitVec.ofNat 32 ((grid0.coords t) 0).val) (iblk m c 0 t) (st₀ (iblk m c 1 t) (iblk m c 2 t))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tileOf (zeros _ _) (finAt m c t)
    | ⟨4, _⟩ => flagTile (zeros _ _) (finAt m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = tileOf (zeros _ _) (finAt m c t) := by dsimp only [dats]
theorem after0_4 (c : Dev nD) (t : Fin cfg0.N) : (dats m 0 c).after 4 t = flagTile (zeros _ _) (finAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- Whatever the buffers held, the contents after the chunks are those of the point. -/
theorem fin_indep (g : BitVec 32) (q : Vec F S128x256 .bf16) (x : St 64 F) : fin g q x = fin g q (st₀ x.k x.v) :=
  flashSt_scratch sides64 offs lc _ _ _ _ rfl rfl

/-- The keys and values stay. -/
theorem fin_k (g : BitVec 32) (q : Vec F S128x256 .bf16) (x : St 64 F) : (fin g q x).k = x.k :=
  flashSt_k ..
theorem fin_v (g : BitVec 32) (q : Vec F S128x256 .bf16) (x : St 64 F) : (fin g q x).v = x.v :=
  flashSt_v ..

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq, body_eq]
  iintro ⟨⟨⟨⟨%x0, HS0⟩, ⟨%x1, HS1⟩, ⟨%x2, HS2⟩, ⟨%x3, HS3⟩, ⟨%x4, HS4⟩⟩, Hg⟩, Ho, ⟨%d0, H0⟩, ⟨%d1, H1⟩, ⟨%d2, H2⟩, ⟨%d3, H3⟩, ⟨%d4, H4⟩⟩
  have h := body_runs c (ms0_0 t) (ms0_1 t) (ms0_2 t) (ms0_3 t) (hs0_3 t) (ms0_4 t) scM0_0 (Memref.isWhole_whole _) scM0_1 (Memref.isWhole_whole _)
    scM0_2 (Memref.isWhole_whole _) scM0_3 scM0_4 (BitVec.ofNat 32 ((grid0.coords t) 0).val) (bd := none) (E := Set.univ)
    ⟨iblk m c 1 t, iblk m c 2 t, fun w => match w with | 0 => x0 | 1 => x1 | 2 => x2, x3, x4⟩ (iblk m c 0 t) ((dats m 0 c).before 3 t d3) ((dats m 0 c).before 4 t d4)
  have e := fin_indep (F := F) (BitVec.ofNat 32 ((grid0.coords t) 0).val) (iblk m c 0 t)
    ⟨iblk m c 1 t, iblk m c 2 t, fun w => match w with | 0 => x0 | 1 => x1 | 2 => x2, x3, x4⟩
  rw [e, tileOf_indep _ (zeros _ _), flagTile_indep _ (zeros _ _)] at h
  iapply (h _)
  unfold all around Mems.own mems
  dsimp only
  rw [fin_k, fin_v]
  isplitl [HS0 HS1 HS2 HS3 HS4 H0 H1 H2 H3 H4]
  · iframe
  iintro ⟨⟨H1, H2, HS0, HS1, HS2, HS3, HS4⟩, H0, H3, H4⟩
  isplitl [HS0 HS1 HS2 HS3 HS4 Hg]
  · isplitl [HS0 HS1 HS2 HS3 HS4]
    · isplitl [HS0]
      · iexists _; iexact HS0
      isplitl [HS1]
      · iexists _; iexact HS1
      isplitl [HS2]
      · iexists _; iexact HS2
      isplitl [HS3]
      · iexists _; iexact HS3
      iexists _; iexact HS4
    iexact Hg
  isplitl [Ho]; · iexact Ho
  isplitl [H0]; · iexact H0
  isplitl [H1]; · iexact H1
  isplitl [H2]; · iexact H2
  isplitl [H3]; · iexact H3
  iexact H4

/-- The body's row of the table. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data give. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

end Cert.KernelIdeal.Hand

end
-- ==== Proof.Read.lean ====
/- The values of a chunk over the reals, read at a cell. -/
module

public import proofs.«01_k».proof.Proof.Tile
public import Idealize.ShloMosaic.Lib.Pointwise
public import Idealize.ShloMosaic.Lib.IdealHost

@[expose] public section

set_option maxRecDepth 16384

noncomputable section

namespace Cert.Attn

open Idealize.ShloMosaic Idealize.ShloMosaic.TcCoe Idealize.SL.Sem

/-- The bound every maximum starts from. -/
theorem low : Ideal.ofBits .f32 0xFF800000#32 = ⊥ := by simp [Ideal.ofBits, Ideal.ieee]

/-- The largest of real numbers is real. -/
theorem fold_max_real {n : Nat} (f : Fin (n + 1) → EReal) (h : ∀ i, ∃ a : ℝ, f i = a) : ∃ b : ℝ, Finset.univ.fold max ⊥ f = b := by
  obtain ⟨i, -, hi⟩ := Finset.exists_mem_eq_sup (Finset.univ : Finset (Fin (n + 1))) Finset.univ_nonempty f
  obtain ⟨a, ha⟩ := h i
  exact ⟨a, hi.trans ha⟩

/-- A score is the product of a key and a query column. -/
theorem scores_apply (k : FVec Ideal S1024x128 .bf16) (q : FVec Ideal S128x256 .bf16) (r : Fin 1024) (c : Fin 256) :
    scores k q (ix2 r c) = ∑ d : Fin 128, k (ix2 r d) * q (ix2 d c) := by
  pointwise [scores, dotS]

/-- A weight is a power of two of a score, the column's maximum taken off. -/
theorem blk_apply (s : FVec Ideal S1024x256 .f32) (mc : FVec Ideal S1x256 .f32) (b : Nat) (hb : b < 64) (i : Fin 16) (c : Fin 256) :
    blk s mc b hb (ix2 i c) = Ideal.exp2 (s (ix2 ⟨16 * b + i, by omega⟩ c) - mc (ix2 0 c)) := by
  pointwise [blk]
  rfl

theorem wt_apply (s : FVec Ideal S1024x256 .f32) (mc : FVec Ideal S1x256 .f32) (r : Fin 1024) (c : Fin 256) :
    wt s mc r c = Ideal.exp2 (s (ix2 r c) - mc (ix2 0 c)) := by
  unfold wt
  have e := blk_apply s mc (r / 16) (by omega) ⟨r % 16, by omega⟩ c
  have h : (⟨16 * ((r : Nat) / 16) + (r : Nat) % 16, by omega⟩ : Fin 1024) = r := Fin.ext (by simp only []; omega)
  simp only [h] at e
  rw [← e]
  rfl

theorem blkSum_apply (p : FVec Ideal S16x256 .f32) (ρ : Fin 8) (c : Fin 256) :
    blkSum p (ix2 ρ c) = p (ix2 ⟨ρ, by omega⟩ c) + p (ix2 ⟨8 + ρ, by omega⟩ c) := by
  pointwise [blkSum]
  rw [Fin.sum_univ_two]
  refine congrArg₂ (· + ·) (congrArg p ((ix2_inj _ _ _ _).2 ⟨Fin.ext ?_, rfl⟩)) (congrArg p ((ix2_inj _ _ _ _).2 ⟨Fin.ext ?_, rfl⟩))
  · simp
  · simp

theorem mc0_apply (m : Vec Ideal S1x512 .f32) (c : Fin 256) : mc0 m (ix2 0 c) = m (ix2 0 ⟨c, by omega⟩) := by
  pointwise [mc0]
theorem mc1_apply (m : Vec Ideal S1x512 .f32) (c : Fin 256) : mc1 m (ix2 0 c) = m (ix2 0 ⟨256 + c, by omega⟩) := by
  pointwise [mc1]

theorem lNew_apply (pmax : FVec Ideal S1x512 .f32) (l : Vec Ideal S8x512 .f32) (s0 s1 : FVec Ideal S8x256 .f32) (ρ : Fin 8) (c : Fin 512) :
    lNew pmax l s0 s1 (ix2 ρ c)
      = (l (ix2 ρ c) + if h : (c : Nat) < 256 then s0 (ix2 ρ ⟨c, h⟩) else s1 (ix2 ρ ⟨c - 256, by omega⟩)) * Ideal.div 1 (max (pmax (ix2 0 c)) 1) := by
  pointwise [lNew, scaleOf, bigOf]
theorem scaleOf_apply (pmax : FVec Ideal S1x512 .f32) (c : Fin 512) : scaleOf pmax (ix2 0 c) = Ideal.div 1 (max (pmax (ix2 0 c)) 1) := by
  pointwise [scaleOf, bigOf]
theorem mNew_apply (lc : Ideal .f32) (pmax : FVec Ideal S1x512 .f32) (m : Vec Ideal S1x512 .f32) (c : Fin 512) :
    mNew lc pmax m (ix2 0 c) = m (ix2 0 c) + Ideal.log (max (pmax (ix2 0 c)) 1) * lc := by
  pointwise [mNew, bigOf]

theorem halfMax_apply (s : FVec Ideal S1024x256 .f32) (mc : FVec Ideal S1x256 .f32) (c : Fin 256) :
    halfMax s mc (ix2 0 c) = Finset.univ.fold max ⊥ fun i : Fin 16 =>
      (foldBlk s mc 63 1 rfl (addf (broadcast S8x256 (Scalar.ofBits .f32 0x00000000#32)) (blkSum (blk s mc 0 (by omega)))) (blk s mc 0 (by omega))).2 (ix2 i c) := by
  pointwise [halfMax]
  rw [low]

theorem firstMax_apply (k : FVec Ideal S1024x128 .bf16) (q0 q1 : FVec Ideal S128x256 .bf16) (c : Fin 512) :
    firstMax k q0 q1 (ix2 0 c) = if h : (c : Nat) < 256 then Finset.univ.fold max ⊥ fun i : Fin 1024 => scores k q0 (ix2 i ⟨c, h⟩)
      else Finset.univ.fold max ⊥ fun i : Fin 1024 => scores k q1 (ix2 i ⟨c - 256, by omega⟩) := by
  unfold firstMax
  pointwise
  by_cases h : (c : Nat) < 256
  · rw [dif_pos h, dif_pos h]
    exact congrArg (fun b : EReal => Finset.fold max b (fun i : Fin 1024 => scores k q0 (ix2 i ⟨c, h⟩)) Finset.univ) low
  · rw [dif_neg h, dif_neg h]
    exact congrArg (fun b : EReal => Finset.fold max b (fun i : Fin 1024 => scores k q1 (ix2 i ⟨c - 256, by omega⟩)) Finset.univ) low

theorem pmaxOf_apply (k : FVec Ideal S1024x128 .bf16) (q0 q1 : FVec Ideal S128x256 .bf16) (m : Vec Ideal S1x512 .f32) (c : Fin 512) :
    pmaxOf k q0 q1 m (ix2 0 c) = if h : (c : Nat) < 256 then halfMax (scores k q0) (mc0 m) (ix2 0 ⟨c, h⟩) else halfMax (scores k q1) (mc1 m) (ix2 0 ⟨c - 256, by omega⟩) := by
  pointwise [pmaxOf]

/-- The score of key `r` in query column `c`, over all the columns. -/
def sc (k : FVec Ideal S1024x128 .bf16) (q0 q1 : FVec Ideal S128x256 .bf16) (r : Fin 1024) (c : Fin 512) : EReal :=
  if h : (c : Nat) < 256 then scores k q0 (ix2 r ⟨c, h⟩) else scores k q1 (ix2 r ⟨c - 256, by omega⟩)

/-- A sum and a maximum over the blocks, as real numbers. -/
theorem foldBlk_real (s : FVec Ideal S1024x256 .f32) (mc : FVec Ideal S1x256 .f32) (c : Fin 256) (E : Nat → ℝ)
    (h : ∀ b hb i, blk s mc b hb (ix2 i c) = (E (16 * b + (i : Nat)) : EReal)) (n : Nat) : ∀ (b : Nat) (hb : b + n = 64) (ps : FVec Ideal S8x256 .f32) (pm : FVec Ideal S16x256 .f32),
    (∀ ρ : Fin 8, ps (ix2 ρ c) = ((∑ a ∈ Finset.range (2 * b), E (8 * a + ρ) : ℝ) : EReal)) → (∀ i : Fin 16, ∃ a : ℝ, pm (ix2 i c) = a) →
    (∀ ρ : Fin 8, (foldBlk s mc n b hb ps pm).1 (ix2 ρ c) = ((∑ a ∈ Finset.range 128, E (8 * a + ρ) : ℝ) : EReal))
      ∧ ∀ i : Fin 16, ∃ a : ℝ, (foldBlk s mc n b hb ps pm).2 (ix2 i c) = a := by
  induction n with
  | zero =>
    intro b hb ps pm h1 h2
    unfold foldBlk
    refine ⟨fun ρ => ?_, h2⟩
    refine (h1 ρ).trans ?_
    rw [ show 2 * b = 128 by omega]
  | succ n ih =>
    intro b hb ps pm h1 h2
    unfold foldBlk
    refine ih (b + 1) (by omega) _ _ (fun ρ => ?_) (fun i => ?_)
    · rw [show 2 * (b + 1) = 2 * b + 1 + 1 by omega, Finset.sum_range_succ, Finset.sum_range_succ]
      show ps (ix2 ρ c) + blkSum (blk s mc b (by omega)) (ix2 ρ c) = _
      rw [blkSum_apply, h1 ρ, h, h, EReal.coe_add, EReal.coe_add, add_assoc]
      refine congrArg₂ (· + ·) rfl (congrArg₂ (· + ·) ?_ ?_)
      · exact congrArg (fun n => (E n : EReal)) (by simp only []; omega)
      · exact congrArg (fun n => (E n : EReal)) (by simp only []; omega)
    · obtain ⟨a, ha⟩ := h2 i
      refine ⟨max a (E (16 * b + (i : Nat))), ?_⟩
      show max (pm (ix2 i c)) (blk s mc b (by omega) (ix2 i c)) = _
      rw [ha, h]
      exact (EReal.coe_strictMono.monotone.map_max ..).symm

theorem half_real (s : FVec Ideal S1024x256 .f32) (mc : FVec Ideal S1x256 .f32) (c : Fin 256) (E : Nat → ℝ)
    (h : ∀ b hb i, blk s mc b hb (ix2 i c) = (E (16 * b + (i : Nat)) : EReal)) :
    (∀ ρ : Fin 8, halfSum s mc (ix2 ρ c) = ((∑ a ∈ Finset.range 128, E (8 * a + ρ) : ℝ) : EReal)) ∧ ∃ B : ℝ, halfMax s mc (ix2 0 c) = B := by
  have f := foldBlk_real s mc c E h 63 1 rfl (addf (broadcast S8x256 (Scalar.ofBits .f32 0x00000000#32)) (blkSum (blk s mc 0 (by omega)))) (blk s mc 0 (by omega))
    (fun ρ => by
      show (Ideal.ofBits .f32 0x00000000#32 : EReal) + blkSum (blk s mc 0 (by omega)) (ix2 ρ c) = _
      rw [blkSum_apply, h, h, Ideal.ofBits_zero_f32, zero_add, Finset.sum_range_succ, Finset.sum_range_succ, Finset.sum_range_zero, zero_add, EReal.coe_add]
      refine congrArg₂ (· + ·) ?_ ?_
      · exact congrArg (fun n => (E n : EReal)) (by simp)
      · exact congrArg (fun n => (E n : EReal)) (by simp))
    (fun i => ⟨_, h 0 (by omega) i⟩)
  refine ⟨f.1, ?_⟩
  rw [halfMax_apply]
  exact fold_max_real _ f.2

/-- What a chunk leaves in query column `c`, when its scores there and the maximum so far are real numbers. -/
theorem chunk_real (k : FVec Ideal S1024x128 .bf16) (q0 q1 : FVec Ideal S128x256 .bf16) (m : Vec Ideal S1x512 .f32) (c : Fin 512) (s : Nat → ℝ) (M : ℝ)
    (hs : ∀ r, sc k q0 q1 r c = (s r : EReal)) (hm : m (ix2 0 c) = (M : EReal)) :
    (∀ X r, slotOf k q0 q1 m X (ix2 r c : S1024x512.Idx) = (((2 : ℝ) ^ (s r - M) : ℝ) : EReal))
    ∧ (∀ ρ : Fin 8, (if h : (c : Nat) < 256 then halfSum (scores k q0) (mc0 m) (ix2 ρ ⟨c, h⟩) else halfSum (scores k q1) (mc1 m) (ix2 ρ ⟨c - 256, by omega⟩))
        = ((∑ a ∈ Finset.range 128, (2 : ℝ) ^ (s (8 * a + ρ) - M) : ℝ) : EReal))
    ∧ ∃ B : ℝ, pmaxOf k q0 q1 m (ix2 0 c) = B := by
  by_cases h : (c : Nat) < 256
  · have hs' : ∀ r, scores k q0 (ix2 r ⟨c, h⟩) = (s r : EReal) := fun r => by
      have e := hs r; unfold sc at e; rwa [dif_pos h] at e
    have hm' : mc0 m (ix2 0 ⟨c, h⟩) = (M : EReal) := (mc0_apply m _).trans hm
    have f := half_real (scores k q0) (mc0 m) ⟨c, h⟩ (fun n => (2 : ℝ) ^ (s n - M)) (fun b hb i => by
      rw [blk_apply, hs', hm', ← EReal.coe_sub, Ideal.exp2_coe]; rfl)
    refine ⟨fun X r => ?_, ?_, ?_⟩
    · rw [slotOf_apply, dif_pos h, wt_apply, hs', hm', ← EReal.coe_sub, Ideal.exp2_coe]; rfl
    · intro ρ; rw [dif_pos h]; exact f.1 ρ
    · rw [pmaxOf_apply, dif_pos h]; exact f.2
  · have hs' : ∀ r, scores k q1 (ix2 r ⟨c - 256, by omega⟩) = (s r : EReal) := fun r => by
      have e := hs r; unfold sc at e; rwa [dif_neg h] at e
    have hm' : mc1 m (ix2 0 ⟨c - 256, by omega⟩) = (M : EReal) := by
      refine (mc1_apply m _).trans (Eq.trans (congrArg m ((ix2_inj _ _ _ _).2 ⟨rfl, Fin.ext ?_⟩)) hm)
      simp only []; omega
    have f := half_real (scores k q1) (mc1 m) ⟨c - 256, by omega⟩ (fun n => (2 : ℝ) ^ (s n - M)) (fun b hb i => by
      rw [blk_apply, hs', hm', ← EReal.coe_sub, Ideal.exp2_coe]; rfl)
    refine ⟨fun X r => ?_, ?_, ?_⟩
    · rw [slotOf_apply, dif_neg h, wt_apply, hs', hm', ← EReal.coe_sub, Ideal.exp2_coe]; rfl
    · intro ρ; rw [dif_neg h]; exact f.1 ρ
    · rw [pmaxOf_apply, dif_neg h]; exact f.2

end Cert.Attn

end
-- ==== Proof.Chunk.lean ====
/- The chunks over the reals: after each, the sums are those of the keys so far, relative to the maximum so far. -/
module

public import proofs.«01_k».proof.Proof.Read

@[expose] public section

set_option maxRecDepth 16384

noncomputable section

namespace Cert.Attn

open Idealize.ShloMosaic Idealize.ShloMosaic.TcCoe Idealize.SL.Sem

/-- A positive real factor goes into a sum. -/
theorem sum_mul_pos (n : Nat) (f : Nat → EReal) (u : ℝ) (hu : 0 ≤ u) :
    (∑ i ∈ Finset.range n, f i) * (u : EReal) = ∑ i ∈ Finset.range n, f i * (u : EReal) := by
  induction n with
  | zero => simp
  | succ n ih => rw [Finset.sum_range_succ, Finset.sum_range_succ, EReal.right_distrib_of_nonneg_of_ne_top (by exact_mod_cast hu) (EReal.coe_ne_top u), ih]

/-- A sum over 1024 in two halves. -/
theorem range_halves (f : Nat → EReal) : ∑ i ∈ Finset.range 1024, f i = (∑ i : Fin 512, f i) + ∑ i : Fin 512, f (512 + i) := by
  rw [show (1024 : Nat) = 512 + 512 from rfl, Finset.sum_range_add, Finset.sum_range, Finset.sum_range]

/-- Two to a logarithm's negative. -/
theorem two_log (M b : ℝ) (hb : 0 < b) : (2 : ℝ) ^ (M - (M + Real.log b * (Real.log 2)⁻¹)) = 1 / b := by
  rw [Real.rpow_def_of_pos two_pos, show Real.log 2 * (M - (M + Real.log b * (Real.log 2)⁻¹)) = - Real.log b by
    have : Real.log 2 ≠ 0 := (Real.log_pos one_lt_two).ne'
    field_simp; ring, Real.exp_neg, Real.exp_log hb, one_div]

/-- Powers of two relative to another maximum. -/
theorem two_shift (s M M' : ℝ) : (2 : ℝ) ^ (s - M) * (2 : ℝ) ^ (M - M') = (2 : ℝ) ^ (s - M') := by
  rw [← Real.rpow_add two_pos]; congr 1; ring

variable {dv : Nat}

/-- A row of the running sums replaced, read at a cell. -/
theorem putRow_apply (r : Nat) (hr : r < 16) (st : Vec Ideal S16x512 .f32) (x : FVec Ideal S1x512 .f32) (i : Fin 16) (c : Fin 512) :
    putRow r hr st x (ix2 i c : S16x512.Idx) = if (i : Nat) = r then x (ix2 0 c) else st (ix2 i c : S16x512.Idx) := by
  unfold putRow
  refine (put2 (inb_row r hr) st _ i c).trans ?_
  have hc := c.isLt
  by_cases h : (i : Nat) = r
  · rw [dif_pos (by omega), if_pos h, shapeCast_self]
    exact congrArg x ((ix2_inj _ _ _ _).2 ⟨Fin.ext (by simp; omega), Fin.ext (by simp)⟩)
  · rw [dif_neg (by omega), if_neg h]

theorem takeRow_apply (r : Nat) (hr : r < 16) (st : Vec Ideal S16x512 .f32) (c : Fin 512) :
    take (rRow r hr) st (ix2 0 c : S1x512.Idx) = st (ix2 ⟨r, hr⟩ c : S16x512.Idx) := by
  refine (take2 (inb_row r hr) st 0 c (by simpa using hr) (by omega)).trans ?_
  exact congrArg st ((ix2_inj _ _ _ _).2 ⟨Fin.ext (by simp), Fin.ext (by simp)⟩)

theorem putL_apply (st : Vec Ideal S16x512 .f32) (w : FVec Ideal S8x512 .f32) (i : Fin 16) (c : Fin 512) :
    put rL st (shapeCast S8x512 w cast_8x512) (ix2 i c : S16x512.Idx) = if h : 8 ≤ (i : Nat) then w (ix2 ⟨i - 8, by omega⟩ c) else st (ix2 i c : S16x512.Idx) := by
  refine (put2 inb_L st _ i c).trans ?_
  have hc := c.isLt
  have hi := i.isLt
  by_cases h : 8 ≤ (i : Nat)
  · rw [dif_pos (by omega), dif_pos h, shapeCast_self]
    exact congrArg w ((ix2_inj _ _ _ _).2 ⟨rfl, Fin.ext (by simp)⟩)
  · rw [dif_neg (by omega), dif_neg h]

theorem takeL_apply (st : Vec Ideal S16x512 .f32) (ρ : Fin 8) (c : Fin 512) :
    take rL st (ix2 ρ c : S8x512.Idx) = st (ix2 ⟨8 + ρ, by omega⟩ c : S16x512.Idx) := by
  refine (take2 inb_L st ρ c (by omega) (by omega)).trans ?_
  exact congrArg st ((ix2_inj _ _ _ _).2 ⟨rfl, Fin.ext (by simp)⟩)

/-- What the running sums hold after a chunk. -/
theorem stNew_apply (lc : Ideal .f32) (pmax : FVec Ideal S1x512 .f32) (m : Vec Ideal S1x512 .f32) (s0 s1 : FVec Ideal S8x256 .f32) (st : Vec Ideal S16x512 .f32) (c : Fin 512) :
    stNew lc pmax m s0 s1 st (ix2 0 c : S16x512.Idx) = mNew lc pmax m (ix2 0 c)
    ∧ stNew lc pmax m s0 s1 st (ix2 1 c : S16x512.Idx) = scaleOf pmax (ix2 0 c)
    ∧ ∀ ρ : Fin 8, stNew lc pmax m s0 s1 st (ix2 ⟨8 + ρ, by omega⟩ c : S16x512.Idx) = lNew pmax (take rL st) s0 s1 (ix2 ρ c) := by
  unfold stNew
  refine ⟨?_, ?_, fun ρ => ?_⟩
  · rw [putRow_apply, if_neg (by decide), putRow_apply, if_neg (by decide), putRow_apply, if_pos (by decide)]
  · rw [putRow_apply, if_neg (by decide), putRow_apply, if_pos (by decide)]
  · rw [putRow_apply, if_neg (by simp only []; omega), putRow_apply, if_neg (by simp only []; omega), putRow_apply, if_neg (by simp only []; omega), putL_apply,
      dif_pos (by simp only []; omega)]
    exact congrArg _ ((ix2_inj _ _ _ _).2 ⟨Fin.ext (by simp), rfl⟩)

/-- Value column `d` of key `i`. -/
def val (v : Vec Ideal (SV dv) .bf16) (i : Nat) (d : Fin dv) : EReal := v (ix3 ⟨i / 512 % 32, by omega⟩ d ⟨i % 512, by omega⟩ : (SV dv).Idx)

/-- What a chunk's weights do to the accumulator, read at a cell. -/
def Meets (hs : Sides dv) : Prop :=
  ∀ (v0 v1 : Vec Ideal (SV1 dv) .bf16) (acc : Vec Ideal (SO dv) .f32) (p : Vec Ideal S1024x512 .bf16) (sc : Vec Ideal S1x512 .f32) (d : Fin dv) (c : Fin 512),
    accNew hs v0 v1 acc p sc (ix2 d c)
      = (acc (ix2 d c : (SO dv).Idx) + ((∑ i : Fin 512, v0 (ix3 0 d i : (SV1 dv).Idx) * p (ix2 ⟨i, by omega⟩ c : S1024x512.Idx))
          + ∑ i : Fin 512, v1 (ix3 0 d i : (SV1 dv).Idx) * p (ix2 ⟨512 + i, by omega⟩ c : S1024x512.Idx))) * sc (ix2 0 c : S1x512.Idx)

theorem slab_apply (v : Vec Ideal (SV dv) .bf16) (j : Nat) (hj : j < 32) (o : Fin 3 → Nat) (ho : o = ![j, 0, 0]) (h : ∀ a, o a + (SV1 dv).size a ≤ (SV dv).size a)
    (d : Fin dv) (i : Fin 512) (n : Nat) (hn : n = 512 * j + i) :
    take (Rect.unit (s := SV dv) o (SV1 dv).size h) v (ix3 0 d i : (SV1 dv).Idx) = val v n d := by
  subst ho
  refine (take3 h v 0 d i (by simpa using hj) (by omega) (by omega)).trans ?_
  unfold val
  refine congrArg v ?_
  have hi := i.isLt
  funext a
  match a with
  | ⟨0, _⟩ => exact Fin.ext (show j + 0 = n / 512 % 32 by omega)
  | ⟨1, _⟩ => exact Fin.ext (show 0 + (d : Nat) = d by omega)
  | ⟨2, _⟩ => exact Fin.ext (show 0 + (i : Nat) = n % 512 by omega)

/-- The accumulator after chunk `j`'s weights, real numbers `P`, meet its values. -/
theorem accPut_apply (hs : Sides dv) (hm : Meets hs) (v : Vec Ideal (SV dv) .bf16) (p : Vec Ideal S1024x512 .bf16) (j : Nat) (hj : j < 16)
    (o0 : Fin 3 → Nat) (e0 : o0 = ![2 * j, 0, 0]) (h0 : ∀ a, o0 a + (SV1 dv).size a ≤ (SV dv).size a)
    (o1 : Fin 3 → Nat) (e1 : o1 = ![2 * j + 1, 0, 0]) (h1 : ∀ a, o1 a + (SV1 dv).size a ≤ (SV dv).size a)
    (sc : Vec Ideal S1x512 .f32) (acc : Vec Ideal (SO dv) .f32) (d : Fin dv) (c : Fin 512) (P : Nat → ℝ)
    (hP : ∀ i : Fin 1024, p (ix2 i c : S1024x512.Idx) = (P i : EReal)) :
    accPut hs v p o0 h0 o1 h1 sc acc (ix2 d c : (SO dv).Idx)
      = (acc (ix2 d c : (SO dv).Idx) + ∑ i ∈ Finset.range 1024, val v (1024 * j + i) d * (P i : EReal)) * sc (ix2 0 c : S1x512.Idx) := by
  have eA : put (rAcc hs) acc _ = _ := put_full2 hs.inb acc (shapeCast (SO dv)
    (accNew hs (take (Rect.unit (s := SV dv) o0 (SV1 dv).size h0) v) (take (Rect.unit (s := SV dv) o1 (SV1 dv).size h1) v)
      (take (rAcc hs) acc) (take rSlot p) sc) hs.self)
  have eT : take (rAcc hs) acc = acc := take_full2 hs.inb acc
  have eS : take rSlot p = p := take_full2 inb_slot p
  unfold accPut
  rw [eA, shapeCast_self, eT, eS, hm]
  refine congrArg (fun z : EReal => (acc (ix2 d c : (SO dv).Idx) + z) * sc (ix2 0 c : S1x512.Idx)) ?_
  refine Eq.trans ?_ (range_halves fun i => val v (1024 * j + i) d * (P i : EReal)).symm
  refine congrArg₂ (· + ·) (Finset.sum_congr rfl fun i _ => ?_) (Finset.sum_congr rfl fun i _ => ?_)
  · rw [slab_apply v (2 * j) (by omega) o0 e0 h0 d i (1024 * j + i) (by omega), hP]
  · rw [slab_apply v (2 * j + 1) (by omega) o1 e1 h1 d i (1024 * j + (512 + i)) (by omega), hP]

/-- The score of key `i` in query column `c`. -/
def score (k : Vec Ideal S16384x128 .bf16) (q0 q1 : FVec Ideal S128x256 .bf16) (i : Fin 16384) (c : Fin 512) : EReal :=
  if h : (c : Nat) < 256 then ∑ d : Fin 128, k (ix2 i d : S16384x128.Idx) * q0 (ix2 d ⟨c, h⟩)
  else ∑ d : Fin 128, k (ix2 i d : S16384x128.Idx) * q1 (ix2 d ⟨c - 256, by omega⟩)

theorem sc_take (k : Vec Ideal S16384x128 .bf16) (q0 q1 : FVec Ideal S128x256 .bf16) (j : Nat) (hj : j < 16) (ok : Fin 2 → Nat) (e : ok = ![1024 * j, 0])
    (hk : ∀ a, ok a + S1024x128.size a ≤ S16384x128.size a) (r : Fin 1024) (c : Fin 512) :
    sc (take (Rect.unit (s := S16384x128) ok S1024x128.size hk) k) q0 q1 r c = score k q0 q1 ⟨1024 * j + r, by omega⟩ c := by
  subst e
  have f : ∀ d : Fin 128, take (Rect.unit (s := S16384x128) ![1024 * j, 0] S1024x128.size hk) k (ix2 r d : S1024x128.Idx) = k (ix2 ⟨1024 * j + r, by omega⟩ d : S16384x128.Idx) := fun d => by
    refine (take2 hk k r d (by omega) (by omega)).trans (congrArg k ((ix2_inj _ _ _ _).2 ⟨rfl, Fin.ext (by simp)⟩))
  unfold sc score
  split
  · rw [scores_apply]; exact Finset.sum_congr rfl fun d _ => by rw [f d]
  · rw [scores_apply]; exact Finset.sum_congr rfl fun d _ => by rw [f d]

/-- A chunk, from real maxima, factor, denominators and weights in column `c`. -/
theorem step_col (hs : Sides dv) (hm : Meets hs) (w r : Fin 3) (hwr : r ≠ w) (lc : Ideal .f32) (hlc : lc = (((Real.log 2)⁻¹ : ℝ) : EReal)) (q0 q1 : FVec Ideal S128x256 .bf16)
    (j : Nat) (hj : j < 16) (ok : Fin 2 → Nat) (ek : ok = ![1024 * j, 0]) (hk : ∀ a, ok a + S1024x128.size a ≤ S16384x128.size a)
    (jv : Nat) (hjv : jv < 16) (o0 : Fin 3 → Nat) (e0 : o0 = ![2 * jv, 0, 0]) (h0 : ∀ a, o0 a + (SV1 dv).size a ≤ (SV dv).size a)
    (o1 : Fin 3 → Nat) (e1 : o1 = ![2 * jv + 1, 0, 0]) (h1 : ∀ a, o1 a + (SV1 dv).size a ≤ (SV dv).size a) (x : St dv Ideal)
    (c : Fin 512) (S : Nat → ℝ) (hS : ∀ i, score x.k q0 q1 i c = (S i : EReal)) (M σ : ℝ) (ℓ : Fin 8 → ℝ) (P : Nat → ℝ)
    (hM : x.st (ix2 0 c : S16x512.Idx) = (M : EReal)) (hσ : x.st (ix2 1 c : S16x512.Idx) = (σ : EReal))
    (hℓ : ∀ ρ : Fin 8, x.st (ix2 ⟨8 + ρ, by omega⟩ c : S16x512.Idx) = (ℓ ρ : EReal))
    (hP : ∀ i : Fin 1024, x.p r (ix2 i c : S1024x512.Idx) = (P i : EReal)) :
    ∃ M' : ℝ, (stepSt hs w r lc q0 q1 ok hk o0 h0 o1 h1 x).st (ix2 0 c : S16x512.Idx) = (M' : EReal)
      ∧ (stepSt hs w r lc q0 q1 ok hk o0 h0 o1 h1 x).st (ix2 1 c : S16x512.Idx) = (((2 : ℝ) ^ (M - M') : ℝ) : EReal)
      ∧ (∀ ρ : Fin 8, (stepSt hs w r lc q0 q1 ok hk o0 h0 o1 h1 x).st (ix2 ⟨8 + ρ, by omega⟩ c : S16x512.Idx)
          = (((ℓ ρ + ∑ a ∈ Finset.range 128, (2 : ℝ) ^ (S (1024 * j + (8 * a + ρ)) - M)) * (2 : ℝ) ^ (M - M') : ℝ) : EReal))
      ∧ (∀ i : Fin 1024, (stepSt hs w r lc q0 q1 ok hk o0 h0 o1 h1 x).p w (ix2 i c : S1024x512.Idx) = (((2 : ℝ) ^ (S (1024 * j + i) - M) : ℝ) : EReal))
      ∧ ∀ d : Fin dv, (stepSt hs w r lc q0 q1 ok hk o0 h0 o1 h1 x).acc (ix2 d c : (SO dv).Idx)
          = (x.acc (ix2 d c : (SO dv).Idx) + ∑ i ∈ Finset.range 1024, val x.v (1024 * jv + i) d * (P i : EReal)) * (σ : EReal) := by
  have hm0 : take (rRow 0 (by omega)) x.st (ix2 0 c : S1x512.Idx) = (M : EReal) := (takeRow_apply 0 (by omega) x.st c).trans hM
  have hs0 : take (rRow 1 (by omega)) x.st (ix2 0 c : S1x512.Idx) = (σ : EReal) := (takeRow_apply 1 (by omega) x.st c).trans hσ
  obtain ⟨f1, f2, B, hB⟩ := chunk_real (take (Rect.unit (s := S16384x128) ok S1024x128.size hk) x.k) q0 q1 (take (rRow 0 (by omega)) x.st) c
    (fun n => S (1024 * j + n)) M (fun r => (sc_take x.k q0 q1 j hj ok ek hk r c).trans (hS _)) hm0
  have hb : (0 : ℝ) < max B 1 := lt_max_of_lt_right one_pos
  have hbig : max (B : EReal) 1 = ((max B 1 : ℝ) : EReal) := (EReal.coe_strictMono.monotone.map_max ..).symm
  obtain ⟨g0, g1, g2⟩ := stNew_apply lc (pmaxOf (take (Rect.unit (s := S16384x128) ok S1024x128.size hk) x.k) q0 q1 (take (rRow 0 (by omega)) x.st)) (take (rRow 0 (by omega)) x.st)
    (halfSum (scores (take (Rect.unit (s := S16384x128) ok S1024x128.size hk) x.k) q0) (mc0 (take (rRow 0 (by omega)) x.st)))
    (halfSum (scores (take (Rect.unit (s := S16384x128) ok S1024x128.size hk) x.k) q1) (mc1 (take (rRow 0 (by omega)) x.st))) x.st c
  have hdiv : Ideal.div 1 ((max B 1 : ℝ) : EReal) = (((2 : ℝ) ^ (M - (M + Real.log (max B 1) * (Real.log 2)⁻¹)) : ℝ) : EReal) := by
    rw [two_log _ _ hb, Ideal.div_coe hb.ne', one_mul]
  refine ⟨M + Real.log (max B 1) * (Real.log 2)⁻¹, ?_, ?_, fun ρ => ?_, fun i => ?_, fun d => ?_⟩
  · refine g0.trans ?_
    rw [mNew_apply, hB, hm0, hbig, Ideal.log_coe, if_neg (not_le.mpr hb), hlc, ← EReal.coe_mul, ← EReal.coe_add]
  · refine g1.trans ?_
    rw [scaleOf_apply, hB, hbig, hdiv]
  · refine (g2 ρ).trans ?_
    rw [lNew_apply, f2 ρ, takeL_apply, hℓ, hB, hbig, hdiv, ← EReal.coe_add, ← EReal.coe_mul]
  · have e : (stepSt hs w r lc q0 q1 ok hk o0 h0 o1 h1 x).p w = slotOf (take (Rect.unit (s := S16384x128) ok S1024x128.size hk) x.k) q0 q1 (take (rRow 0 (by omega)) x.st) (x.p w) :=
      St.setP_p x w _
    rw [e]
    exact f1 _ i
  · have e : (stepSt hs w r lc q0 q1 ok hk o0 h0 o1 h1 x).acc = accPut hs x.v (x.p r) o0 h0 o1 h1 (take (rRow 1 (by omega)) x.st) x.acc :=
      congrArg (fun p => accPut hs x.v p o0 h0 o1 h1 (take (rRow 1 (by omega)) x.st) x.acc) (St.setP_p_ne x w r hwr _)
    rw [e, accPut_apply hs hm x.v (x.p r) jv hjv o0 e0 h0 o1 e1 h1 _ _ d c P hP, hs0]

end Cert.Attn

end
-- ==== Proof.Flash.lean ====
/- The sixteen chunks over the reals: a column's denominators and weighted values, relative to one maximum. -/
module

public import proofs.«01_k».proof.Proof.Chunk

@[expose] public section

set_option maxRecDepth 16384

noncomputable section

namespace Cert.Attn

open Idealize.ShloMosaic Idealize.ShloMosaic.TcCoe Idealize.SL.Sem

variable {dv : Nat}

/-- Column `c` after the chunks `0` to `m`, the last one's weights in buffer `r` not yet met with their values. -/
structure Col (v : Vec Ideal (SV dv) .bf16) (S : Nat → ℝ) (c : Fin 512) (m : Nat) (r : Fin 3) (y : St dv Ideal) (M M' : ℝ) : Prop where
  max : y.st (ix2 0 c : S16x512.Idx) = (M' : EReal)
  fac : y.st (ix2 1 c : S16x512.Idx) = (((2 : ℝ) ^ (M - M') : ℝ) : EReal)
  den : ∀ ρ : Fin 8, y.st (ix2 ⟨8 + ρ, by omega⟩ c : S16x512.Idx) = ((∑ a ∈ Finset.range (128 * (m + 1)), (2 : ℝ) ^ (S (8 * a + ρ) - M') : ℝ) : EReal)
  wts : ∀ i : Fin 1024, y.p r (ix2 i c : S1024x512.Idx) = (((2 : ℝ) ^ (S (1024 * m + i) - M) : ℝ) : EReal)
  sum : ∀ d : Fin dv, y.acc (ix2 d c : (SO dv).Idx) = ∑ i ∈ Finset.range (1024 * m), val v i d * (((2 : ℝ) ^ (S i - M) : ℝ) : EReal)

/-- The column is as described, and keys and values are those given. -/
def Inv (k : Vec Ideal S16384x128 .bf16) (v : Vec Ideal (SV dv) .bf16) (S : Nat → ℝ) (c : Fin 512) (m : Nat) (r : Fin 3) (y : St dv Ideal) : Prop :=
  y.k = k ∧ y.v = v ∧ ∃ M M', Col v S c m r y M M'

/-- The values that meet chunk `m`'s weights join those before, and all is brought to the new maximum. -/
theorem sum_step (v : Vec Ideal (SV dv) .bf16) (S : Nat → ℝ) (d : Fin dv) (m : Nat) (M M' : ℝ) :
    ((∑ i ∈ Finset.range (1024 * m), val v i d * (((2 : ℝ) ^ (S i - M) : ℝ) : EReal))
        + ∑ i ∈ Finset.range 1024, val v (1024 * m + i) d * (((2 : ℝ) ^ (S (1024 * m + i) - M) : ℝ) : EReal)) * (((2 : ℝ) ^ (M - M') : ℝ) : EReal)
      = ∑ i ∈ Finset.range (1024 * (m + 1)), val v i d * (((2 : ℝ) ^ (S i - M') : ℝ) : EReal) := by
  rw [← Finset.sum_range_add (fun i => val v i d * (((2 : ℝ) ^ (S i - M) : ℝ) : EReal)), show 1024 * m + 1024 = 1024 * (m + 1) by omega,
    sum_mul_pos _ _ _ (Real.rpow_nonneg two_pos.le _)]
  refine Finset.sum_congr rfl fun i _ => ?_
  rw [mul_assoc, ← EReal.coe_mul, two_shift]

/-- The denominators likewise. -/
theorem den_step (S : Nat → ℝ) (ρ : Fin 8) (n : Nat) (M M' : ℝ) :
    ((∑ a ∈ Finset.range (128 * n), (2 : ℝ) ^ (S (8 * a + ρ) - M)) + ∑ a ∈ Finset.range 128, (2 : ℝ) ^ (S (1024 * n + (8 * a + ρ)) - M)) * (2 : ℝ) ^ (M - M')
      = ∑ a ∈ Finset.range (128 * (n + 1)), (2 : ℝ) ^ (S (8 * a + ρ) - M') := by
  have e : ∀ a, (2 : ℝ) ^ (S (1024 * n + (8 * a + ρ)) - M) = (fun a => (2 : ℝ) ^ (S (8 * a + ρ) - M)) (128 * n + a) := fun a => by
    show _ = (2 : ℝ) ^ (S (8 * (128 * n + a) + ρ) - M)
    rw [show 8 * (128 * n + a) + (ρ : Nat) = 1024 * n + (8 * a + ρ) by omega]
  rw [Finset.sum_congr rfl fun a _ => e a, ← Finset.sum_range_add (fun a => (2 : ℝ) ^ (S (8 * a + ρ) - M)), show 128 * n + 128 = 128 * (n + 1) by omega, Finset.sum_mul]
  exact Finset.sum_congr rfl fun a _ => two_shift _ _ _

section steps
variable (hs : Sides dv) (hm : Meets hs) (lc : Ideal .f32) (hlc : lc = (((Real.log 2)⁻¹ : ℝ) : EReal)) (q0 q1 : FVec Ideal S128x256 .bf16)
  (k : Vec Ideal S16384x128 .bf16) (v : Vec Ideal (SV dv) .bf16) (S : Nat → ℝ) (c : Fin 512) (hS : ∀ i, score k q0 q1 i c = (S i : EReal))

include hm hlc hS

/-- One more chunk. -/
theorem inv_step (w r : Fin 3) (hwr : r ≠ w) (m j : Nat) (hj : j = m + 1) (hj' : j < 16) (ok : Fin 2 → Nat) (ek : ok = ![1024 * j, 0])
    (hk : ∀ a, ok a + S1024x128.size a ≤ S16384x128.size a)
    (o0 : Fin 3 → Nat) (e0 : o0 = ![2 * m, 0, 0]) (h0 : ∀ a, o0 a + (SV1 dv).size a ≤ (SV dv).size a)
    (o1 : Fin 3 → Nat) (e1 : o1 = ![2 * m + 1, 0, 0]) (h1 : ∀ a, o1 a + (SV1 dv).size a ≤ (SV dv).size a) (y : St dv Ideal)
    (hy : Inv k v S c m r y) : Inv k v S c (m + 1) w (stepSt hs w r lc q0 q1 ok hk o0 h0 o1 h1 y) := by
  obtain ⟨hyk, hyv, M, M', hc⟩ := hy
  subst hj
  obtain ⟨M2, g0, g1, g2, g3, g4⟩ := step_col hs hm w r hwr lc hlc q0 q1 (m + 1) hj' ok ek hk m (by omega) o0 e0 h0 o1 e1 h1 y c S (by rw [hyk]; exact hS)
    M' _ _ (fun i => (2 : ℝ) ^ (S (1024 * m + i) - M)) hc.max hc.fac hc.den hc.wts
  refine ⟨hyk, hyv, M', M2, g0, g1, fun ρ => (g2 ρ).trans ?_, g3, fun d => (g4 d).trans ?_⟩
  · rw [den_step]
  · rw [hc.sum, hyv, sum_step]

/-- The first chunk, from the start. -/
theorem inv_first (hk : ∀ a, (![1024 * 0, 0] : Fin 2 → Nat) a + S1024x128.size a ≤ S16384x128.size a)
    (h0 : ∀ a, (![2 * 0, 0, 0] : Fin 3 → Nat) a + (SV1 dv).size a ≤ (SV dv).size a)
    (h1 : ∀ a, (![2 * 0 + 1, 0, 0] : Fin 3 → Nat) a + (SV1 dv).size a ≤ (SV dv).size a) (y : St dv Ideal) (hyk : y.k = k) (hyv : y.v = v) :
    Inv k v S c 0 0 (stepSt hs 0 2 lc q0 q1 ![1024 * 0, 0] hk ![2 * 0, 0, 0] h0 ![2 * 0 + 1, 0, 0] h1 (initSt hs q0 q1 y)) := by
  have sA : ∀ X w, put (rAcc hs) X w = (w : Vec Ideal (SO dv) .f32) := fun X w => put_full2 hs.inb X w
  have sS : ∀ X w, put rSt X w = (w : Vec Ideal S16x512 .f32) := fun X w => put_full2 inb_st X w
  have sP : ∀ X w, put rSlot X w = (w : Vec Ideal S1024x512 .bf16) := fun X w => put_full2 inb_slot X w
  have z : (Scalar.ofBits .f32 0x00000000#32 : Ideal .f32) = ((0 : ℝ) : EReal) := Ideal.ofBits_zero_f32
  have eacc : ∀ d, (initSt hs q0 q1 y).acc (ix2 d c : (SO dv).Idx) = 0 := fun d => by
    unfold initSt
    dsimp only
    rw [sA, shapeCast_self]
    exact Ideal.ofBits_zero_f32
  have ep : ∀ i : Fin 1024, (initSt hs q0 q1 y).p 2 (ix2 i c : S1024x512.Idx) = ((0 : ℝ) : EReal) := fun i => by
    unfold initSt
    dsimp only
    rw [Function.update_self, sP, shapeCast_self]
    exact Ideal.ofBits_zero_bf16
  have el : ∀ ρ : Fin 8, (initSt hs q0 q1 y).st (ix2 ⟨8 + ρ, by omega⟩ c : S16x512.Idx) = ((0 : ℝ) : EReal) := fun ρ => by
    unfold initSt
    dsimp only
    rw [sS, shapeCast_self, putRow_apply, if_neg (by simp only []; omega), putRow_apply, if_neg (by simp only []; omega)]
    exact z
  have e1 : (initSt hs q0 q1 y).st (ix2 1 c : S16x512.Idx) = ((1 : ℝ) : EReal) := by
    unfold initSt
    dsimp only
    rw [putRow_apply, if_pos (by decide)]
    exact Ideal.ofBits_one_f32
  have e0 : ∃ M : ℝ, (initSt hs q0 q1 y).st (ix2 0 c : S16x512.Idx) = (M : EReal) := by
    unfold initSt
    dsimp only
    rw [putRow_apply, if_neg (by decide), putRow_apply, if_pos (by decide), firstMax_apply, hyk]
    have f : ∀ r : Fin 1024, ∃ a : ℝ, sc (take (rKey 0 (by omega)) k) q0 q1 r c = a := fun r => ⟨_, (sc_take k q0 q1 0 (by omega) _ rfl _ r c).trans (hS _)⟩
    by_cases h : (c : Nat) < 256
    · rw [dif_pos h]
      exact fold_max_real _ fun r => by have e := f r; unfold sc at e; rwa [dif_pos h] at e
    · rw [dif_neg h]
      exact fold_max_real _ fun r => by have e := f r; unfold sc at e; rwa [dif_neg h] at e
  obtain ⟨M, hM⟩ := e0
  obtain ⟨M2, g0, g1, g2, g3, g4⟩ := step_col hs hm 0 2 (by decide) lc hlc q0 q1 0 (by omega) _ rfl hk 0 (by omega) _ rfl h0 _ rfl h1 (initSt hs q0 q1 y) c S
    (by rw [initSt_k, hyk]; exact hS) M 1 (fun _ => 0) (fun _ => 0) hM e1 el ep
  refine ⟨hyk, hyv, M, M2, g0, g1, fun ρ => (g2 ρ).trans ?_, g3, fun d => (g4 d).trans ?_⟩
  · have e := den_step S ρ 0 M M2
    rw [show 128 * 0 = 0 from rfl, Finset.sum_range_zero] at e
    exact congrArg _ e
  · rw [eacc, show 1024 * 0 = 0 from rfl, Finset.sum_range_zero, Finset.sum_eq_zero fun i _ => (by rw [EReal.coe_zero, mul_zero]), add_zero, zero_mul]

/-- A property kept by every trip. -/
theorem foldl_inv {σ : Type} (n : Nat) (P : Nat → σ → Prop) (g : σ → Fin n → σ) (x : σ) (h0 : P 0 x) (h : ∀ (t : Fin n) (y : σ), P t y → P (t + 1) (g y t)) :
    P n ((List.finRange n).foldl g x) := by
  clear hS hlc hm
  induction n with
  | zero => exact h0
  | succ n ih =>
    rw [List.finRange_succ_last, List.foldl_append, List.foldl_map]
    exact h (Fin.last n) _ (ih (fun y t => g y t.castSucc) fun t y hy => h t.castSucc y hy)

/-- The end: the column's denominators and weighted values, relative to one maximum. -/
theorem flash_col (o : Offs dv) (ht : o.loop.trips = 2) (ok : ∀ t u, o.key t u = ![1024 * (4 + 6 * (t : Nat) + u), 0])
    (ov : ∀ t u r, o.val t u r = ![2 * (3 + 6 * (t : Nat) + u) + r, 0, 0]) (x : St dv Ideal) (hxk : x.k = k) (hxv : x.v = v) :
    ∃ M : ℝ, (∀ ρ : Fin 8, (flashSt hs o lc q0 q1 x).st (ix2 ⟨8 + ρ, by omega⟩ c : S16x512.Idx) = ((∑ a ∈ Finset.range 2048, (2 : ℝ) ^ (S (8 * a + ρ) - M) : ℝ) : EReal))
      ∧ ∀ d : Fin dv, (flashSt hs o lc q0 q1 x).acc (ix2 d c : (SO dv).Idx) = ∑ i ∈ Finset.range 16384, val v i d * (((2 : ℝ) ^ (S i - M) : ℝ) : EReal) := by
  have h3 : Inv k v S c 3 0 (headSt hs lc q0 q1 x) := by
    unfold headSt leadSt
    refine inv_step hs hm lc hlc q0 q1 k v S c hS 0 2 (by decide) 2 3 rfl (by omega) _ rfl _ _ rfl _ _ rfl _ _ ?_
    refine inv_step hs hm lc hlc q0 q1 k v S c hS 2 1 (by decide) 1 2 rfl (by omega) _ rfl _ _ rfl _ _ rfl _ _ ?_
    refine inv_step hs hm lc hlc q0 q1 k v S c hS 1 0 (by decide) 0 1 rfl (by omega) _ rfl _ _ rfl _ _ rfl _ _ ?_
    exact inv_first hs hm lc hlc q0 q1 k v S c hS _ _ _ x hxk hxv
  have h15 := foldl_inv (hs := hs) hm lc hlc q0 q1 k S c hS o.loop.trips (fun t y => Inv k v S c (3 + 6 * t) 0 y) (fun y t => tripSt hs o lc q0 q1 t y) (headSt hs lc q0 q1 x) h3 (fun t y hy => by
    have ht' : (t : Nat) < 2 := lt_of_lt_of_eq t.isLt ht
    show Inv k v S c (3 + 6 * (t : Nat) + 1 + 1 + 1 + 1 + 1 + 1) 0 _
    unfold tripSt tripStepSt
    refine inv_step hs hm lc hlc q0 q1 k v S c hS 0 2 (by decide) (3 + 6 * (t : Nat) + 1 + 1 + 1 + 1 + 1) _ rfl (by omega) _ ?_ _ _ (ov t 5 0) _ _ (ov t 5 1) _ _ ?_
    · rw [ok t 5]; exact congrArg (fun n => ![1024 * n, 0]) (by show 4 + 6 * (t : Nat) + 5 = _; omega)
    refine inv_step hs hm lc hlc q0 q1 k v S c hS 2 1 (by decide) (3 + 6 * (t : Nat) + 1 + 1 + 1 + 1) _ rfl (by omega) _ ?_ _ _ (ov t 4 0) _ _ (ov t 4 1) _ _ ?_
    · rw [ok t 4]; exact congrArg (fun n => ![1024 * n, 0]) (by show 4 + 6 * (t : Nat) + 4 = _; omega)
    refine inv_step hs hm lc hlc q0 q1 k v S c hS 1 0 (by decide) (3 + 6 * (t : Nat) + 1 + 1 + 1) _ rfl (by omega) _ ?_ _ _ (ov t 3 0) _ _ (ov t 3 1) _ _ ?_
    · rw [ok t 3]; exact congrArg (fun n => ![1024 * n, 0]) (by show 4 + 6 * (t : Nat) + 3 = _; omega)
    refine inv_step hs hm lc hlc q0 q1 k v S c hS 0 2 (by decide) (3 + 6 * (t : Nat) + 1 + 1) _ rfl (by omega) _ ?_ _ _ (ov t 2 0) _ _ (ov t 2 1) _ _ ?_
    · rw [ok t 2]; exact congrArg (fun n => ![1024 * n, 0]) (by show 4 + 6 * (t : Nat) + 2 = _; omega)
    refine inv_step hs hm lc hlc q0 q1 k v S c hS 2 1 (by decide) (3 + 6 * (t : Nat) + 1) _ rfl (by omega) _ ?_ _ _ (ov t 1 0) _ _ (ov t 1 1) _ _ ?_
    · rw [ok t 1]; exact congrArg (fun n => ![1024 * n, 0]) (by show 4 + 6 * (t : Nat) + 1 = _; omega)
    refine inv_step hs hm lc hlc q0 q1 k v S c hS 1 0 (by decide) (3 + 6 * (t : Nat)) _ rfl (by omega) _ ?_ _ _ (ov t 0 0) _ _ (ov t 0 1) _ _ hy
    · rw [ok t 0]; exact congrArg (fun n => ![1024 * n, 0]) (by show 4 + 6 * (t : Nat) + 0 = _; omega))
  unfold flashSt
  generalize (List.finRange o.loop.trips).foldl (fun y t => tripSt hs o lc q0 q1 t y) (headSt hs lc q0 q1 x) = y at h15 ⊢
  rw [ht] at h15
  obtain ⟨hyk, hyv, M, M', hc⟩ := h15
  refine ⟨M', fun ρ => (hc.den ρ), fun d => ?_⟩
  have e : (lastSt hs y).acc = accPut hs y.v (y.p 0) ![2 * 15, 0, 0] (inb_val dv 30 (by omega)) ![2 * 15 + 1, 0, 0] (inb_val dv 31 (by omega)) (take (rRow 1 (by omega)) y.st) y.acc := rfl
  rw [e, accPut_apply hs hm y.v (y.p 0) 15 (by omega) _ rfl _ _ rfl _ _ _ d c (fun i => (2 : ℝ) ^ (S (1024 * 15 + i) - M)) hc.wts, takeRow_apply, hc.sum, hyv]
  have f := hc.fac
  rw [show (⟨1, by omega⟩ : Fin 16) = 1 from rfl, f]
  exact sum_step v S d 15 M M'

end steps

end Cert.Attn

end
-- ==== Proof.Block.lean ====
/- The output tile over the reals: each head's rows are the weighted means of the values. -/
module

public import proofs.«01_k».proof.Proof.Launch
public import proofs.«01_k».proof.Proof.Flash
public import Idealize.ShloMosaic.Lib.Pointwise

@[expose] public section

set_option maxRecDepth 16384

noncomputable section

namespace Cert.KernelIdeal.Hand

open Idealize.ShloMosaic Idealize.ShloMosaic.TcCoe Idealize.SL.Sem
open Cert.Attn
open Facts₀ Facts

/-- What a chunk does to the accumulator of 64 value columns. -/
theorem meets64 : Meets sides64 := by
  intro v0 v1 acc p sc d c
  pointwise [accNew, slabs, dotV]

theorem trips_eq : offs.loop.trips = 2 := by decide
theorem key_eq : ∀ (t : Fin offs.loop.trips) (u : Fin 6), offs.key t u = ![1024 * (4 + 6 * (t : Nat) + u), 0] := by decide +kernel
theorem val_eq : ∀ (t : Fin offs.loop.trips) (u : Fin 6) (r : Fin 2), offs.val t u r = ![2 * (3 + 6 * (t : Nat) + u) + r, 0, 0] := by decide +kernel

/-- The lanes of a key head. -/
theorem mine_apply (g : Fin 2) (i j : Fin 128) : mine (BitVec.ofNat 32 g) (ix2 i j) = if (j : Nat) / 64 = g then 1#1 else 0#1 := by
  have e : mine (BitVec.ofNat 32 g) (ix2 i j) = mine (BitVec.ofNat 32 g) (ix2 0 j) := rfl
  rw [e]
  clear e
  revert g j
  decide +kernel

theorem half_eq (g e : Fin 2) : Scalar.cmpi .eq (BitVec.ofNat 32 g) (BitVec.ofNat 32 e) = if g = e then 1#1 else 0#1 := by
  revert g e
  decide +kernel

/-- The lanes below 64. -/
theorem low_apply (i j : Fin 128) : IntOp.cmpi .slt (lane (ix2 i j)) 64#32 = if (j : Nat) < 64 then 1#1 else 0#1 := by
  have e : IntOp.cmpi .slt (lane (ix2 i j)) 64#32 = IntOp.cmpi .slt (lane (ix2 0 j)) 64#32 := rfl
  rw [e]
  clear e
  revert j
  decide +kernel

theorem select_if {p : Prop} [Decidable p] {α : Type} (a b : α) : Scalar.select (if p then 1#1 else 0#1) a b = if p then a else b := by
  by_cases h : p
  · rw [if_pos h, if_pos h]; rfl
  · rw [if_neg h, if_neg h]; rfl

/-- A query head in its key head's lanes. -/
theorem headOf_apply (g e : Fin 2) (x : Vec Ideal S128x128 .bf16) (i j : Fin 128) :
    headOf (BitVec.ofNat 32 g) (BitVec.ofNat 32 e) x (ix2 i j) = if (j : Nat) / 64 = g then x (ix2 i ⟨64 * e + j % 64, by omega⟩ : S128x128.Idx) else 0 := by
  pointwise [headOf]
  rw [mine_apply, half_eq, select_if, select_if]
  by_cases h : (j : Nat) / 64 = g
  · rw [if_pos h, if_pos h]
    by_cases h' : g = e
    · rw [if_pos h']
      exact congrArg (fun n => x (ix2 i n : S128x128.Idx)) (Fin.ext (by subst h'; show (j : Nat) = 64 * (g : Nat) + (j : Nat) % 64; omega))
    · rw [if_neg h']
      have h'' : (g : Nat) ≠ e := fun h => h' (Fin.ext h)
      exact congrArg (fun n => x (ix2 i n : S128x128.Idx)) (Fin.ext (by show ((j : Nat) + 128 - 64) % 128 = 64 * (e : Nat) + (j : Nat) % 64; omega))
  · rw [if_neg h, if_neg h]

/-- The query columns of a tile. -/
def qall (g : BitVec 32) (q : Vec Ideal S128x256 .bf16) : FVec Ideal S128x512 .bf16 := qcols g (take rX q) (take rX q) (take rY q) (take rY q)

/-- Column `128 e + r` holds head `e` of row `r`, in the lanes of the key head. -/
theorem qall_apply (g : Fin 2) (q : Vec Ideal S128x256 .bf16) (j : Fin 128) (e : Fin 4) (r : Fin 128) (c : Fin 512) (hc : (c : Nat) = 128 * e + r) :
    qall (BitVec.ofNat 32 g) q (ix2 j c) = if (j : Nat) / 64 = g then q (ix2 r ⟨64 * e + j % 64, by omega⟩ : S128x256.Idx) else 0 := by
  have z := headOf_apply g 0
  have o := headOf_apply g 1
  pointwise [qall, qcols]
  have tx : ∀ (a a' b : Fin 128) (n : Fin 256), a = a' → (n : Nat) = b → take rX q (ix2 a b : S128x128.Idx) = q (ix2 a' n : S128x256.Idx) := fun a a' b n ha hn => by
    subst ha
    refine (take2 inb_S128x256_S128x128_0_0 q a b (by omega) (by omega)).trans ?_
    exact congrArg q ((ix2_inj _ _ _ _).2 ⟨Fin.ext (by show 0 + (a : Nat) = a; omega), Fin.ext (by show 0 + (b : Nat) = n; omega)⟩)
  have ty : ∀ (a a' b : Fin 128) (n : Fin 256), a = a' → (n : Nat) = 128 + b → take rY q (ix2 a b : S128x128.Idx) = q (ix2 a' n : S128x256.Idx) := fun a a' b n ha hn => by
    subst ha
    refine (take2 inb_S128x256_S128x128_0_128 q a b (by omega) (by omega)).trans ?_
    exact congrArg q ((ix2_inj _ _ _ _).2 ⟨Fin.ext (by show 0 + (a : Nat) = a; omega), Fin.ext (by show 128 + (b : Nat) = n; omega)⟩)
  have hr := r.isLt
  have hj := j.isLt
  fin_cases e
  · have hc' : (c : Nat) = r := by simpa using hc
    rw [dif_pos (by omega)]
    refine (z _ _ _).trans ?_
    refine if_congr Iff.rfl (tx _ _ _ _ (Fin.ext hc') ?_) rfl
    show 64 * 0 + (j : Nat) % 64 = 64 * 0 + (j : Nat) % 64
    rfl
  · have hc' : (c : Nat) = 128 + r := by simpa using hc
    rw [dif_neg (by omega), dif_pos (by omega)]
    refine (o _ _ _).trans ?_
    refine if_congr Iff.rfl (tx _ _ _ _ (Fin.ext (by show (c : Nat) - 128 = r; omega)) ?_) rfl
    show 64 * 1 + (j : Nat) % 64 = 64 * 1 + (j : Nat) % 64
    rfl
  · have hc' : (c : Nat) = 256 + r := by simpa using hc
    rw [dif_neg (by omega), dif_neg (by omega), dif_pos (by omega)]
    refine (z _ _ _).trans ?_
    refine if_congr Iff.rfl (ty _ _ _ _ (Fin.ext (by show (c : Nat) - 128 - 128 = r; omega)) ?_) rfl
    show 64 * 2 + (j : Nat) % 64 = 128 + (64 * 0 + (j : Nat) % 64)
    omega
  · have hc' : (c : Nat) = 384 + r := by simpa using hc
    rw [dif_neg (by omega), dif_neg (by omega), dif_neg (by omega)]
    refine (o _ _ _).trans ?_
    refine if_congr Iff.rfl (ty _ _ _ _ (Fin.ext (by show (c : Nat) - 128 - 128 - 128 = r; omega)) ?_) rfl
    show 64 * 3 + (j : Nat) % 64 = 128 + (64 * 1 + (j : Nat) % 64)
    omega

theorem qa_apply (g : BitVec 32) (q : Vec Ideal S128x256 .bf16) (j : Fin 128) (c : Fin 256) (c' : Fin 512) (h : (c' : Nat) = c) : qa g q (ix2 j c) = qall g q (ix2 j c') := by
  rw [show c' = ⟨c, by omega⟩ from Fin.ext h]
  pointwise [qa, qc0]
  rfl

theorem qb_apply (g : BitVec 32) (q : Vec Ideal S128x256 .bf16) (j : Fin 128) (c : Fin 256) (c' : Fin 512) (h : (c' : Nat) = 256 + c) : qb g q (ix2 j c) = qall g q (ix2 j c') := by
  rw [show c' = ⟨256 + c, by omega⟩ from Fin.ext h]
  pointwise [qb, qc1]
  rfl

/-- A sum over the lanes of a key head. -/
theorem sum_head (g : Fin 2) (f : Fin 128 → EReal) (h : Fin 64 → EReal) (F : Fin 128 → EReal) (hF : ∀ j, F j = f j * if (j : Nat) / 64 = g then h ⟨j % 64, by omega⟩ else 0) :
    (∑ j : Fin 128, F j) = ∑ d : Fin 64, f ⟨64 * g + d, by omega⟩ * h d := by
  have a : ∀ d : Fin 64, F (Fin.castAdd 64 d) = f ⟨d, by omega⟩ * if 0 = (g : Nat) then h d else 0 := fun d => by
    have e : (d : Nat) / 64 = 0 := by omega
    have e' : (⟨(Fin.castAdd 64 d : Fin (64 + 64)) % 64, by omega⟩ : Fin 64) = d := Fin.ext (by show (d : Nat) % 64 = d; omega)
    rw [hF, e']
    show _ * (if (d : Nat) / 64 = g then _ else _) = _
    rw [e]
    rfl
  have b : ∀ d : Fin 64, F (Fin.natAdd 64 d) = f ⟨64 + d, by omega⟩ * if 1 = (g : Nat) then h d else 0 := fun d => by
    have e : (64 + (d : Nat)) / 64 = 1 := by omega
    have e' : (⟨(Fin.natAdd 64 d : Fin (64 + 64)) % 64, by omega⟩ : Fin 64) = d := Fin.ext (by show (64 + (d : Nat)) % 64 = d; omega)
    rw [hF, e']
    show _ * (if (64 + (d : Nat)) / 64 = g then _ else _) = _
    rw [e]
    rfl
  refine (Fin.sum_univ_add (a := 64) (b := 64) F).trans ?_
  rw [Finset.sum_congr rfl fun d _ => a d, Finset.sum_congr rfl fun d _ => b d]
  rcases (by omega : (g : Nat) = 0 ∨ (g : Nat) = 1) with hg | hg
  · have z : (∑ d : Fin 64, f ⟨64 + d, by omega⟩ * if 1 = (g : Nat) then h d else 0) = 0 := Finset.sum_eq_zero fun d _ => by rw [if_neg (by omega), mul_zero]
    rw [z, add_zero]
    refine Finset.sum_congr rfl fun d _ => ?_
    rw [if_pos hg.symm]
    exact congrArg (fun n => f n * h d) (Fin.ext (by show (d : Nat) = 64 * g + d; omega))
  · have z : (∑ d : Fin 64, f ⟨d, by omega⟩ * if 0 = (g : Nat) then h d else 0) = 0 := Finset.sum_eq_zero fun d _ => by rw [if_neg (by omega), mul_zero]
    rw [z, zero_add]
    refine Finset.sum_congr rfl fun d _ => ?_
    rw [if_pos hg.symm]
    exact congrArg (fun n => f n * h d) (Fin.ext (by show 64 + (d : Nat) = 64 * g + d; omega))

/-- A score is the product of a key with its query, over the 64 components of a head. -/
theorem score_head (k : Vec Ideal S16384x128 .bf16) (g : Fin 2) (q : Vec Ideal S128x256 .bf16) (i : Fin 16384) (e : Fin 4) (r : Fin 128) (c : Fin 512) (hc : (c : Nat) = 128 * e + r) :
    score k (qa (BitVec.ofNat 32 g) q) (qb (BitVec.ofNat 32 g) q) i c
      = ∑ d : Fin 64, k (ix2 i ⟨64 * g + d, by omega⟩ : S16384x128.Idx) * q (ix2 r ⟨64 * e + d, by omega⟩ : S128x256.Idx) := by
  have f : score k (qa (BitVec.ofNat 32 g) q) (qb (BitVec.ofNat 32 g) q) i c = ∑ j : Fin 128, k (ix2 i j : S16384x128.Idx) * qall (BitVec.ofNat 32 g) q (ix2 j c) := by
    unfold score
    split_ifs with h
    · exact Finset.sum_congr rfl fun j _ => by rw [qa_apply _ _ _ _ c rfl]
    · exact Finset.sum_congr rfl fun j _ => by rw [qb_apply _ _ _ _ c (by show (c : Nat) = 256 + ((c : Nat) - 256); omega)]
  rw [f]
  exact sum_head g (fun j => k (ix2 i j : S16384x128.Idx)) (fun d => q (ix2 r ⟨64 * e + d, by omega⟩ : S128x256.Idx)) _ fun j => by rw [qall_apply g q j e r c hc]

end Cert.KernelIdeal.Hand

end
-- ==== Proof.Out.lean ====
/- The output tile over the reals: a head's row is the mean of the values, weighted by the softmax of its scores. -/
module

public import proofs.«01_k».proof.Proof.Block

@[expose] public section

set_option maxRecDepth 16384

noncomputable section

namespace Cert.Attn

open Idealize.ShloMosaic Idealize.SL.Sem

/-- The weight of key `i` among 16384, to base two. -/
def soft (S : Nat → ℝ) (i : Nat) : ℝ := (2 : ℝ) ^ S i / ∑ j ∈ Finset.range 16384, (2 : ℝ) ^ S j

/-- A sum of real numbers is a real number. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- Eight interleaved partial sums make the whole. -/
theorem sum_eights (f : Nat → ℝ) (n : Nat) : ∑ ρ : Fin 8, ∑ a ∈ Finset.range n, f (8 * a + ρ) = ∑ i ∈ Finset.range (8 * n), f i := by
  rw [Finset.sum_comm]
  induction n with
  | zero => rfl
  | succ n ih =>
    rw [Finset.sum_range_succ, ih, show 8 * (n + 1) = 8 * n + 8 by omega, Finset.sum_range_add, Finset.sum_range (fun x => f (8 * n + x))]

/-- The quotient of a column's sums, whatever maximum they are relative to. -/
theorem mean_eq {dv : Nat} (v : Vec Ideal (SV dv) .bf16) (S : Nat → ℝ) (M : ℝ) (d : Fin dv) (L : EReal)
    (hL : L = ∑ ρ : Fin 8, ((∑ a ∈ Finset.range 2048, (2 : ℝ) ^ (S (8 * a + ρ) - M) : ℝ) : EReal)) :
    Ideal.div (∑ i ∈ Finset.range 16384, val v i d * (((2 : ℝ) ^ (S i - M) : ℝ) : EReal)) L
      = ∑ i ∈ Finset.range 16384, val v i d * (soft S i : EReal) := by
  have two : (0 : ℝ) < 2 := two_pos
  have e : L = ((∑ i ∈ Finset.range 16384, (2 : ℝ) ^ (S i - M) : ℝ) : EReal) := by
    rw [hL, ← sum_eights (fun i => (2 : ℝ) ^ (S i - M)) 2048]
    exact (coe_sum _ _).symm
  have p : 0 < ∑ i ∈ Finset.range 16384, (2 : ℝ) ^ (S i - M) := Finset.sum_pos (fun i _ => Real.rpow_pos_of_pos two _) ⟨0, Finset.mem_range.2 (by omega)⟩
  rw [e, Ideal.div_coe p.ne', sum_mul_pos _ _ _ (one_div_pos.2 p).le]
  refine Finset.sum_congr rfl fun i _ => ?_
  rw [mul_assoc, ← EReal.coe_mul]
  have q : ∑ i ∈ Finset.range 16384, (2 : ℝ) ^ (S i - M) = (∑ i ∈ Finset.range 16384, (2 : ℝ) ^ S i) / (2 : ℝ) ^ M := by
    rw [Finset.sum_div]
    exact Finset.sum_congr rfl fun i _ => Real.rpow_sub two _ _
  have z : (2 : ℝ) ^ M ≠ 0 := (Real.rpow_pos_of_pos two _).ne'
  rw [q, Real.rpow_sub two, one_div, inv_div, div_mul_div_comm, mul_comm ((2 : ℝ) ^ M), mul_div_mul_right _ _ z]
  rfl

end Cert.Attn

namespace Cert.KernelIdeal.Hand

open Idealize.ShloMosaic Idealize.ShloMosaic.TcCoe Idealize.SL.Sem
open Cert.Attn
open Facts₀ Facts

theorem denOf_apply (l : Vec Ideal S8x512 .f32) (c : Fin 512) : denOf l (ix2 0 c) = ∑ ρ : Fin 8, l (ix2 ρ c : S8x512.Idx) := by
  pointwise [denOf]

/-- The quotient in row `c`, lane `j`. -/
theorem quotT_apply (a : Vec Ideal S64x512 .f32) (l : FVec Ideal S1x512 .f32) (c : Fin 512) (j : Fin 128) (d : Fin 64) (h : (j : Nat) = d) :
    quotT a l (ix2 c j) = Ideal.div (a (ix2 d c : S64x512.Idx)) (l (ix2 0 c)) := by
  pointwise [quotT]
  rw [dif_pos (by omega)]
  exact congrArg (fun n => Ideal.div (a (ix2 n c : S64x512.Idx)) (l (ix2 0 c))) (Fin.ext h)

/-- A tile of two heads, of which head `e` begins at row `128 e` of the quotients. -/
theorem outX_apply (a : Vec Ideal S64x512 .f32) (l : FVec Ideal S1x512 .f32) (r : Fin 128) (j : Fin 128) (e : Fin 2) (d : Fin 64) (h : (j : Nat) = 64 * e + d)
    (c : Fin 512) (hc : (c : Nat) = 128 * e + r) : outX a l (ix2 r j) = Ideal.div (a (ix2 d c : S64x512.Idx)) (l (ix2 0 c)) := by
  pointwise [outX, pairOf]
  rw [low_apply, select_if]
  split_ifs with h'
  · rw [quotT_apply a l _ j d (by omega)]
    rw [show (⟨r, by omega⟩ : Fin 512) = c from Fin.ext (by show (r : Nat) = c; omega)]
  · rw [quotT_apply a l _ _ d (by show ((j : Nat) + 128 - 64) % 128 = d; omega)]
    rw [show (⟨128 + r, by omega⟩ : Fin 512) = c from Fin.ext (by show 128 + (r : Nat) = c; omega)]

theorem outY_apply (a : Vec Ideal S64x512 .f32) (l : FVec Ideal S1x512 .f32) (r : Fin 128) (j : Fin 128) (e : Fin 2) (d : Fin 64) (h : (j : Nat) = 64 * e + d)
    (c : Fin 512) (hc : (c : Nat) = 256 + 128 * e + r) : outY a l (ix2 r j) = Ideal.div (a (ix2 d c : S64x512.Idx)) (l (ix2 0 c)) := by
  pointwise [outY, pairOf]
  rw [low_apply, select_if]
  split_ifs with h'
  · rw [quotT_apply a l _ j d (by omega)]
    rw [show (⟨256 + r, by omega⟩ : Fin 512) = c from Fin.ext (by show 256 + (r : Nat) = c; omega)]
  · rw [quotT_apply a l _ _ d (by show ((j : Nat) + 128 - 64) % 128 = d; omega)]
    rw [show (⟨384 + r, by omega⟩ : Fin 512) = c from Fin.ext (by show 384 + (r : Nat) = c; omega)]

/-- The tile's cell of head `e`, row `r`, component `d`. -/
theorem tileOf_apply (o : Vec Ideal S128x256 .bf16) (x : St 64 Ideal) (e : Fin 4) (r : Fin 128) (d : Fin 64) (j : Fin 256) (h : (j : Nat) = 64 * e + d)
    (c : Fin 512) (hc : (c : Nat) = 128 * e + r) :
    tileOf o x (ix2 r j : S128x256.Idx) = Ideal.div (x.acc (ix2 d c : S64x512.Idx)) (∑ ρ : Fin 8, x.st (ix2 ⟨8 + ρ, by omega⟩ c : S16x512.Idx)) := by
  have ea : (take rA x.acc : Vec Ideal S64x512 .f32) = x.acc := take_full2 inb_S64x512_S64x512_0_0 x.acc
  have el : denOf (take rL x.st) (ix2 0 c) = ∑ ρ : Fin 8, x.st (ix2 ⟨8 + ρ, by omega⟩ c : S16x512.Idx) :=
    (denOf_apply _ c).trans (Finset.sum_congr rfl fun ρ _ => takeL_apply x.st ρ c)
  unfold tileOf
  refine (put2 _ _ _ r j).trans ?_
  split
  next hj =>
    rw [outY_apply _ _ _ _ ⟨(e : Nat) - 2, by omega⟩ d (by show (j : Nat) - 128 = 64 * ((e : Nat) - 2) + d; omega) c (by show (c : Nat) = 256 + 128 * ((e : Nat) - 2) + (r - 0); omega), ea, el]
  next hj =>
    refine (put2 _ _ _ r j).trans ?_
    rw [dif_pos (by omega)]
    rw [outX_apply _ _ _ _ ⟨e, by omega⟩ d (by show (j : Nat) - 0 = 64 * (e : Nat) + d; omega) c (by show (c : Nat) = 128 * (e : Nat) + (r - 0); omega), ea, el]

/-- Head `e` of a query tile of key head `g`: the mean of the values, weighted by the softmax of the scores. -/
theorem tile_value (k : Vec Ideal S16384x128 .bf16) (v : Vec Ideal S32x64x512 .bf16) (q o : Vec Ideal S128x256 .bf16) (g : Fin 2) (e : Fin 4) (r : Fin 128) (d : Fin 64)
    (j : Fin 256) (h : (j : Nat) = 64 * e + d) (S : Nat → ℝ)
    (hS : ∀ i : Fin 16384, ∑ d : Fin 64, k (ix2 i ⟨64 * g + d, by omega⟩ : S16384x128.Idx) * q (ix2 r ⟨64 * e + d, by omega⟩ : S128x256.Idx) = (S i : EReal)) :
    tileOf o (fin (BitVec.ofNat 32 g) q (st₀ k v)) (ix2 r j : S128x256.Idx) = ∑ i ∈ Finset.range 16384, val (dv := 64) v i d * (soft S i : EReal) := by
  have he := e.isLt
  have hr := r.isLt
  obtain ⟨M, hl, ha⟩ := flash_col sides64 meets64 lc rfl (qa (BitVec.ofNat 32 g) q) (qb (BitVec.ofNat 32 g) q) k v S ⟨128 * e + r, by omega⟩
    (fun i => (score_head k g q i e r _ rfl).trans (hS i)) offs trips_eq key_eq val_eq (st₀ k v) rfl rfl
  rw [tileOf_apply o _ e r d j h ⟨128 * e + r, by omega⟩ rfl]
  have e1 : fin (BitVec.ofNat 32 g) q (st₀ k v) = flashSt sides64 offs lc (qa (BitVec.ofNat 32 g) q) (qb (BitVec.ofNat 32 g) q) (st₀ k v) := rfl
  rw [e1, ha d]
  exact mean_eq v S M d _ (Finset.sum_congr rfl fun ρ _ => hl ρ)

end Cert.KernelIdeal.Hand

end
-- ==== Proof.Ref.lean ====
/- The reference, read at a cell: the softmax mean of the values. -/
module

public import proofs.«01_k».proof.Proof.Gen.ReferenceIdeal.Run
public import proofs.«01_k».proof.Proof.Peak
public import proofs.«01_k».proof.Proof.Out
public import Idealize.ShloMosaic.Lib.Pointwise

@[expose] public section

set_option maxRecDepth 16384

noncomputable section

namespace Cert.ReferenceIdeal.Hand

open Idealize.ShloMosaic Idealize.ShloMosaic.TcCoe Idealize.SL.Sem
open Cert.ReferenceIdeal Cert.ReferenceIdeal.Gen
open Cert.Attn (soft coe_sum)

/-- The scores, to base e. -/
def scores (q : FVec Ideal S16384x512 .bf16) (k : FVec Ideal S16384x128 .bf16) : FVec Ideal S2x4x16384x16384 .f32 :=
  mulf (Host.dotGeneral dot_S2x4x16384x64_S2x16384x64_S2x4x16384x16384_3_2_12_1_0_0 none
      (transpose S2x4x16384x64 [1, 2, 0, 3] (shapeCast S16384x2x4x64 q shapeCasts_S16384x512_S16384x2x4x64) transposes_S16384x2x4x64_S2x4x16384x64_1_2_0_3)
      (transpose S2x16384x64 [1, 0, 2] (shapeCast S16384x2x64 k shapeCasts_S16384x128_S16384x2x64) transposes_S16384x2x64_S2x16384x64_1_0_2))
    (broadcastInDim S2x4x16384x16384 ![] bcast_S_S2x4x16384x16384 (Host.log (constant S_ .f32 0x40000000#32)))
/-- A number per query, for each of its keys. -/
def spread (x : FVec Ideal S2x4x16384 .f32) : FVec Ideal S2x4x16384x16384 .f32 :=
  broadcastInDim S2x4x16384x16384 ![0, 1, 2, 3] bcast_S2x4x16384x1_S2x4x16384x16384_0_1_2_3 (broadcastInDim S2x4x16384x1 ![0, 1, 2] bcast_S2x4x16384_S2x4x16384x1_0_1_2 x)
/-- The powers of the scores below the greatest. -/
def powers (s : FVec Ideal S2x4x16384x16384 .f32) : FVec Ideal S2x4x16384x16384 .f32 := Host.exp (subf s (spread (peak s)))
/-- Their sums. -/
def totals (p : FVec Ideal S2x4x16384x16384 .f32) : FVec Ideal S2x4x16384 .f32 :=
  Host.reduceAdd p (constant S_ .f32 0x00000000#32) reducesTo_S2x4x16384x16384_S2x4x16384_d3 h_S_
/-- The weights. -/
def weights (s : FVec Ideal S2x4x16384x16384 .f32) : FVec Ideal S2x4x16384x16384 .bf16 :=
  truncf .bf16 (Host.divf (powers s) (spread (totals (powers s)))) bitsLt_bf16_f32
/-- The values, by head. -/
def values (v : FVec Ideal S32x128x512 .bf16) : FVec Ideal S2x16384x64 .bf16 :=
  transpose S2x16384x64 [1, 0, 2] (shapeCast S16384x2x64 (transpose S32x512x128 [0, 2, 1] v transposes_S32x128x512_S32x512x128_0_2_1) shapeCasts_S32x512x128_S16384x2x64)
    transposes_S16384x2x64_S2x16384x64_1_0_2
/-- The reference's result. -/
def REF (q : FVec Ideal S16384x512 .bf16) (k : FVec Ideal S16384x128 .bf16) (v : FVec Ideal S32x128x512 .bf16) : FVec Ideal S16384x512 .bf16 :=
  truncf .bf16 (shapeCast S16384x512 (transpose S16384x2x4x64 [2, 0, 1, 3]
      (Host.dotGeneral dot_S2x4x16384x16384_S2x16384x64_S2x4x16384x64_3_1_12_2_0_0 none (weights (scores q k)) (values v))
    transposes_S2x4x16384x64_S16384x2x4x64_2_0_1_3) shapeCasts_S16384x2x4x64_S16384x512) bitsLt_bf16_f32

theorem two : Ideal.ofBits .f32 0x40000000#32 = ((2 : ℝ) : EReal) := by
  have e : Ideal.ofBits .f32 0x40000000#32 = ((8388608 : ℝ) : EReal) * (((2 ^ 22 : ℝ)⁻¹ : ℝ) : EReal) := by simp [Ideal.ofBits, Ideal.ieee]
  rw [e, ← EReal.coe_mul]
  norm_num

/-- The logarithm of two. -/
theorem log_two : Ideal.log (Ideal.ofBits .f32 0x40000000#32) = ((Real.log 2 : ℝ) : EReal) := by
  rw [two, Ideal.log_coe, if_neg (by norm_num)]

/-- A score. -/
theorem scores_apply (q : FVec Ideal S16384x512 .bf16) (k : FVec Ideal S16384x128 .bf16) (g : Fin 2) (e : Fin 4) (r i : Fin 16384) :
    scores q k (ix4 g e r i) = (∑ x : Fin 64, q (ix2 r ⟨g * 256 + e * 64 + x, by omega⟩) * k (ix2 i ⟨g * 64 + x, by omega⟩)) * ((Real.log 2 : ℝ) : EReal) := by
  rw [← log_two]
  pointwise [scores]

theorem powers_apply (s : FVec Ideal S2x4x16384x16384 .f32) (g : Fin 2) (e : Fin 4) (r i : Fin 16384) :
    powers s (ix4 g e r i) = Ideal.exp (s (ix4 g e r i) - peak s (ix3 g e r)) := by
  pointwise [powers, spread]

theorem totals_apply (s : FVec Ideal S2x4x16384x16384 .f32) (g : Fin 2) (e : Fin 4) (r : Fin 16384) :
    totals s (ix3 g e r) = ∑ x : Fin 16384, s (ix4 g e r x) := by
  pointwise [totals]

theorem weights_apply (s : FVec Ideal S2x4x16384x16384 .f32) (g : Fin 2) (e : Fin 4) (r i : Fin 16384) :
    weights s (ix4 g e r i) = Ideal.div (powers s (ix4 g e r i)) (totals (powers s) (ix3 g e r)) := by
  pointwise [weights, spread]

theorem values_apply (v : FVec Ideal S32x128x512 .bf16) (g : Fin 2) (i : Fin 16384) (d : Fin 64) :
    values v (ix3 g i d) = v (ix3 ⟨i / 512, by omega⟩ ⟨g * 64 + d, by omega⟩ ⟨i % 512, by omega⟩) := by
  pointwise [values]

theorem REF_apply (q : FVec Ideal S16384x512 .bf16) (k : FVec Ideal S16384x128 .bf16) (v : FVec Ideal S32x128x512 .bf16) (r : Fin 16384) (j : Fin 512) :
    REF q k v (ix2 r j) = ∑ x : Fin 16384, weights (scores q k) (ix4 ⟨j / 256, by omega⟩ ⟨j / 64 % 4, by omega⟩ r x) * values v (ix3 ⟨j / 256, by omega⟩ x ⟨j % 64, by omega⟩) := by
  pointwise [REF]

/-- The weights are the softmax to base two of the scores before their scaling. -/
theorem weights_soft (s : FVec Ideal S2x4x16384x16384 .f32) (g : Fin 2) (e : Fin 4) (r : Fin 16384) (S : Nat → ℝ)
    (hS : ∀ i : Fin 16384, s (ix4 g e r i) = ((S i * Real.log 2 : ℝ) : EReal)) (i : Fin 16384) : weights s (ix4 g e r i) = (soft S i : EReal) := by
  obtain ⟨b, hb⟩ := peak_real s g e r fun i => ⟨_, hS i⟩
  have p : ∀ i : Fin 16384, powers s (ix4 g e r i) = (((2 : ℝ) ^ S i * Real.exp (-b) : ℝ) : EReal) := fun i => by
    rw [powers_apply, hS, hb, ← EReal.coe_sub, Ideal.exp_coe, Real.rpow_def_of_pos two_pos, ← Real.exp_add]
    exact congrArg (fun z : ℝ => ((Real.exp z : ℝ) : EReal)) (by ring)
  have z : Real.exp (-b) ≠ 0 := (Real.exp_pos _).ne'
  have n : 0 < ∑ i ∈ Finset.range 16384, (2 : ℝ) ^ S i := Finset.sum_pos (fun i _ => Real.rpow_pos_of_pos two_pos _) ⟨0, Finset.mem_range.2 (by omega)⟩
  have t : totals (powers s) (ix3 g e r) = (((∑ i ∈ Finset.range 16384, (2 : ℝ) ^ S i) * Real.exp (-b) : ℝ) : EReal) := by
    rw [totals_apply, Finset.sum_congr rfl fun x _ => p x, ← coe_sum, Finset.sum_mul]
    exact congrArg _ (Finset.sum_range (fun i => (2 : ℝ) ^ S i * Real.exp (-b))).symm
  rw [weights_apply, p, t, Ideal.div_coe (mul_ne_zero n.ne' z), ← EReal.coe_mul]
  refine congrArg _ ?_
  unfold soft
  rw [mul_one_div, mul_div_mul_right _ _ z]

/-- The reference's cell: head `4 g + e`, row `r`, component `d`. -/
theorem REF_value (q : FVec Ideal S16384x512 .bf16) (k : FVec Ideal S16384x128 .bf16) (v : FVec Ideal S32x128x512 .bf16) (g : Fin 2) (e : Fin 4) (r : Fin 16384) (d : Fin 64)
    (j : Fin 512) (hj : (j : Nat) = 256 * g + 64 * e + d) (S : Nat → ℝ)
    (hS : ∀ i : Fin 16384, ∑ x : Fin 64, q (ix2 r ⟨g * 256 + e * 64 + x, by omega⟩) * k (ix2 i ⟨g * 64 + x, by omega⟩) = (S i : EReal)) :
    REF q k v (ix2 r j) = ∑ i ∈ Finset.range 16384, v (ix3 ⟨i / 512 % 32, by omega⟩ ⟨g * 64 + d, by omega⟩ ⟨i % 512, by omega⟩) * (soft S i : EReal) := by
  rw [REF_apply, Finset.sum_range]
  refine Finset.sum_congr rfl fun i _ => ?_
  rw [show (⟨j / 256, by omega⟩ : Fin 2) = g from Fin.ext (by show (j : Nat) / 256 = g; omega),
    show (⟨j / 64 % 4, by omega⟩ : Fin 4) = e from Fin.ext (by show (j : Nat) / 64 % 4 = e; omega),
    show (⟨j % 64, by omega⟩ : Fin 64) = d from Fin.ext (by show (j : Nat) % 64 = d; omega),
    weights_soft (scores q k) g e r S (fun i => by rw [scores_apply, hS, EReal.coe_mul]) i, values_apply, mul_comm]
  refine congrArg (fun n => v (ix3 n _ _) * _) (Fin.ext ?_)
  show (i : Nat) / 512 = (i : Nat) / 512 % 32
  omega

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.Hand

end
-- ==== Proof.Arr.lean ====
/- The kernel's result array. -/
module

public import proofs.«01_k».proof.Proof.Ref
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Cert.Attn Cert.KernelIdeal.Gen
open Cert.ReferenceIdeal.Hand (REF REF_value)
open Idealize.ShloMosaic.Pipeline (Dat)

variable (m : (ℓ : Loc nD τ sig) → Buf (Elt Ideal) ℓ) (ρ : Dev nD → PrngReg)

theorem idx : ∀ t : Fin cfg0.N, win0_0.index t = ![t.val % 128, t.val / 128] ∧ win0_1.index t = ![0, 0] ∧ win0_2.index t = ![0, t.val / 128, 0]
    ∧ win0_3.index t = ![t.val % 128, t.val / 128] ∧ ((grid0.coords t) 0).val = t.val / 128 ∧ t.val / 128 < 2 :=
  (by decide +kernel : ∀ t : Fin grid0.N, _)

theorem post3 (r : PUnit × MemSt nD τ sig (Elt Ideal)) (h : Pipeline.FramePost cfgs (dats m) 0 (V m) r) (c : Dev nD) :
    r.2.mem ((c : Thread nD τ).loc main_v0_0) = (dats m 0 c).arrAt 3 cfg0.N := (h c).1 3
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- The blocks of the queries, keys and values. -/
theorem blk0 (c : Dev nD) (t : Fin cfg0.N) (i : Fin 128) (j : Fin 256) (i' : Fin 16384) (j' : Fin 512) (hi : (i' : Nat) = 128 * (t.val % 128) + i) (hj : (j' : Nat) = 256 * (t.val / 128) + j) :
    iblk m c 0 t (ix2 i j) = m ((c : Thread nD τ).loc main_arg0) (ix2 i' j') := by
  blk_ext [iblk, V, idx t]
theorem blk1 (c : Dev nD) (t : Fin cfg0.N) (i : Fin 16384) (j : Fin 128) : iblk m c 1 t (ix2 i j) = m ((c : Thread nD τ).loc main_arg1) (ix2 i j) := by
  blk_ext [iblk, V, idx t]
theorem blk2 (c : Dev nD) (t : Fin cfg0.N) (i : Fin 32) (d : Fin 64) (j : Fin 512) (d' : Fin 128) (hd : (d' : Nat) = (t.val / 128) * 64 + d) :
    iblk m c 2 t (ix3 i d j) = m ((c : Thread nD τ).loc main_arg2) (ix3 i d' j) := by
  blk_ext [iblk, V, idx t]

/-- The result array, for queries and keys that are real numbers: the reference's result. -/
theorem final (c : Dev nD) (hq : ∀ i j, ∃ a : ℝ, m ((c : Thread nD τ).loc main_arg0) (ix2 i j) = (a : EReal))
    (hk : ∀ i j, ∃ a : ℝ, m ((c : Thread nD τ).loc main_arg1) (ix2 i j) = (a : EReal)) :
    (dats m 0 c).arrAt 3 (cfgs 0).N
      = REF (m ((c : Thread nD τ).loc main_arg0)) (m ((c : Thread nD τ).loc main_arg1)) (m ((c : Thread nD τ).loc main_arg2)) := by
  choose Q hQ using hq
  choose K hK using hk
  refine (dats m 0 c).arrAt_eq_of_covers 3 _ (by decide +kernel) fun t _ y => ?_
  blk_simp
  rw [after0_3]
  unfold finAt
  idx_vars y
  have hN : (t : Nat) < 256 := t.isLt
  have hg := (idx t).2.2.2.2.2
  have z0 : (y0 : Nat) < 128 := y0.isLt
  have z1 : (y1 : Nat) < 256 := y1.isLt
  rw [(idx t).2.2.2.2.1]
  have ep : (((View.whole main_v0_0).slice (win0_3.rect t)).emb (ix2 y0 y1) : S16384x512.Idx)
      = ix2 ⟨128 * (t.val % 128) + y0, by omega⟩ ⟨256 * (t.val / 128) + y1, by omega⟩ := by
    blk_ext [iblk, V, idx t]
  have h := tile_value (iblk m c 1 t) (iblk m c 2 t) (iblk m c 0 t) (zeros (F := Ideal) S128x256 .bf16) ⟨t.val / 128, hg⟩ ⟨y1 / 64, by omega⟩ y0 ⟨y1 % 64, by omega⟩ y1
    (by show (y1 : Nat) = 64 * (y1 / 64) + y1 % 64; omega)
    (fun n => if h : n < 16384 then ∑ x : Fin 64, K ⟨n, h⟩ ⟨64 * (t.val / 128) + x, by omega⟩ * Q ⟨128 * (t.val % 128) + y0, by omega⟩ ⟨256 * (t.val / 128) + (64 * (y1 / 64) + x), by omega⟩ else 0)
    (fun i => by
      rw [dif_pos i.isLt, coe_sum]
      refine Finset.sum_congr rfl fun x _ => ?_
      rw [blk1, hK, blk0 m c t y0 _ ⟨128 * (t.val % 128) + y0, by omega⟩ ⟨256 * (t.val / 128) + (64 * (y1 / 64) + x), by omega⟩ rfl rfl, hQ, EReal.coe_mul])
  have h' := REF_value (m ((c : Thread nD τ).loc main_arg0)) (m ((c : Thread nD τ).loc main_arg1)) (m ((c : Thread nD τ).loc main_arg2)) ⟨t.val / 128, hg⟩ ⟨y1 / 64, by omega⟩
    ⟨128 * (t.val % 128) + y0, by omega⟩ ⟨y1 % 64, by omega⟩ ⟨256 * (t.val / 128) + y1, by omega⟩ (by show 256 * (t.val / 128) + (y1 : Nat) = 256 * (t.val / 128) + 64 * (y1 / 64) + y1 % 64; omega)
    (fun n => if h : n < 16384 then ∑ x : Fin 64, K ⟨n, h⟩ ⟨64 * (t.val / 128) + x, by omega⟩ * Q ⟨128 * (t.val % 128) + y0, by omega⟩ ⟨256 * (t.val / 128) + (64 * (y1 / 64) + x), by omega⟩ else 0)
    (fun i => by
      rw [dif_pos i.isLt, coe_sum]
      refine Finset.sum_congr rfl fun x _ => ?_
      rw [EReal.coe_mul, ← hK, ← hQ, mul_comm]
      refine congrArg₂ (fun a b : EReal => a * b) (congrArg _ ((ix2_inj _ _ _ _).2 ⟨rfl, Fin.ext ?_⟩)) (congrArg _ ((ix2_inj _ _ _ _).2 ⟨rfl, Fin.ext ?_⟩))
      · show t.val / 128 * 64 + (x : Nat) = 64 * (t.val / 128) + x
        omega
      · show t.val / 128 * 256 + y1 / 64 * 64 + (x : Nat) = 256 * (t.val / 128) + (64 * (y1 / 64) + x)
        omega)
  rw [ep]
  refine h.trans (Eq.trans ?_ h'.symm)
  refine Finset.sum_congr rfl fun i _ => ?_
  refine congrArg (fun z : EReal => z * _) ?_
  exact blk2 m c t _ _ _ _ rfl

/-- The kernel's run: its result, and its arguments unchanged. -/
theorem run_value (hq : ∀ (c : Dev nD) i j, ∃ a : ℝ, m ((c.tc : Thread nD τ).loc main_arg0) (ix2 i j) = (a : EReal))
    (hk : ∀ (c : Dev nD) i j, ∃ a : ℝ, m ((c.tc : Thread nD τ).loc main_arg1) (ix2 i j) = (a : EReal)) :
    θ_run defs (onTc (τ := τ) (main (F := Ideal))) ⟨m, fun _ => 0, ρ⟩ fun r => ∀ c : Dev nD,
      r.2.mem ((c.tc : Thread nD τ).loc main_v0_0) = REF (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(post3 m r h c).trans (final m c (hq c) (hk c)), kept0 m r h c, kept1 m r h c, kept2 m r h c⟩) (run m ρ)

end Cert.KernelIdeal.Hand

end
-- ==== Proof.Pre.lean ====
/- What the precondition says: queries and keys are real numbers. -/
module

public import proofs.«01_k».proof.Pre_finite_scores
public import Idealize.ShloMosaic.Lib.Pointwise

@[expose] public section

noncomputable section

namespace Cert.Pre_finite_scores.Hand

open Idealize.ShloMosaic
open Cert.Pre_finite_scores

/-- The shape conditions. -/
theorem facts : Facts where
  bitsLt_bf16_f32 := by decide
  bcast_S_S16384x512 := by decide
  bcast_S_S16384x128 := by decide

theorem top : Ideal.ofBits .f32 0x7F800000#32 = ⊤ := by simp [Ideal.ofBits, Ideal.ieee]

/-- A number whose magnitude is below infinity is real. -/
theorem real_of_lt {s u : Shape} (x : FVec Ideal s .bf16) (hb : FTy.bits .bf16 < FTy.bits .f32) (f : Fin u.rank → Fin s.rank) (h : u.BroadcastsInDim s f) (i : s.Idx)
    (e : cmpf .olt (Host.absf (extf .f32 x hb)) (broadcastInDim s f h (constant u .f32 0x7F800000#32)) i = 1#1) : ∃ a : ℝ, x i = (a : EReal) := by
  have e' : Ideal.cmp .olt (max (x i : EReal) (-(x i : EReal))) (Ideal.ofBits .f32 0x7F800000#32) = 1#1 := e
  rw [top] at e'
  generalize (x i : EReal) = y at e' ⊢
  induction y using EReal.rec with
  | bot => simp [Ideal.cmp] at e'
  | coe a => exact ⟨a, rfl⟩
  | top => simp [Ideal.cmp] at e'

end Cert.Pre_finite_scores.Hand

end
-- ==== Proof.Body2.lean ====
/- The differential attention's body: the two components of a query head against its columns, sixteen chunks of keys,
   the quotients of the sums, their difference, and its norm. -/
module

public import proofs.«01_k».proof.Proof.Step
public import proofs.«01_k».proof.Kernel2Ideal
public import Idealize.ShloMosaic.Lib.Tactic
public import proofs.«01_k».proof.Proof.Gen.Kernel2Ideal

@[expose] public section

set_option maxRecDepth 16384

noncomputable section

namespace Cert.Kernel2Ideal.Hand

open Idealize.ShloMosaic Idealize.ShloMosaic.Tactic
open Cert.Attn (Sides Offs headProg tripProg lastProg rRow rL)

open Idealize.SL.Sem
open Facts₀ Facts

variable {F : FTy → Type} [FloatOps F] [Named F]

/-- The shape conditions for 128 value columns. -/
theorem sides128 : Sides 128 where
  slab := by decide
  cat := by decide
  bc := by decide
  self := by decide
  pos := by decide
  pos1 := by decide
  inb := by decide
  wf := by decide

/-- The factor that turns a natural logarithm into one to base two. -/
def lc : F .f32 := Named.named κ "log2_e" 0x3FB8AA3B#32

/-- Where the loop's chunks lie. -/
def offs : Offs 128 where
  loop := k0_t1_loop
  ok := k0_t1_ok
  key t u := k0_off2 t (BitVec.ofNat 32 u.val)
  key_inb := k0_off2_inb
  val t u r := k0_off3 t (BitVec.ofNat 32 u.val) (BitVec.ofNat 32 r.val)
  val_inb := k0_off3_inb

/-- A lane's number. -/
def lane : IVec S256x128 32 := iota .tc S256x128 32 [1] iota_S256x128_d1_w32
/-- The first component's lanes, zero elsewhere. -/
def left (x : Vec F S256x128 .bf16) : FVec F S256x128 .f32 :=
  select (cmpi .slt lane (broadcast S256x128 64#32)) (extf .f32 x bitsLt_bf16_f32) (broadcast S256x128 (Scalar.ofBits .f32 0x00000000#32))
/-- The second component's lanes. -/
def right (x : Vec F S256x128 .bf16) : FVec F S256x128 .f32 :=
  select (cmpi .sge lane (broadcast S256x128 64#32)) (extf .f32 x bitsLt_bf16_f32) (broadcast S256x128 (Scalar.ofBits .f32 0x00000000#32))
/-- The two components' queries as columns. -/
def qcols (x : Vec F S256x128 .bf16) : FVec F S128x512 .bf16 :=
  truncf .bf16 (transpose S128x512 [1, 0] (concatenate S512x128 0 [⟨S256x128, left x⟩, ⟨S256x128, right x⟩] concatenates_S256x128_S256x128_S512x128_d0)
    transposes_S512x128_p1_0_S128x512) bitsLt_bf16_f32
/-- The first component's columns. -/
def qa (x : Vec F S256x128 .bf16) : FVec F S128x256 .bf16 := extractStridedSlice S128x256 ![0, 0] (qcols x) slices_S128x512_o0_0_S128x256
/-- The second's. -/
def qb (x : Vec F S256x128 .bf16) : FVec F S128x256 .bf16 := extractStridedSlice S128x256 ![0, 256] (qcols x) slices_S128x512_o0_256_S128x256

/-- The whole query tile, which is the result tile's too. -/
abbrev rQ : Rect S256x128 := Rect.unit (s := S256x128) ![0, 0] S256x128.size inb_S256x128_S256x128_0_0
/-- The whole of the four vectors. -/
abbrev rV : Rect S4x64 := Rect.unit (s := S4x64) ![0, 0] S4x64.size inb_S4x64_S4x64_0_0
/-- The whole of the gains. -/
abbrev rG : Rect S1x128 := Rect.unit (s := S1x128) ![0, 0] S1x128.size inb_S1x128_S1x128_0_0
/-- The whole accumulator. -/
abbrev rA : Rect S128x512 := Rect.unit (s := S128x512) ![0, 0] S128x512.size inb_S128x512_S128x512_0_0
/-- The whole flag tile. -/
abbrev rFlag : Rect S8x512 := Rect.unit (s := S8x512) ![0, 0] S8x512.size inb_S8x512_S8x512_0_0

/-- The flag rows. -/
def flagOf (f : Vec F S1x512 .f32) : FVec F S8x512 .f32 := broadcastTo S8x512 (shapeCast S1x512 f shapeCasts_S1x512_S1x512) broadcasts_S1x512_S8x512
/-- The denominators, the eight partial sums added up, for every lane. -/
def denOf (l : Vec F S8x512 .f32) : FVec F S128x512 .f32 :=
  broadcastTo S128x512 (shapeCast S1x512 (multiReduction .add [0] S512 l 0x00000000#32 reduces_S8x512_S512 (.inl rfl) rfl) shapeCasts_S512_S1x512)
    broadcasts_S1x512_S128x512
/-- The quotients, a row for each query column. -/
def quotT (a : Vec F S128x512 .f32) (l : FVec F S128x512 .f32) : FVec F S512x128 .f32 :=
  transpose S512x128 [1, 0] (divf a l) transposes_S128x512_p1_0_S512x128
/-- The power of the product of two of the four vectors. -/
def pairExp (x y : FVec F S1x64 .f32) : FVec F S1x1 .f32 :=
  exp (shapeCast S1x1 (multiReduction .add [1] S1 (mulf x y) 0x00000000#32 reduces_S1x64_S1 (.inl rfl) rfl) shapeCasts_S1_S1x1)
/-- The weight of the second component. -/
def lamOf (w : Vec F S4x64 .f32) : FVec F S1x1 .f32 :=
  addf (subf (pairExp (extractStridedSlice S1x64 ![0, 0] w slices_S4x64_o0_0_S1x64) (extractStridedSlice S1x64 ![1, 0] w slices_S4x64_o1_0_S1x64))
    (pairExp (extractStridedSlice S1x64 ![2, 0] w slices_S4x64_o2_0_S1x64) (extractStridedSlice S1x64 ![3, 0] w slices_S4x64_o3_0_S1x64)))
    (broadcast S1x1 (Scalar.ofBits .f32 0x3E4CCCCD#32))
/-- The difference of the components. -/
def gapOf (w : Vec F S4x64 .f32) (a : Vec F S128x512 .f32) (l : FVec F S128x512 .f32) : FVec F S256x128 .f32 :=
  subf (extractStridedSlice S256x128 ![0, 0] (quotT a l) slices_S512x128_o0_0_S256x128)
    (mulf (broadcastTo S256x128 (lamOf w) broadcasts_S1x1_S256x128) (extractStridedSlice S256x128 ![256, 0] (quotT a l) slices_S512x128_o256_0_S256x128))
/-- A row's sum of squares. -/
def sqOf (o : FVec F S256x128 .f32) : FVec F S256 .f32 := multiReduction .add [1] S256 (mulf o o) 0x00000000#32 reduces_S256x128_S256 (.inl rfl) rfl
/-- A row's factor: the reciprocal of the root of its mean square. -/
def scaleOf (q : FVec F S256 .f32) : FVec F S256x1 .f32 :=
  rsqrt (addf (divf (shapeCast S256x1 q shapeCasts_S256_S256x1) (broadcast S256x1 (Scalar.ofBits .f32 0x43000000#32)))
    (broadcast S256x1 (Scalar.ofBits .f32 0x3727C5AC#32)))
/-- The rows scaled, times the gains. -/
def normOf (o : FVec F S256x128 .f32) (g : Vec F S1x128 .f32) (q : FVec F S256 .f32) : FVec F S256x128 .bf16 :=
  truncf .bf16 (mulf (mulf (mulf o (broadcastTo S256x128 (scaleOf q) broadcasts_S256x1_S256x128)) (broadcastTo S256x128 g broadcasts_S1x128_S256x128))
    (broadcast S256x128 (Scalar.ofBits .f32 0x3F4CCCCD#32))) bitsLt_bf16_f32

/-- The chunks, and what they leave: the sums of weighted values and the denominators, the flag written. -/
def mainProg (arg3 : Memref sig .tc .vmem S256x128 .bf16) (arg4 : Memref sig .tc .vmem S16384x128 .bf16) (arg5 : Memref sig .tc .vmem S32x128x512 .bf16)
    (arg8 : Memref sig .tc .vmem S8x512 .f32)
    (arg9 : Memref sig .tc .vmem S1024x512 .bf16) (h9 : arg9.IsWhole) (arg10 : Memref sig .tc .vmem S1024x512 .bf16) (h10 : arg10.IsWhole)
    (arg11 : Memref sig .tc .vmem S1024x512 .bf16) (h11 : arg11.IsWhole)
    (arg12 : Memref sig .tc .vmem S128x512 .f32) (arg13 : Memref sig .tc .vmem S16x512 .f32) :
    Prog (TpuEff nD τ sig (Elt F) Λ₀ .tc) (Σ' (_ : Vec F S128x512 .f32), FVec F S128x512 .f32) := do
  let x : Vec F S256x128 .bf16 ← Prog.lift (.load arg3 rQ.toLoadRect (View.loadsAt_vmem h_S256x128))
  headProg sides128 arg4 arg5 arg9 h9 arg10 h10 arg11 h11 arg12 arg13 lc (qa x) (qb x)
  Scf.Loop.for (offs).loop (offs).ok ⟨⟩ fun t _ =>
    tripProg sides128 offs arg4 arg5 arg9 h9 arg10 h10 arg11 h11 arg12 arg13 lc (qa x) (qb x) t
  lastProg sides128 arg5 arg9 arg12 arg13
  let a : Vec F S128x512 .f32 ← Prog.lift (.load arg12 rA.toLoadRect (View.loadsAt_vmem h_S128x512))
  let l : Vec F S8x512 .f32 ← Prog.lift (.load arg13 rL.toLoadRect (View.loadsAt_vmem h_S8x512))
  let f : Vec F S1x512 .f32 ← Prog.lift (.load arg13 (rRow 2 (by omega)).toLoadRect (View.loadsAt_vmem h_S1x512))
  let _ ← Prog.lift (.load arg8 rFlag.toLoadRect (View.loadsAt_vmem h_S8x512))
  Prog.lift (.store arg8 rFlag (flagOf f) Finset.univ (View.stores_vmem_bits_univ h_S8x512 rfl) (.inl rfl))
  .ret ⟨a, denOf l⟩

/-- The difference of the quotients, and the gains. -/
def gapProg (arg2 : Memref sig .tc .vmem S4x64 .f32) (arg6 : Memref sig .tc .vmem S1x128 .f32) (z : Σ' (_ : Vec F S128x512 .f32), FVec F S128x512 .f32) :
    Prog (TpuEff nD τ sig (Elt F) Λ₀ .tc) (Σ' (_ : FVec F S256x128 .f32) (_ : Vec F S1x128 .f32), FVec F S256 .f32) := do
  let w : Vec F S4x64 .f32 ← Prog.lift (.load arg2 rV.toLoadRect (View.loadsAt_vmem h_S4x64))
  let g : Vec F S1x128 .f32 ← Prog.lift (.load arg6 rG.toLoadRect (View.loadsAt_vmem h_S1x128))
  .ret ⟨gapOf w z.1 z.2, g, sqOf (gapOf w z.1 z.2)⟩

/-- Its norm, written to the result tile. -/
def normProg (arg7 : Memref sig .tc .vmem S256x128 .bf16) (h7 : arg7.IsWhole) (z : Σ' (_ : FVec F S256x128 .f32) (_ : Vec F S1x128 .f32), FVec F S256 .f32) :
    Prog (TpuEff nD τ sig (Elt F) Λ₀ .tc) PUnit := do
  let _ ← Prog.lift (.load arg7 rQ.toLoadRect (View.loadsAt_vmem h_S256x128))
  Prog.lift (.store arg7 rQ (normOf z.1 z.2.1 z.2.2) Finset.univ
    (View.stores_vmem h_S256x128 (h7.storeExact_slice rfl _ packedbf16_S256x128_S256x128_0_0) (fun _ => rfl)) (.inl rfl))

/-- The body. -/
def body (arg2 : Memref sig .tc .vmem S4x64 .f32) (arg3 : Memref sig .tc .vmem S256x128 .bf16) (arg4 : Memref sig .tc .vmem S16384x128 .bf16) (arg5 : Memref sig .tc .vmem S32x128x512 .bf16)
    (arg6 : Memref sig .tc .vmem S1x128 .f32) (arg7 : Memref sig .tc .vmem S256x128 .bf16) (h7 : arg7.IsWhole) (arg8 : Memref sig .tc .vmem S8x512 .f32)
    (arg9 : Memref sig .tc .vmem S1024x512 .bf16) (h9 : arg9.IsWhole) (arg10 : Memref sig .tc .vmem S1024x512 .bf16) (h10 : arg10.IsWhole)
    (arg11 : Memref sig .tc .vmem S1024x512 .bf16) (h11 : arg11.IsWhole)
    (arg12 : Memref sig .tc .vmem S128x512 .f32) (arg13 : Memref sig .tc .vmem S16x512 .f32) : Prog (TpuEff nD τ sig (Elt F) Λ₀ .tc) PUnit :=
  ((mainProg arg3 arg4 arg5 arg8 arg9 h9 arg10 h10 arg11 h11 arg12 arg13 >>= fun z => gapProg arg2 arg6 z) >>= fun z => normProg arg7 h7 z)

/-- The printed body is this one. -/
theorem body_eq (i : grid0.Coords) (arg2 : Memref sig .tc .vmem S4x64 .f32) (harg2 : arg2.IsWhole) (arg3 : Memref sig .tc .vmem S256x128 .bf16) (harg3 : arg3.IsWhole) (arg4 : Memref sig .tc .vmem S16384x128 .bf16) (harg4 : arg4.IsWhole) (arg5 : Memref sig .tc .vmem S32x128x512 .bf16) (harg5 : arg5.IsWhole) (arg6 : Memref sig .tc .vmem S1x128 .f32) (harg6 : arg6.IsWhole) (arg7 : Memref sig .tc .vmem S256x128 .bf16) (harg7 : arg7.IsWhole) (arg8 : Memref sig .tc .vmem S8x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x512 .bf16) (harg11 : arg11.IsWhole) (arg12 : Memref sig .tc .vmem S128x512 .f32) (harg12 : arg12.IsWhole) (arg13 : Memref sig .tc .vmem S16x512 .f32) (harg13 : arg13.IsWhole) :
    cc0_diff_fast (F := F) i arg2 harg2 arg3 harg3 arg4 harg4 arg5 harg5 arg6 harg6 arg7 harg7 arg8 harg8 arg9 harg9 arg10 harg10 arg11 harg11 arg12 harg12 arg13 harg13
      = body arg2 arg3 arg4 arg5 arg6 arg7 harg7 arg8 arg9 harg9 arg10 harg10 arg11 harg11 arg12 arg13 := by
  sl_kernel_rfl

end Cert.Kernel2Ideal.Hand

end
-- ==== Proof.Launch2.lean ====
/- The kernel's launch: the body takes its blocks to the differential attention's tile and the flag's, at every point of the grid. -/
module

public import proofs.«01_k».proof.Proof.Body2
public import proofs.«01_k».proof.Proof.Tile
public import proofs.«01_k».proof.Proof.Gen.Kernel2Ideal.Frame.Runs
public import Idealize.ShloMosaic.Lib.Claim

@[expose] public section

set_option maxRecDepth 16384

noncomputable section

namespace Cert.Kernel2Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Attn Cert.Kernel2Ideal.Gen

variable {F : FTy → Type} [FloatOps F] [Named F]

local notation "𝕄" => MT nD τ sig Unit (Elt F) ℕ (UR sig nD τ) ℕ

/-- Zeros. -/
def zeros (s : Shape) (φ : FTy) : FVec F s φ := broadcast s (Scalar.ofBits φ 0 : F φ)
/-- The contents of a flash pass's buffers before it, whatever they were but for keys and values. -/
def st₀ (k : Vec F S16384x128 .bf16) (v : Vec F S32x128x512 .bf16) : St 128 F := ⟨k, v, fun _ => zeros _ _, zeros _ _, zeros _ _⟩
/-- The contents of the buffers after the chunks. -/
def fin (q : Vec F S256x128 .bf16) (x : St 128 F) : St 128 F := flashSt sides128 offs lc (qa (take rQ q)) (qb (take rQ q)) x
/-- The difference of the components' means, from the contents. -/
def gapAt (w : Vec F S4x64 .f32) (x : St 128 F) : FVec F S256x128 .f32 := gapOf (take rV w) (take rA x.acc) (denOf (take rL x.st))
/-- The tile the contents give. -/
def tileOf (w : Vec F S4x64 .f32) (g : Vec F S1x128 .f32) (o : Vec F S256x128 .bf16) (x : St 128 F) : Vec F S256x128 .bf16 :=
  put rQ o (normOf (gapAt w x) (take rG g) (sqOf (gapAt w x)))
/-- The flag tile the contents give. -/
def flagTile (f : Vec F S8x512 .f32) (x : St 128 F) : Vec F S8x512 .f32 := put rFlag f (flagOf (take (rRow 2 (by omega)) x.st))

/-- The tile does not depend on what was there before. -/
theorem tileOf_indep (w : Vec F S4x64 .f32) (g : Vec F S1x128 .f32) (o o' : Vec F S256x128 .bf16) (x : St 128 F) : tileOf w g o x = tileOf w g o' x := by
  unfold tileOf
  exact (put_full2 _ _ _).trans (put_full2 _ _ _).symm

theorem flagTile_indep (f f' : Vec F S8x512 .f32) (x : St 128 F) : flagTile f x = flagTile f' x := by
  unfold flagTile
  exact (put_full2 _ _ _).trans (put_full2 _ _ _).symm

section body
variable (c : Dev nD) (arg2 : Memref sig .tc .vmem S4x64 .f32) (arg3 : Memref sig .tc .vmem S256x128 .bf16) (arg4 : Memref sig .tc .vmem S16384x128 .bf16)
    (arg5 : Memref sig .tc .vmem S32x128x512 .bf16) (arg6 : Memref sig .tc .vmem S1x128 .f32) (arg7 : Memref sig .tc .vmem S256x128 .bf16) (h7 : arg7.IsWhole)
    (arg8 : Memref sig .tc .vmem S8x512 .f32)
    (arg9 : Memref sig .tc .vmem S1024x512 .bf16) (h9 : arg9.IsWhole) (arg10 : Memref sig .tc .vmem S1024x512 .bf16) (h10 : arg10.IsWhole)
    (arg11 : Memref sig .tc .vmem S1024x512 .bf16) (h11 : arg11.IsWhole)
    (arg12 : Memref sig .tc .vmem S128x512 .f32) (arg13 : Memref sig .tc .vmem S16x512 .f32)

/-- The buffers of the flash pass. -/
def mems : Mems sig 128 where
  k := arg4
  v := arg5
  p w := match w with | 0 => arg9 | 1 => arg10 | 2 => arg11
  hp w := match w with | 0 => h9 | 1 => h10 | 2 => h11
  acc := arg12
  st := arg13

/-- The contents of the blocks around it: the four vectors, the query tile, the gains, the result tile, the flag tile. -/
abbrev Around (F : FTy → Type) : Type := Vec F S4x64 .f32 × Vec F S256x128 .bf16 × Vec F S1x128 .f32 × Vec F S256x128 .bf16 × Vec F S8x512 .f32

/-- The blocks hold the contents. -/
def around (r : Around F) : sProp 𝕄 :=
  iprop(owns (c : Thread nD τ) arg2 fullShare r.1 ∗ owns (c : Thread nD τ) arg3 fullShare r.2.1 ∗ owns (c : Thread nD τ) arg6 fullShare r.2.2.1
    ∗ owns (c : Thread nD τ) arg7 fullShare r.2.2.2.1 ∗ owns (c : Thread nD τ) arg8 fullShare r.2.2.2.2)

/-- All the buffers hold the contents. -/
def all (t : St 128 F × Around F) : sProp 𝕄 := iprop((mems arg4 arg5 arg9 h9 arg10 h10 arg11 h11 arg12 arg13).own (F := F) c t.1 ∗ around c arg2 arg3 arg6 arg7 arg8 t.2)

theorem cell_l : Cell (Ix := Unit) (Name := ℕ) (U := UR sig nD τ) (Lvl := ℕ) (c : Thread nD τ) (all (F := F) c arg2 arg3 arg4 arg5 arg6 arg7 arg8 arg9 h9 arg10 h10 arg11 h11 arg12 arg13) arg2
    (fun t => t.2.1) (fun t X => (t.1, X, t.2.2)) where
  focus x := by
    unfold all around
    iintro ⟨H, H0, H1, H2, H3, H4⟩
    isplitl [H0]; · iexact H0
    iintro %X H0
    iframe
  set_get _ := rfl
theorem cell_q : Cell (Ix := Unit) (Name := ℕ) (U := UR sig nD τ) (Lvl := ℕ) (c : Thread nD τ) (all (F := F) c arg2 arg3 arg4 arg5 arg6 arg7 arg8 arg9 h9 arg10 h10 arg11 h11 arg12 arg13) arg3
    (fun t => t.2.2.1) (fun t X => (t.1, t.2.1, X, t.2.2.2)) where
  focus x := by
    unfold all around
    iintro ⟨H, H0, H1, H2, H3, H4⟩
    isplitl [H1]; · iexact H1
    iintro %X H1
    iframe
  set_get _ := rfl
theorem cell_g : Cell (Ix := Unit) (Name := ℕ) (U := UR sig nD τ) (Lvl := ℕ) (c : Thread nD τ) (all (F := F) c arg2 arg3 arg4 arg5 arg6 arg7 arg8 arg9 h9 arg10 h10 arg11 h11 arg12 arg13) arg6
    (fun t => t.2.2.2.1) (fun t X => (t.1, t.2.1, t.2.2.1, X, t.2.2.2.2)) where
  focus x := by
    unfold all around
    iintro ⟨H, H0, H1, H2, H3, H4⟩
    isplitl [H2]; · iexact H2
    iintro %X H2
    iframe
  set_get _ := rfl
theorem cell_o : Cell (Ix := Unit) (Name := ℕ) (U := UR sig nD τ) (Lvl := ℕ) (c : Thread nD τ) (all (F := F) c arg2 arg3 arg4 arg5 arg6 arg7 arg8 arg9 h9 arg10 h10 arg11 h11 arg12 arg13) arg7
    (fun t => t.2.2.2.2.1) (fun t X => (t.1, t.2.1, t.2.2.1, t.2.2.2.1, X, t.2.2.2.2.2)) where
  focus x := by
    unfold all around
    iintro ⟨H, H0, H1, H2, H3, H4⟩
    isplitl [H3]; · iexact H3
    iintro %X H3
    iframe
  set_get _ := rfl
theorem cell_f : Cell (Ix := Unit) (Name := ℕ) (U := UR sig nD τ) (Lvl := ℕ) (c : Thread nD τ) (all (F := F) c arg2 arg3 arg4 arg5 arg6 arg7 arg8 arg9 h9 arg10 h10 arg11 h11 arg12 arg13) arg8
    (fun t => t.2.2.2.2.2) (fun t X => (t.1, t.2.1, t.2.2.1, t.2.2.2.1, t.2.2.2.2.1, X)) where
  focus x := by
    unfold all around
    iintro ⟨H, H0, H1, H2, H3, H4⟩
    isplitl [H4]; · iexact H4
    iintro %X H4
    iframe
  set_get _ := rfl

/-- A flash program carries the blocks around along. -/
theorem carry {α : Type} {bd : Option (Variants.none).V} {E : Set ℕ} {p : Prog (TpuEff nD τ sig (Elt F) Λ₀ .tc) α} {x y : St 128 F} {a : α}
    (h : Does (Ix := Unit) (Name := ℕ) (U := UR sig nD τ) (Lvl := ℕ) (defs₀ (F := F)) Variants.none c bd E (mems arg4 arg5 arg9 h9 arg10 h10 arg11 h11 arg12 arg13) p x a y) (r : Around F) :
    Runs (Ix := Unit) (U := UR sig nD τ) (Lvl := ℕ) (defs₀ (F := F)) Variants.none (c : Thread nD τ) bd E
      (all (F := F) c arg2 arg3 arg4 arg5 arg6 arg7 arg8 arg9 h9 arg10 h10 arg11 h11 arg12 arg13) p (x, r) a (y, r) :=
  Runs.frame h (around c arg2 arg3 arg6 arg7 arg8) (fun s r => all (F := F) c arg2 arg3 arg4 arg5 arg6 arg7 arg8 arg9 h9 arg10 h10 arg11 h11 arg12 arg13 (s, r)) (fun _ _ => rfl) r

/-- What the body does to the buffers. -/
theorem body_runs {bd : Option (Variants.none).V} {E : Set ℕ} (x : St 128 F) (w : Vec F S4x64 .f32) (q : Vec F S256x128 .bf16) (g : Vec F S1x128 .f32) (o : Vec F S256x128 .bf16)
    (f : Vec F S8x512 .f32) :
    Runs (Ix := Unit) (U := UR sig nD τ) (Lvl := ℕ) (defs₀ (F := F)) Variants.none (c : Thread nD τ) bd E
      (all (F := F) c arg2 arg3 arg4 arg5 arg6 arg7 arg8 arg9 h9 arg10 h10 arg11 h11 arg12 arg13)
      (body arg2 arg3 arg4 arg5 arg6 arg7 h7 arg8 arg9 h9 arg10 h10 arg11 h11 arg12 arg13) (x, w, q, g, o, f) ⟨⟩
      (fin q x, w, q, g, tileOf w g o (fin q x), flagTile f (fin q x)) := by
  have hl := cell_l (F := F) c arg2 arg3 arg4 arg5 arg6 arg7 arg8 arg9 h9 arg10 h10 arg11 h11 arg12 arg13
  have hq := cell_q (F := F) c arg2 arg3 arg4 arg5 arg6 arg7 arg8 arg9 h9 arg10 h10 arg11 h11 arg12 arg13
  have hg := cell_g (F := F) c arg2 arg3 arg4 arg5 arg6 arg7 arg8 arg9 h9 arg10 h10 arg11 h11 arg12 arg13
  have ho := cell_o (F := F) c arg2 arg3 arg4 arg5 arg6 arg7 arg8 arg9 h9 arg10 h10 arg11 h11 arg12 arg13
  have hf := cell_f (F := F) c arg2 arg3 arg4 arg5 arg6 arg7 arg8 arg9 h9 arg10 h10 arg11 h11 arg12 arg13
  have main : Runs (Ix := Unit) (U := UR sig nD τ) (Lvl := ℕ) (defs₀ (F := F)) Variants.none (c : Thread nD τ) bd E
      (all (F := F) c arg2 arg3 arg4 arg5 arg6 arg7 arg8 arg9 h9 arg10 h10 arg11 h11 arg12 arg13)
      (mainProg arg3 arg4 arg5 arg8 arg9 h9 arg10 h10 arg11 h11 arg12 arg13) (x, w, q, g, o, f)
      ⟨take rA (fin q x).acc, denOf (take rL (fin q x).st)⟩ (fin q x, w, q, g, o, flagTile f (fin q x)) := by
    unfold mainProg
    refine .bind (hq.load _ _ _) <|
      .bind (carry c arg2 arg3 arg4 arg5 arg6 arg7 arg8 arg9 h9 arg10 h10 arg11 h11 arg12 arg13 (headProg_does (mems arg4 arg5 arg9 h9 arg10 h10 arg11 h11 arg12 arg13) sides128 _ _ _ _) _) <|
      .bind (carry c arg2 arg3 arg4 arg5 arg6 arg7 arg8 arg9 h9 arg10 h10 arg11 h11 arg12 arg13 (loop_does (mems arg4 arg5 arg9 h9 arg10 h10 arg11 h11 arg12 arg13) sides128 offs _ _ _ _) _) <|
      .bind (carry c arg2 arg3 arg4 arg5 arg6 arg7 arg8 arg9 h9 arg10 h10 arg11 h11 arg12 arg13 (lastProg_does (mems arg4 arg5 arg9 h9 arg10 h10 arg11 h11 arg12 arg13) sides128 _) _) <|
      .bind (carry c arg2 arg3 arg4 arg5 arg6 arg7 arg8 arg9 h9 arg10 h10 arg11 h11 arg12 arg13 ((cell_acc (mems arg4 arg5 arg9 h9 arg10 h10 arg11 h11 arg12 arg13)).load _ _ _) _) <|
      .bind (carry c arg2 arg3 arg4 arg5 arg6 arg7 arg8 arg9 h9 arg10 h10 arg11 h11 arg12 arg13 ((cell_st (mems arg4 arg5 arg9 h9 arg10 h10 arg11 h11 arg12 arg13)).load _ _ _) _) <|
      .bind (carry c arg2 arg3 arg4 arg5 arg6 arg7 arg8 arg9 h9 arg10 h10 arg11 h11 arg12 arg13 ((cell_st (mems arg4 arg5 arg9 h9 arg10 h10 arg11 h11 arg12 arg13)).load _ _ _) _) <|
      .bind (hf.load _ _ _) <| .bind (hf.store _ _ _ _ _) <| .ret _ _
  have gap : Runs (Ix := Unit) (U := UR sig nD τ) (Lvl := ℕ) (defs₀ (F := F)) Variants.none (c : Thread nD τ) bd E
      (all (F := F) c arg2 arg3 arg4 arg5 arg6 arg7 arg8 arg9 h9 arg10 h10 arg11 h11 arg12 arg13)
      (gapProg arg2 arg6 ⟨take rA (fin q x).acc, denOf (take rL (fin q x).st)⟩) (fin q x, w, q, g, o, flagTile f (fin q x))
      ⟨gapAt w (fin q x), take rG g, sqOf (gapAt w (fin q x))⟩ (fin q x, w, q, g, o, flagTile f (fin q x)) := by
    unfold gapProg
    exact .bind (hl.load _ _ _) <| .bind (hg.load _ _ _) <| .ret _ _
  have norm : Runs (Ix := Unit) (U := UR sig nD τ) (Lvl := ℕ) (defs₀ (F := F)) Variants.none (c : Thread nD τ) bd E
      (all (F := F) c arg2 arg3 arg4 arg5 arg6 arg7 arg8 arg9 h9 arg10 h10 arg11 h11 arg12 arg13)
      (normProg arg7 h7 ⟨gapAt w (fin q x), take rG g, sqOf (gapAt w (fin q x))⟩) (fin q x, w, q, g, o, flagTile f (fin q x))
      ⟨⟩ (fin q x, w, q, g, tileOf w g o (fin q x), flagTile f (fin q x)) := by
    unfold normProg
    exact .bind (ho.load _ _ _) <| ho.store _ _ _ _ _
  unfold body
  exact Runs.bind (Runs.bind main gap) norm

end body

variable (m : (ℓ : Loc nD τ sig) → Buf (Elt F) ℓ) (ρ : Dev nD → PrngReg)

/-- The contents after the chunks at point `t`. -/
def finAt (c : Dev nD) (t : Fin cfg0.N) : St 128 F :=
  fin (iblk m c 1 t) (st₀ (iblk m c 2 t) (iblk m c 3 t))

/-- The launch's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOf (iblk m c 0 t) (iblk m c 4 t) (zeros _ _) (finAt m c t)
    | ⟨6, _⟩ => flagTile (zeros _ _) (finAt m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileOf (iblk m c 0 t) (iblk m c 4 t) (zeros _ _) (finAt m c t) := by dsimp only [dats]
theorem after0_6 (c : Dev nD) (t : Fin cfg0.N) : (dats m 0 c).after 6 t = flagTile (zeros _ _) (finAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- Whatever the buffers held, the contents after the chunks are those of the point. -/
theorem fin_indep (q : Vec F S256x128 .bf16) (x : St 128 F) : fin q x = fin q (st₀ x.k x.v) :=
  flashSt_scratch sides128 offs lc _ _ _ _ rfl rfl

/-- The keys and values stay. -/
theorem fin_k (q : Vec F S256x128 .bf16) (x : St 128 F) : (fin q x).k = x.k :=
  flashSt_k ..
theorem fin_v (q : Vec F S256x128 .bf16) (x : St 128 F) : (fin q x).v = x.v :=
  flashSt_v ..

set_option maxHeartbeats 800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, PhiA0_eq, body_eq]
  iintro ⟨⟨⟨⟨%x0, HS0⟩, ⟨%x1, HS1⟩, ⟨%x2, HS2⟩, ⟨%x3, HS3⟩, ⟨%x4, HS4⟩⟩, Hg⟩, Ho, ⟨%d0, H0⟩, ⟨%d1, H1⟩, ⟨%d2, H2⟩, ⟨%d3, H3⟩, ⟨%d4, H4⟩, ⟨%d5, H5⟩, ⟨%d6, H6⟩⟩
  have h := body_runs c (ms0_0 t) (ms0_1 t) (ms0_2 t) (ms0_3 t) (ms0_4 t) (ms0_5 t) (hs0_5 t) (ms0_6 t) scM0_0 (Memref.isWhole_whole _) scM0_1 (Memref.isWhole_whole _)
    scM0_2 (Memref.isWhole_whole _) scM0_3 scM0_4 (bd := none) (E := Set.univ)
    ⟨iblk m c 2 t, iblk m c 3 t, fun w => match w with | 0 => x0 | 1 => x1 | 2 => x2, x3, x4⟩ (iblk m c 0 t) (iblk m c 1 t) (iblk m c 4 t)
    ((dats m 0 c).before 5 t d5) ((dats m 0 c).before 6 t d6)
  have e := fin_indep (F := F) (iblk m c 1 t) ⟨iblk m c 2 t, iblk m c 3 t, fun w => match w with | 0 => x0 | 1 => x1 | 2 => x2, x3, x4⟩
  rw [e, tileOf_indep _ _ _ (zeros _ _), flagTile_indep _ (zeros _ _)] at h
  iapply (h _)
  unfold all around Mems.own mems
  dsimp only
  rw [fin_k, fin_v]
  isplitl [HS0 HS1 HS2 HS3 HS4 H0 H1 H2 H3 H4 H5 H6]
  · iframe
  iintro ⟨⟨H2, H3, HS0, HS1, HS2, HS3, HS4⟩, H0, H1, H4, H5, H6⟩
  isplitl [HS0 HS1 HS2 HS3 HS4 Hg]
  · isplitl [HS0 HS1 HS2 HS3 HS4]
    · isplitl [HS0]
      · iexists _; iexact HS0
      isplitl [HS1]
      · iexists _; iexact HS1
      isplitl [HS2]
      · iexists _; iexact HS2
      isplitl [HS3]
      · iexists _; iexact HS3
      iexists _; iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's row of the table. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array of the pipeline ends at what the proof data give. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

end Cert.Kernel2Ideal.Hand

end
-- ==== Proof.Out2.lean ====
/- The differential attention's tile over the reals: the norm of the difference of two weighted means. -/
module

public import proofs.«01_k».proof.Proof.Launch2
public import proofs.«01_k».proof.Proof.Out

@[expose] public section

set_option maxRecDepth 16384

noncomputable section

namespace Cert.Kernel2Ideal.Hand

open Idealize.ShloMosaic Idealize.ShloMosaic.TcCoe Idealize.SL.Sem
open Cert.Attn
open Cert.KernelIdeal.Hand (sum_head select_if)
open Facts₀ Facts

/-- What a chunk does to the accumulator of 128 value columns. -/
theorem meets128 : Meets sides128 := by
  intro v0 v1 acc p sc d c
  pointwise [accNew, slabs, dotV]

theorem trips_eq : offs.loop.trips = 2 := by decide
theorem key_eq : ∀ (t : Fin offs.loop.trips) (u : Fin 6), offs.key t u = ![1024 * (4 + 6 * (t : Nat) + u), 0] := by decide +kernel
theorem val_eq : ∀ (t : Fin offs.loop.trips) (u : Fin 6) (r : Fin 2), offs.val t u r = ![2 * (3 + 6 * (t : Nat) + u) + r, 0, 0] := by decide +kernel

/-- The lanes of the components. -/
theorem low_apply (i : Fin 256) (j : Fin 128) : IntOp.cmpi .slt (lane (ix2 i j)) 64#32 = if (j : Nat) / 64 = 0 then 1#1 else 0#1 := by
  have e : IntOp.cmpi .slt (lane (ix2 i j)) 64#32 = IntOp.cmpi .slt (lane (ix2 0 j)) 64#32 := rfl
  rw [e]
  clear e
  revert j
  decide +kernel
theorem high_apply (i : Fin 256) (j : Fin 128) : IntOp.cmpi .sge (lane (ix2 i j)) 64#32 = if (j : Nat) / 64 = 1 then 1#1 else 0#1 := by
  have e : IntOp.cmpi .sge (lane (ix2 i j)) 64#32 = IntOp.cmpi .sge (lane (ix2 0 j)) 64#32 := rfl
  rw [e]
  clear e
  revert j
  decide +kernel

theorem left_apply (x : Vec Ideal S256x128 .bf16) (i : Fin 256) (j : Fin 128) :
    left x (ix2 i j) = if (j : Nat) / 64 = 0 then x (ix2 i j : S256x128.Idx) else 0 := by
  pointwise [left]
  rw [low_apply, select_if]
theorem right_apply (x : Vec Ideal S256x128 .bf16) (i : Fin 256) (j : Fin 128) :
    right x (ix2 i j) = if (j : Nat) / 64 = 1 then x (ix2 i j : S256x128.Idx) else 0 := by
  pointwise [right]
  rw [high_apply, select_if]

/-- The first component's columns hold the rows in the lanes below 64. -/
theorem qa_apply (x : Vec Ideal S256x128 .bf16) (j : Fin 128) (r : Fin 256) :
    qa x (ix2 j r) = if (j : Nat) / 64 = ((0 : Fin 2) : Nat) then x (ix2 r ⟨64 * ((0 : Fin 2) : Nat) + j % 64, by omega⟩ : S256x128.Idx) else 0 := by
  have z := left_apply x
  pointwise [qa, qcols]
  rw [z]
  refine if_ctx_congr Iff.rfl (fun h => ?_) fun _ => rfl
  exact congrArg x ((ix2_inj _ _ _ _).2 ⟨rfl, Fin.ext (by show (j : Nat) = j % 64; omega)⟩)
/-- The second's, in the others. -/
theorem qb_apply (x : Vec Ideal S256x128 .bf16) (j : Fin 128) (r : Fin 256) :
    qb x (ix2 j r) = if (j : Nat) / 64 = ((1 : Fin 2) : Nat) then x (ix2 r ⟨64 * ((1 : Fin 2) : Nat) + j % 64, by omega⟩ : S256x128.Idx) else 0 := by
  have z := right_apply x
  pointwise [qb, qcols]
  rw [z]
  refine if_ctx_congr Iff.rfl (fun h => ?_) fun _ => rfl
  exact congrArg x ((ix2_inj _ _ _ _).2 ⟨rfl, Fin.ext (by show (j : Nat) = 64 + j % 64; omega)⟩)

/-- A score is the product of a key with its query, over the 64 lanes of a component. -/
theorem score_comp (k : Vec Ideal S16384x128 .bf16) (q : Vec Ideal S256x128 .bf16) (i : Fin 16384) (e : Fin 2) (r : Fin 256) (c : Fin 512) (hc : (c : Nat) = 256 * e + r) :
    score k (qa q) (qb q) i c = ∑ d : Fin 64, k (ix2 i ⟨64 * e + d, by omega⟩ : S16384x128.Idx) * q (ix2 r ⟨64 * e + d, by omega⟩ : S256x128.Idx) := by
  have hr := r.isLt
  unfold score
  fin_cases e
  · have hc' : (c : Nat) = r := by simpa using hc
    rw [dif_pos (by omega), show (⟨c, by omega⟩ : Fin 256) = r from Fin.ext hc']
    exact sum_head 0 (fun j => k (ix2 i j : S16384x128.Idx)) (fun d => q (ix2 r ⟨64 * ((0 : Fin 2) : Nat) + d, by omega⟩ : S256x128.Idx)) _ fun j => by rw [qa_apply]
  · have hc' : (c : Nat) = 256 + r := by simpa using hc
    rw [dif_neg (by omega), show (⟨(c : Nat) - 256, by omega⟩ : Fin 256) = r from Fin.ext (by show (c : Nat) - 256 = r; omega)]
    exact sum_head 1 (fun j => k (ix2 i j : S16384x128.Idx)) (fun d => q (ix2 r ⟨64 * ((1 : Fin 2) : Nat) + d, by omega⟩ : S256x128.Idx)) _ fun j => by rw [qb_apply]

theorem denOf_apply (l : Vec Ideal S8x512 .f32) (j : Fin 128) (c : Fin 512) : denOf l (ix2 j c) = ∑ ρ : Fin 8, l (ix2 ρ c : S8x512.Idx) := by
  pointwise [denOf]

theorem quotT_apply (a : Vec Ideal S128x512 .f32) (l : FVec Ideal S128x512 .f32) (c : Fin 512) (j : Fin 128) :
    quotT a l (ix2 c j) = Ideal.div (a (ix2 j c : S128x512.Idx)) (l (ix2 j c)) := by
  pointwise [quotT]

/-- The power of the product of two of the four vectors. -/
theorem pairExp_apply (x y : FVec Ideal S1x64 .f32) : pairExp x y (ix2 0 0) = Ideal.exp (∑ d : Fin 64, x (ix2 0 d) * y (ix2 0 d)) := by
  pointwise [pairExp]

/-- The weight of the second component. -/
def lamW (w : FVec Ideal S4x64 .f32) : EReal :=
  Ideal.exp (∑ d : Fin 64, w (ix2 0 d) * w (ix2 1 d)) - Ideal.exp (∑ d : Fin 64, w (ix2 2 d) * w (ix2 3 d)) + Ideal.ofBits .f32 0x3E4CCCCD#32

theorem lamOf_apply (w : Vec Ideal S4x64 .f32) : lamOf w (ix2 0 0) = lamW w := by
  have z := pairExp_apply
  pointwise [lamOf]
  rw [z, z]
  pointwise []
  rfl

/-- The difference of the quotients. -/
theorem gapOf_apply (w : Vec Ideal S4x64 .f32) (a : Vec Ideal S128x512 .f32) (l : FVec Ideal S128x512 .f32) (r : Fin 256) (j : Fin 128) :
    gapOf w a l (ix2 r j) = Ideal.div (a (ix2 j ⟨r, by omega⟩ : S128x512.Idx)) (l (ix2 j ⟨r, by omega⟩))
      - lamW w * Ideal.div (a (ix2 j ⟨256 + r, by omega⟩ : S128x512.Idx)) (l (ix2 j ⟨256 + r, by omega⟩)) := by
  have z := lamOf_apply w
  have y := quotT_apply a l
  pointwise [gapOf]
  rw [z, y, y]

/-- A row's norm and gains. -/
def normed (o : Fin 128 → EReal) (g : EReal) (j : Fin 128) : EReal :=
  o j * Ideal.rsqrt (Ideal.div (∑ x : Fin 128, o x * o x) (Ideal.ofBits .f32 0x43000000#32) + Ideal.ofBits .f32 0x3727C5AC#32) * g * Ideal.ofBits .f32 0x3F4CCCCD#32

theorem normOf_apply (o : FVec Ideal S256x128 .f32) (g : Vec Ideal S1x128 .f32) (r : Fin 256) (j : Fin 128) :
    normOf o g (sqOf o) (ix2 r j) = normed (fun x => o (ix2 r x)) (g (ix2 0 j : S1x128.Idx)) j := by
  unfold normed
  pointwise [normOf, scaleOf, sqOf]

/-- The mean of the values in lane `d`, weighted by the softmax of scores. -/
def mean (v : Vec Ideal S32x128x512 .bf16) (S : Nat → ℝ) (d : Fin 128) : EReal := ∑ i ∈ Finset.range 16384, val (dv := 128) v i d * (soft S i : EReal)

/-- A row of the tile, from the scores of its two components. -/
theorem tile_value (w : Vec Ideal S4x64 .f32) (k : Vec Ideal S16384x128 .bf16) (v : Vec Ideal S32x128x512 .bf16) (q o : Vec Ideal S256x128 .bf16) (g : Vec Ideal S1x128 .f32)
    (r : Fin 256) (j : Fin 128) (S : Fin 2 → Nat → ℝ)
    (hS : ∀ (e : Fin 2) (i : Fin 16384), ∑ d : Fin 64, k (ix2 i ⟨64 * e + d, by omega⟩ : S16384x128.Idx) * q (ix2 r ⟨64 * e + d, by omega⟩ : S256x128.Idx) = (S e i : EReal)) :
    tileOf w g o (fin q (st₀ k v)) (ix2 r j : S256x128.Idx) = normed (fun x => mean v (S 0) x - lamW w * mean v (S 1) x) (g (ix2 0 j : S1x128.Idx)) j := by
  have hr := r.isLt
  have eq : (take rQ q : Vec Ideal S256x128 .bf16) = q := take_full2 inb_S256x128_S256x128_0_0 q
  have ew : (take rV w : Vec Ideal S4x64 .f32) = w := take_full2 inb_S4x64_S4x64_0_0 w
  have eg : (take rG g : Vec Ideal S1x128 .f32) = g := take_full2 inb_S1x128_S1x128_0_0 g
  have e1 : fin q (st₀ k v) = flashSt sides128 offs lc (qa q) (qb q) (st₀ k v) := by unfold fin; rw [eq]
  rw [e1]
  have col : ∀ (e : Fin 2) (c : Fin 512) (hc : (c : Nat) = 256 * e + r) (d : Fin 128),
      Ideal.div ((take rA (flashSt sides128 offs lc (qa q) (qb q) (st₀ k v)).acc : Vec Ideal S128x512 .f32) (ix2 d c : S128x512.Idx))
        (denOf (take rL (flashSt sides128 offs lc (qa q) (qb q) (st₀ k v)).st) (ix2 d c)) = mean v (S e) d := fun e c hc d => by
    obtain ⟨M, hl, ha⟩ := flash_col sides128 meets128 lc rfl (qa q) (qb q) k v (S e) c (fun i => (score_comp k q i e r c hc).trans (hS e i)) offs trips_eq key_eq val_eq (st₀ k v) rfl rfl
    have ea : (take rA (flashSt sides128 offs lc (qa q) (qb q) (st₀ k v)).acc : Vec Ideal S128x512 .f32) = (flashSt sides128 offs lc (qa q) (qb q) (st₀ k v)).acc :=
      take_full2 inb_S128x512_S128x512_0_0 _
    rw [ea, ha d]
    exact mean_eq v (S e) M d _ (((denOf_apply _ d c).trans (Finset.sum_congr rfl fun ρ _ => takeL_apply _ ρ c)).trans (Finset.sum_congr rfl fun ρ _ => hl ρ))
  have gap : ∀ x : Fin 128, gapAt w (flashSt sides128 offs lc (qa q) (qb q) (st₀ k v)) (ix2 r x) = mean v (S 0) x - lamW w * mean v (S 1) x := fun x => by
    unfold gapAt
    rw [ew, gapOf_apply, col 0 ⟨r, by omega⟩ (by show (r : Nat) = 256 * 0 + r; omega) x, col 1 ⟨256 + r, by omega⟩ (by show 256 + (r : Nat) = 256 * 1 + r; omega) x]
  unfold tileOf
  refine (congrFun (put_full2 inb_S256x128_S256x128_0_0 _ _) _).trans ?_
  rw [eg, normOf_apply]
  exact congrArg (fun f => normed f (g (ix2 0 j : S1x128.Idx)) j) (funext gap)

end Cert.Kernel2Ideal.Hand

end
-- ==== Proof.Ref2.lean ====
/- The differential attention's reference, read at a cell. -/
module

public import proofs.«01_k».proof.Proof.Gen.Reference2Ideal.Run
public import proofs.«01_k».proof.Proof.Ref
public import proofs.«01_k».proof.Proof.Out2
public import Idealize.ShloMosaic.Lib.Pointwise

@[expose] public section

set_option maxRecDepth 16384

noncomputable section

namespace Cert.Reference2Ideal.Hand

open Idealize.ShloMosaic Idealize.ShloMosaic.TcCoe Idealize.SL.Sem
open Cert.Reference2Ideal Cert.Reference2Ideal.Gen
open Cert.Attn (soft coe_sum)
open Cert.ReferenceIdeal.Hand (reduce_real const_low max_apply spread_low log_two)
open Cert.Kernel2Ideal.Hand (lamW normed)

/-- A query's greatest score. -/
def peak (s : FVec Ideal S4x2x16384x16384 .f32) : FVec Ideal S4x2x16384 .f32 :=
  maximumf (broadcastInDim S4x2x16384 ![] bcast_S_S4x2x16384 (constant S_ .f32 0xFF800000#32))
    (Host.reduce FloatOps.maximumf s (constant S_ .f32 0xFF800000#32) reducesTo_S4x2x16384x16384_S4x2x16384_d3 h_S_)

abbrev keep := reducesTo_S4x2x16384x16384_S4x2x16384_d3

theorem drop_of (b : Fin 3) (b' : Fin 4) (h : (b' : Nat) = b) (i : S4x2x16384x16384.Idx) : (keep.drop i b : Nat) = i b' := by
  fin_cases b
  · rw [show b' = 0 from Fin.ext h]; exact Shape.ReducesTo.drop_apply_val keep i 0
  · rw [show b' = 1 from Fin.ext h]; exact Shape.ReducesTo.drop_apply_val keep i 1
  · rw [show b' = 2 from Fin.ext h]; exact Shape.ReducesTo.drop_apply_val keep i 2

/-- The scores of a query are those with its indices. -/
theorem drop_eq (h : Fin 4) (e : Fin 2) (r i : Fin 16384) : keep.drop (ix4 h e r i) = ix3 h e r := by
  funext b
  refine Fin.ext ?_
  fin_cases b
  · exact drop_of 0 0 rfl _
  · exact drop_of 1 1 rfl _
  · exact drop_of 2 2 rfl _
theorem of_drop (h : Fin 4) (e : Fin 2) (r : Fin 16384) (i : S4x2x16384x16384.Idx) (hi : keep.drop i = ix3 h e r) : i = ix4 h e r (i 3) := by
  funext b
  refine Fin.ext ?_
  fin_cases b
  · exact (drop_of 0 0 rfl i).symm.trans (congrArg (fun z => (z 0 : Nat)) hi)
  · exact (drop_of 1 1 rfl i).symm.trans (congrArg (fun z => (z 1 : Nat)) hi)
  · exact (drop_of 2 2 rfl i).symm.trans (congrArg (fun z => (z 2 : Nat)) hi)
  · rfl

/-- Every query has a greatest score. -/
theorem peak_real (s : FVec Ideal S4x2x16384x16384 .f32) (h : Fin 4) (e : Fin 2) (r : Fin 16384) (hs : ∀ i, ∃ a : ℝ, s (ix4 h e r i) = a) :
    ∃ b : ℝ, peak s (ix3 h e r) = b := by
  obtain ⟨b, hb⟩ := reduce_real s (constant S_ .f32 0xFF800000#32) keep h_S_ (ix3 h e r) (const_low _ _) (ix4 h e r ⟨0, by omega⟩) (drop_eq _ _ _ _)
    fun i hi => by rw [of_drop h e r i hi]; exact hs _
  refine ⟨b, ?_⟩
  unfold peak
  rw [max_apply, spread_low, hb, max_eq_right bot_le]

/-- Queries or keys, by head and component. -/
def comps (q : FVec Ideal S16384x512 .bf16) : FVec Ideal S4x2x16384x64 .bf16 :=
  transpose S4x2x16384x64 [1, 2, 0, 3] (shapeCast S16384x4x2x64 q shapeCasts_S16384x512_S16384x4x2x64) transposes_S16384x4x2x64_S4x2x16384x64_1_2_0_3
/-- The scores, to base e. -/
def scores (q k : FVec Ideal S16384x512 .bf16) : FVec Ideal S4x2x16384x16384 .f32 :=
  mulf (Host.dotGeneral dot_S4x2x16384x64_S4x2x16384x64_S4x2x16384x16384_3_3_2_2_01_01 none (comps q) (comps k))
    (broadcastInDim S4x2x16384x16384 ![] bcast_S_S4x2x16384x16384 (Host.log (constant S_ .f32 0x40000000#32)))
/-- A number per query, for each of its keys. -/
def spread (x : FVec Ideal S4x2x16384 .f32) : FVec Ideal S4x2x16384x16384 .f32 :=
  broadcastInDim S4x2x16384x16384 ![0, 1, 2, 3] bcast_S4x2x16384x1_S4x2x16384x16384_0_1_2_3 (broadcastInDim S4x2x16384x1 ![0, 1, 2] bcast_S4x2x16384_S4x2x16384x1_0_1_2 x)
/-- The powers of the scores below the greatest. -/
def powers (s : FVec Ideal S4x2x16384x16384 .f32) : FVec Ideal S4x2x16384x16384 .f32 := Host.exp (subf s (spread (peak s)))
/-- Their sums. -/
def totals (p : FVec Ideal S4x2x16384x16384 .f32) : FVec Ideal S4x2x16384 .f32 :=
  Host.reduceAdd p (constant S_ .f32 0x00000000#32) reducesTo_S4x2x16384x16384_S4x2x16384_d3 h_S_
/-- The weights. -/
def weights (s : FVec Ideal S4x2x16384x16384 .f32) : FVec Ideal S4x2x16384x16384 .f32 := Host.divf (powers s) (spread (totals (powers s)))
/-- The product of two of the four vectors, and its power. -/
def pair (x y : FVec Ideal S1x64 .f32) : FVec Ideal S_ .f32 :=
  Host.exp (Host.reduceAdd (mulf (shapeCast S64 x shapeCasts_S1x64_S64) (shapeCast S64 y shapeCasts_S1x64_S64)) (constant S_ .f32 0x00000000#32) reducesTo_S64_S_d0 h_S_)
/-- The second component's weight. -/
def lam (l : FVec Ideal S4x64 .f32) : FVec Ideal S_ .f32 :=
  addf (subf (pair (extractStridedSlice S1x64 ![0, 0] l slices_S4x64_S1x64_0_0) (extractStridedSlice S1x64 ![1, 0] l slices_S4x64_S1x64_1_0))
    (pair (extractStridedSlice S1x64 ![2, 0] l slices_S4x64_S1x64_2_0) (extractStridedSlice S1x64 ![3, 0] l slices_S4x64_S1x64_3_0))) (constant S_ .f32 0x3E4CCCCD#32)
/-- The differential weights. -/
def diff (w : FVec Ideal S4x2x16384x16384 .f32) (l : FVec Ideal S_ .f32) : FVec Ideal S4x16384x16384 .bf16 :=
  truncf .bf16 (subf (shapeCast S4x16384x16384 (extractStridedSlice S4x1x16384x16384 ![0, 0, 0, 0] w slices_S4x2x16384x16384_S4x1x16384x16384_0_0_0_0) shapeCasts_S4x1x16384x16384_S4x16384x16384)
    (mulf (broadcastInDim S4x16384x16384 ![] bcast_S_S4x16384x16384 l)
      (shapeCast S4x16384x16384 (extractStridedSlice S4x1x16384x16384 ![0, 1, 0, 0] w slices_S4x2x16384x16384_S4x1x16384x16384_0_1_0_0) shapeCasts_S4x1x16384x16384_S4x16384x16384))) bitsLt_bf16_f32
/-- The values, by head. -/
def values (v : FVec Ideal S32x512x512 .bf16) : FVec Ideal S4x16384x128 .bf16 :=
  transpose S4x16384x128 [1, 0, 2] (shapeCast S16384x4x128 (transpose S32x512x512 [0, 2, 1] v transposes_S32x512x512_S32x512x512_0_2_1) shapeCasts_S32x512x512_S16384x4x128)
    transposes_S16384x4x128_S4x16384x128_1_0_2
/-- The heads' results before their norm. -/
def heads (l : FVec Ideal S4x64 .f32) (q k : FVec Ideal S16384x512 .bf16) (v : FVec Ideal S32x512x512 .bf16) : FVec Ideal S4x16384x128 .f32 :=
  Host.dotGeneral dot_S4x16384x16384_S4x16384x128_S4x16384x128_2_1_1_2_0_0 none (diff (weights (scores q k)) (lam l)) (values v)
/-- The rows' factors. -/
def factor (o : FVec Ideal S4x16384x128 .f32) : FVec Ideal S4x16384x1 .f32 :=
  Host.rsqrt (addf (Host.divf (broadcastInDim S4x16384x1 ![0, 1] bcast_S4x16384_S4x16384x1_0_1 (Host.reduceAdd (mulf o o) (constant S_ .f32 0x00000000#32) reducesTo_S4x16384x128_S4x16384_d2 h_S_))
      (broadcastInDim S4x16384x1 ![] bcast_S_S4x16384x1 (constant S_ .f32 0x43000000#32))) (broadcastInDim S4x16384x1 ![] bcast_S_S4x16384x1 (constant S_ .f32 0x3727C5AC#32)))
/-- The gains, for every row. -/
def gains (g : FVec Ideal S1x128 .f32) : FVec Ideal S4x16384x128 .f32 :=
  broadcastInDim S4x16384x128 ![0, 1, 2] bcast_S1x1x128_S4x16384x128_0_1_2 (broadcastInDim S1x1x128 ![2] bcast_S128_S1x1x128_2 (shapeCast S128 g shapeCasts_S1x128_S128))
/-- The norm of the rows. -/
def norm (o : FVec Ideal S4x16384x128 .f32) (g : FVec Ideal S1x128 .f32) : FVec Ideal S4x16384x128 .f32 :=
  mulf (mulf (mulf o (broadcastInDim S4x16384x128 ![0, 1, 2] bcast_S4x16384x1_S4x16384x128_0_1_2 (factor o))) (gains g))
    (broadcastInDim S4x16384x128 ![] bcast_S_S4x16384x128 (constant S_ .f32 0x3F4CCCCD#32))
/-- The reference's result. -/
def REF (l : FVec Ideal S4x64 .f32) (q k : FVec Ideal S16384x512 .bf16) (v : FVec Ideal S32x512x512 .bf16) (g : FVec Ideal S1x128 .f32) : FVec Ideal S16384x512 .bf16 :=
  truncf .bf16 (shapeCast S16384x512 (transpose S16384x4x128 [1, 0, 2] (norm (heads l q k v) g) transposes_S4x16384x128_S16384x4x128_1_0_2) shapeCasts_S16384x4x128_S16384x512) bitsLt_bf16_f32

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.Reference2Ideal.Value.run (F := Ideal) m ρ

/-- A score. -/
theorem scores_apply (q k : FVec Ideal S16384x512 .bf16) (h : Fin 4) (e : Fin 2) (r i : Fin 16384) :
    scores q k (ix4 h e r i) = (∑ x : Fin 64, q (ix2 r ⟨h * 128 + e * 64 + x, by omega⟩) * k (ix2 i ⟨h * 128 + e * 64 + x, by omega⟩)) * ((Real.log 2 : ℝ) : EReal) := by
  rw [← log_two]
  pointwise [scores, comps]

theorem powers_apply (s : FVec Ideal S4x2x16384x16384 .f32) (h : Fin 4) (e : Fin 2) (r i : Fin 16384) :
    powers s (ix4 h e r i) = Ideal.exp (s (ix4 h e r i) - peak s (ix3 h e r)) := by
  pointwise [powers, spread]

theorem totals_apply (s : FVec Ideal S4x2x16384x16384 .f32) (h : Fin 4) (e : Fin 2) (r : Fin 16384) :
    totals s (ix3 h e r) = ∑ x : Fin 16384, s (ix4 h e r x) := by
  pointwise [totals]

theorem weights_apply (s : FVec Ideal S4x2x16384x16384 .f32) (h : Fin 4) (e : Fin 2) (r i : Fin 16384) :
    weights s (ix4 h e r i) = Ideal.div (powers s (ix4 h e r i)) (totals (powers s) (ix3 h e r)) := by
  pointwise [weights, spread]

theorem pair_apply (x y : FVec Ideal S1x64 .f32) (i : S_.Idx) : pair x y i = Ideal.exp (∑ d : Fin 64, x (ix2 0 d) * y (ix2 0 d)) := by
  pointwise [pair]

theorem lam_apply (l : FVec Ideal S4x64 .f32) (i : S_.Idx) : lam l i = lamW l := by
  have z := pair_apply
  unfold lamW
  pointwise [lam]
  rw [z, z]
  pointwise []

theorem diff_apply (w : FVec Ideal S4x2x16384x16384 .f32) (l : FVec Ideal S4x64 .f32) (h : Fin 4) (r i : Fin 16384) :
    diff w (lam l) (ix3 h r i) = w (ix4 h 0 r i) - lamW l * w (ix4 h 1 r i) := by
  have z := lam_apply l
  pointwise [diff]
  rw [z]

theorem values_apply (v : FVec Ideal S32x512x512 .bf16) (h : Fin 4) (i : Fin 16384) (d : Fin 128) :
    values v (ix3 h i d) = v (ix3 ⟨i / 512, by omega⟩ ⟨h * 128 + d, by omega⟩ ⟨i % 512, by omega⟩) := by
  pointwise [values]

theorem heads_apply (l : FVec Ideal S4x64 .f32) (q k : FVec Ideal S16384x512 .bf16) (v : FVec Ideal S32x512x512 .bf16) (h : Fin 4) (r : Fin 16384) (d : Fin 128) :
    heads l q k v (ix3 h r d) = ∑ i : Fin 16384, diff (weights (scores q k)) (lam l) (ix3 h r i) * values v (ix3 h i d) := by
  pointwise [heads]

theorem norm_apply (o : FVec Ideal S4x16384x128 .f32) (g : FVec Ideal S1x128 .f32) (h : Fin 4) (r : Fin 16384) (d : Fin 128) :
    norm o g (ix3 h r d) = normed (fun x => o (ix3 h r x)) (g (ix2 0 d)) d := by
  unfold normed
  pointwise [norm, factor, gains]

theorem REF_apply (l : FVec Ideal S4x64 .f32) (q k : FVec Ideal S16384x512 .bf16) (v : FVec Ideal S32x512x512 .bf16) (g : FVec Ideal S1x128 .f32) (r : Fin 16384) (j : Fin 512) :
    REF l q k v g (ix2 r j) = norm (heads l q k v) g (ix3 ⟨j / 128, by omega⟩ r ⟨j % 128, by omega⟩) := by
  pointwise [REF]

/-- The weights are the softmax to base two of the scores before their scaling. -/
theorem weights_soft (s : FVec Ideal S4x2x16384x16384 .f32) (h : Fin 4) (e : Fin 2) (r : Fin 16384) (S : Nat → ℝ)
    (hS : ∀ i : Fin 16384, s (ix4 h e r i) = ((S i * Real.log 2 : ℝ) : EReal)) (i : Fin 16384) : weights s (ix4 h e r i) = (soft S i : EReal) := by
  obtain ⟨b, hb⟩ := peak_real s h e r fun i => ⟨_, hS i⟩
  have p : ∀ i : Fin 16384, powers s (ix4 h e r i) = (((2 : ℝ) ^ S i * Real.exp (-b) : ℝ) : EReal) := fun i => by
    rw [powers_apply, hS, hb, ← EReal.coe_sub, Ideal.exp_coe, Real.rpow_def_of_pos two_pos, ← Real.exp_add]
    exact congrArg (fun z : ℝ => ((Real.exp z : ℝ) : EReal)) (by ring)
  have z : Real.exp (-b) ≠ 0 := (Real.exp_pos _).ne'
  have n : 0 < ∑ i ∈ Finset.range 16384, (2 : ℝ) ^ S i := Finset.sum_pos (fun i _ => Real.rpow_pos_of_pos two_pos _) ⟨0, Finset.mem_range.2 (by omega)⟩
  have t : totals (powers s) (ix3 h e r) = (((∑ i ∈ Finset.range 16384, (2 : ℝ) ^ S i) * Real.exp (-b) : ℝ) : EReal) := by
    rw [totals_apply, Finset.sum_congr rfl fun x _ => p x, ← coe_sum, Finset.sum_mul]
    exact congrArg _ (Finset.sum_range (fun i => (2 : ℝ) ^ S i * Real.exp (-b))).symm
  rw [weights_apply, p, t, Ideal.div_coe (mul_ne_zero n.ne' z), ← EReal.coe_mul]
  refine congrArg _ ?_
  unfold soft
  rw [mul_one_div, mul_div_mul_right _ _ z]

/-- Among real numbers, the mean by the difference of two weights is the difference of the means. -/
theorem mean_diff (V : Nat → ℝ) (a b : Nat → ℝ) (L : ℝ) (n : Nat) :
    ∑ i ∈ Finset.range n, ((a i : EReal) - (L : EReal) * (b i : EReal)) * (V i : EReal)
      = (∑ i ∈ Finset.range n, (V i : EReal) * (a i : EReal)) - (L : EReal) * ∑ i ∈ Finset.range n, (V i : EReal) * (b i : EReal) := by
  simp only [← EReal.coe_mul, ← EReal.coe_sub, ← coe_sum]
  refine congrArg _ ?_
  rw [Finset.mul_sum, ← Finset.sum_sub_distrib]
  exact Finset.sum_congr rfl fun i _ => by ring

/-- The reference's cell: head `h`, row `r`, lane `d`. -/
theorem REF_value (l : FVec Ideal S4x64 .f32) (q k : FVec Ideal S16384x512 .bf16) (v : FVec Ideal S32x512x512 .bf16) (g : FVec Ideal S1x128 .f32) (h : Fin 4) (r : Fin 16384) (d : Fin 128)
    (j : Fin 512) (hj : (j : Nat) = 128 * h + d) (S : Fin 2 → Nat → ℝ)
    (hS : ∀ (e : Fin 2) (i : Fin 16384), ∑ x : Fin 64, q (ix2 r ⟨h * 128 + e * 64 + x, by omega⟩) * k (ix2 i ⟨h * 128 + e * 64 + x, by omega⟩) = (S e i : EReal))
    (L : ℝ) (hL : lamW l = (L : EReal)) (V : Fin 128 → Nat → ℝ)
    (hV : ∀ (x : Fin 128) (i : Nat), v (ix3 ⟨i / 512 % 32, by omega⟩ ⟨h * 128 + x, by omega⟩ ⟨i % 512, by omega⟩) = (V x i : EReal)) :
    REF l q k v g (ix2 r j) = normed (fun x => (∑ i ∈ Finset.range 16384, (V x i : EReal) * (soft (S 0) i : EReal))
      - lamW l * ∑ i ∈ Finset.range 16384, (V x i : EReal) * (soft (S 1) i : EReal)) (g (ix2 0 d)) d := by
  rw [REF_apply, show (⟨j / 128, by omega⟩ : Fin 4) = h from Fin.ext (by show (j : Nat) / 128 = h; omega),
    show (⟨j % 128, by omega⟩ : Fin 128) = d from Fin.ext (by show (j : Nat) % 128 = d; omega), norm_apply]
  refine congrArg (fun f => normed f (g (ix2 0 d)) d) (funext fun x => ?_)
  rw [heads_apply, hL, ← mean_diff, Finset.sum_range]
  refine Finset.sum_congr rfl fun i _ => ?_
  have w : ∀ e : Fin 2, weights (scores q k) (ix4 h e r i) = (soft (S e) i : EReal) := fun e =>
    weights_soft (scores q k) h e r (S e) (fun i => by rw [scores_apply, hS, EReal.coe_mul]) i
  rw [diff_apply, w, w, hL, values_apply, ← hV]
  refine congrArg (fun n => _ * v (ix3 n _ _)) (Fin.ext ?_)
  show (i : Nat) / 512 = (i : Nat) / 512 % 32
  omega

end Cert.Reference2Ideal.Hand

end
-- ==== Proof.Arr2.lean ====
/- The differential attention's result array. -/
module

public import proofs.«01_k».proof.Proof.Ref2
public import Idealize.ShloMosaic.Lib.Pipeline.ValueKit

@[expose] public section

set_option maxRecDepth 16384

noncomputable section

namespace Cert.Kernel2Ideal.Hand

open Idealize.ShloMosaic Idealize.ShloMosaic.TcCoe Idealize.SL.Sem
open Cert.Attn Cert.Kernel2Ideal.Gen
open Cert.Reference2Ideal.Hand (REF REF_value)
open Idealize.ShloMosaic.Pipeline (Dat)

variable (m : (ℓ : Loc nD τ sig) → Buf (Elt Ideal) ℓ) (ρ : Dev nD → PrngReg)

theorem idx : ∀ t : Fin cfg0.N, win0_0.index t = ![0, 0] ∧ win0_1.index t = ![t.val % 64, t.val / 64] ∧ win0_2.index t = ![0, t.val / 64]
    ∧ win0_3.index t = ![0, t.val / 64, 0] ∧ win0_4.index t = ![0, 0] ∧ win0_5.index t = ![t.val % 64, t.val / 64] ∧ t.val / 64 < 4 :=
  (by decide +kernel : ∀ t : Fin grid0.N, _)

theorem post5 (r : PUnit × MemSt nD τ sig (Elt Ideal)) (h : Pipeline.FramePost cfgs (dats m) 0 (V m) r) (c : Dev nD) :
    r.2.mem ((c : Thread nD τ).loc main_v0_0) = (dats m 0 c).arrAt 5 cfg0.N := (h c).1 5
theorem kept0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))
theorem kept2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept3 (r : PUnit × MemSt nD τ sig (Elt Ideal)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))
theorem kept4 (r : PUnit × MemSt nD τ sig (Elt Ideal)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The blocks: the four vectors, -/
theorem blk0 (c : Dev nD) (t : Fin cfg0.N) (i : Fin 4) (j : Fin 64) : iblk m c 0 t (ix2 i j) = m ((c : Thread nD τ).loc main_arg0) (ix2 i j) := by
  blk_ext [iblk, V, idx t]
/-- the queries, -/
theorem blk1 (c : Dev nD) (t : Fin cfg0.N) (i : Fin 256) (j : Fin 128) (i' : Fin 16384) (j' : Fin 512) (hi : (i' : Nat) = 256 * (t.val % 64) + i) (hj : (j' : Nat) = 128 * (t.val / 64) + j) :
    iblk m c 1 t (ix2 i j) = m ((c : Thread nD τ).loc main_arg1) (ix2 i' j') := by
  blk_ext [iblk, V, idx t]
/-- the keys, -/
theorem blk2 (c : Dev nD) (t : Fin cfg0.N) (i : Fin 16384) (j : Fin 128) (j' : Fin 512) (hj : (j' : Nat) = 128 * (t.val / 64) + j) :
    iblk m c 2 t (ix2 i j) = m ((c : Thread nD τ).loc main_arg2) (ix2 i j') := by
  blk_ext [iblk, V, idx t]
/-- the values, -/
theorem blk3 (c : Dev nD) (t : Fin cfg0.N) (i : Fin 32) (d : Fin 128) (j : Fin 512) (d' : Fin 512) (hd : (d' : Nat) = (t.val / 64) * 128 + d) :
    iblk m c 3 t (ix3 i d j) = m ((c : Thread nD τ).loc main_arg3) (ix3 i d' j) := by
  blk_ext [iblk, V, idx t]
/-- and the gains. -/
theorem blk4 (c : Dev nD) (t : Fin cfg0.N) (i : Fin 1) (j : Fin 128) : iblk m c 4 t (ix2 i j) = m ((c : Thread nD τ).loc main_arg4) (ix2 i j) := by
  blk_ext [iblk, V, idx t]

/-- The second component's weight is a real number where the four vectors are. -/
theorem lamW_real (w : FVec Ideal S4x64 .f32) (hw : ∀ i j, ∃ a : ℝ, w (ix2 i j) = (a : EReal)) : ∃ L : ℝ, lamW w = (L : EReal) := by
  choose W hW using hw
  have five : ∃ a : ℝ, Ideal.ofBits .f32 0x3E4CCCCD#32 = (a : EReal) := by
    have e : Ideal.ofBits .f32 0x3E4CCCCD#32 = ((13421773 : ℝ) : EReal) * (((2 ^ 26 : ℝ)⁻¹ : ℝ) : EReal) := by simp [Ideal.ofBits, Ideal.ieee]
    exact ⟨_, e.trans (EReal.coe_mul _ _).symm⟩
  obtain ⟨a, ha⟩ := five
  unfold lamW
  simp only [hW, ha, ← EReal.coe_mul, ← coe_sum, Ideal.exp_coe, ← EReal.coe_sub, ← EReal.coe_add]
  exact ⟨_, rfl⟩

/-- The result array, for four vectors, queries, keys and values that are real numbers: the reference's result. -/
theorem final (c : Dev nD) (hl : ∀ i j, ∃ a : ℝ, m ((c : Thread nD τ).loc main_arg0) (ix2 i j) = (a : EReal))
    (hq : ∀ i j, ∃ a : ℝ, m ((c : Thread nD τ).loc main_arg1) (ix2 i j) = (a : EReal))
    (hk : ∀ i j, ∃ a : ℝ, m ((c : Thread nD τ).loc main_arg2) (ix2 i j) = (a : EReal))
    (hv : ∀ i j k, ∃ a : ℝ, m ((c : Thread nD τ).loc main_arg3) (ix3 i j k) = (a : EReal)) :
    (dats m 0 c).arrAt 5 (cfgs 0).N
      = REF (m ((c : Thread nD τ).loc main_arg0)) (m ((c : Thread nD τ).loc main_arg1)) (m ((c : Thread nD τ).loc main_arg2))
        (m ((c : Thread nD τ).loc main_arg3)) (m ((c : Thread nD τ).loc main_arg4)) := by
  obtain ⟨L, hL⟩ := lamW_real _ hl
  choose Q hQ using hq
  choose K hK using hk
  choose W hW using hv
  refine (dats m 0 c).arrAt_eq_of_covers 5 _ (by decide +kernel) fun t _ y => ?_
  blk_simp
  rw [after0_5]
  unfold finAt
  idx_vars y
  have hN : (t : Nat) < 256 := t.isLt
  have hg := (idx t).2.2.2.2.2.2
  have z0 : (y0 : Nat) < 256 := y0.isLt
  have z1 : (y1 : Nat) < 128 := y1.isLt
  have ep : (((View.whole main_v0_0).slice (win0_5.rect t)).emb (ix2 y0 y1) : S16384x512.Idx)
      = ix2 ⟨256 * (t.val % 64) + y0, by omega⟩ ⟨128 * (t.val / 64) + y1, by omega⟩ := by
    blk_ext [iblk, V, idx t]
  have S : ∃ S : Fin 2 → Nat → ℝ, ∀ (e : Fin 2) (i : Fin 16384), S e i = ∑ x : Fin 64, Q ⟨256 * (t.val % 64) + y0, by omega⟩ ⟨128 * (t.val / 64) + (64 * e + x), by omega⟩
      * K i ⟨128 * (t.val / 64) + (64 * e + x), by omega⟩ :=
    ⟨fun e n => if h : n < 16384 then ∑ x : Fin 64, Q ⟨256 * (t.val % 64) + y0, by omega⟩ ⟨128 * (t.val / 64) + (64 * e + x), by omega⟩
      * K ⟨n, h⟩ ⟨128 * (t.val / 64) + (64 * e + x), by omega⟩ else 0, fun e i => dif_pos i.isLt⟩
  obtain ⟨S, hS⟩ := S
  have h := tile_value (iblk m c 0 t) (iblk m c 2 t) (iblk m c 3 t) (iblk m c 1 t) (zeros (F := Ideal) S256x128 .bf16) (iblk m c 4 t) y0 y1 S
    (fun e i => by
      rw [hS, coe_sum]
      refine Finset.sum_congr rfl fun x _ => ?_
      rw [blk2 m c t i _ ⟨128 * (t.val / 64) + (64 * e + x), by omega⟩ rfl, hK,
        blk1 m c t y0 _ ⟨256 * (t.val % 64) + y0, by omega⟩ ⟨128 * (t.val / 64) + (64 * e + x), by omega⟩ rfl rfl, hQ, EReal.coe_mul, mul_comm])
  have h' := REF_value (m ((c : Thread nD τ).loc main_arg0)) (m ((c : Thread nD τ).loc main_arg1)) (m ((c : Thread nD τ).loc main_arg2)) (m ((c : Thread nD τ).loc main_arg3))
    (m ((c : Thread nD τ).loc main_arg4)) ⟨t.val / 64, hg⟩ ⟨256 * (t.val % 64) + y0, by omega⟩ y1 ⟨128 * (t.val / 64) + y1, by omega⟩ rfl S
    (fun e i => by
      rw [hS, coe_sum]
      refine Finset.sum_congr rfl fun x _ => ?_
      rw [EReal.coe_mul, ← hK, ← hQ]
      refine congrArg₂ (fun a b : EReal => a * b) (congrArg _ ((ix2_inj _ _ _ _).2 ⟨rfl, Fin.ext ?_⟩)) (congrArg _ ((ix2_inj _ _ _ _).2 ⟨rfl, Fin.ext ?_⟩))
      · show t.val / 64 * 128 + e * 64 + (x : Nat) = 128 * (t.val / 64) + (64 * e + x)
        omega
      · show t.val / 64 * 128 + e * 64 + (x : Nat) = 128 * (t.val / 64) + (64 * e + x)
        omega) L hL
    (fun x i => W ⟨i / 512 % 32, by omega⟩ ⟨t.val / 64 * 128 + x, by omega⟩ ⟨i % 512, by omega⟩) (fun x i => hW _ _ _)
  have mean_at : ∀ (e : Fin 2) (x : Fin 128), mean (iblk m c 3 t) (S e) x
      = ∑ i ∈ Finset.range 16384, ((W ⟨i / 512 % 32, by omega⟩ ⟨t.val / 64 * 128 + x, by omega⟩ ⟨i % 512, by omega⟩ : ℝ) : EReal) * (soft (S e) i : EReal) := fun e x => by
    unfold mean
    refine Finset.sum_congr rfl fun i _ => ?_
    rw [← hW]
    exact congrArg (fun z : EReal => z * _) (blk3 m c t _ _ _ _ rfl)
  have lam_at : lamW (iblk m c 0 t) = lamW (m ((c : Thread nD τ).loc main_arg0)) := by
    unfold lamW
    simp only [blk0]
  rw [ep]
  refine h.trans (Eq.trans ?_ h'.symm)
  rw [lam_at]
  simp only [mean_at]
  rw [blk4]

/-- The kernel's run: its result, and its arguments unchanged. -/
theorem run_value (hl : ∀ (c : Dev nD) i j, ∃ a : ℝ, m ((c.tc : Thread nD τ).loc main_arg0) (ix2 i j) = (a : EReal))
    (hq : ∀ (c : Dev nD) i j, ∃ a : ℝ, m ((c.tc : Thread nD τ).loc main_arg1) (ix2 i j) = (a : EReal))
    (hk : ∀ (c : Dev nD) i j, ∃ a : ℝ, m ((c.tc : Thread nD τ).loc main_arg2) (ix2 i j) = (a : EReal))
    (hv : ∀ (c : Dev nD) i j k, ∃ a : ℝ, m ((c.tc : Thread nD τ).loc main_arg3) (ix3 i j k) = (a : EReal)) :
    θ_run defs (onTc (τ := τ) (main (F := Ideal))) ⟨m, fun _ => 0, ρ⟩ fun r => ∀ c : Dev nD,
      r.2.mem ((c.tc : Thread nD τ).loc main_v0_0) = REF (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(post5 m r h c).trans (final m c (hl c) (hq c) (hk c) (hv c)), kept0 m r h c, kept1 m r h c, kept2 m r h c, kept3 m r h c, kept4 m r h c⟩)
    (run m ρ)

end Cert.Kernel2Ideal.Hand

end
-- ==== Proof.Pre2.lean ====
/- What the second call's precondition says: the four vectors, queries, keys and values are real numbers. -/
module

public import proofs.«01_k».proof.Pre_finite_but_gain
public import proofs.«01_k».proof.Proof.Pre

@[expose] public section

noncomputable section

namespace Cert.Pre_finite_but_gain.Hand

open Idealize.ShloMosaic
open Cert.Pre_finite_but_gain

/-- The shape conditions. -/
theorem facts : Facts where
  bcast_S_S4x64 := by decide
  bitsLt_bf16_f32 := by decide
  bcast_S_S16384x512 := by decide
  bcast_S_S32x512x512 := by decide

/-- A number whose magnitude is below infinity is real. -/
theorem real_of_lt {s u : Shape} (x : FVec Ideal s .f32) (f : Fin u.rank → Fin s.rank) (h : u.BroadcastsInDim s f) (i : s.Idx)
    (e : cmpf .olt (Host.absf x) (broadcastInDim s f h (constant u .f32 0x7F800000#32)) i = 1#1) : ∃ a : ℝ, x i = (a : EReal) := by
  have e' : Ideal.cmp .olt (max (x i : EReal) (-(x i : EReal))) (Ideal.ofBits .f32 0x7F800000#32) = 1#1 := e
  rw [Cert.Pre_finite_scores.Hand.top] at e'
  generalize (x i : EReal) = y at e' ⊢
  induction y using EReal.rec with
  | bot => simp [Ideal.cmp] at e'
  | coe a => exact ⟨a, rfl⟩
  | top => simp [Ideal.cmp] at e'

end Cert.Pre_finite_but_gain.Hand

end
-- ==== Proof.Mid.lean ====
/- The third call's tile: what its block of rows holds after a point, cell by cell. -/
module

public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Hand

open Idealize.ShloMosaic Idealize.ShloMosaic.TcCoe Idealize.SL.Sem
open Cert.Kernel3Ideal.Gen

/-- A cell of the hidden state: the input and the product of the two attentions, side by side, with the weights. -/
def hid (a b : Fin 512 → EReal) (x : EReal) (w : Fin 1024 → EReal) : EReal :=
  x + ∑ k : Fin 1024, (if h : (k : Nat) < 512 then a ⟨k, h⟩ else b ⟨k - 512, by omega⟩) * w k

/-- A cell of a row's norm. -/
def nrm (h : Fin 1024 → EReal) (g : EReal) (j : Fin 1024) : EReal :=
  h j * Ideal.rsqrt (Ideal.div (∑ x : Fin 1024, h x * h x) (Ideal.ofBits .f32 0x44800000#32) + Ideal.ofBits .f32 0x358637BD#32) * g

theorem pay5_apply (a b : Vec Ideal S512x512 .bf16) (x : Vec Ideal S512x1024 .f32) (w : Vec Ideal S1024x1024 .bf16) (r : Fin 512) (j : Fin 1024) :
    k0_pay5 a b x w (ix2 r j) = hid (fun i => a (ix2 r i : S512x512.Idx)) (fun i => b (ix2 r i : S512x512.Idx)) (x (ix2 r j : S512x1024.Idx)) (fun k => w (ix2 k j : S1024x1024.Idx)) := by
  pointwise [k0_pay5, hid]

theorem pay6_apply (a b : Vec Ideal S512x512 .bf16) (x : Vec Ideal S512x1024 .f32) (w : Vec Ideal S1024x1024 .bf16) (g : Vec Ideal S1x1024 .f32) (r : Fin 512) (j : Fin 1024) :
    k0_pay6 a b x w g (ix2 r j) = nrm (fun i => k0_pay5 a b x w (ix2 r i)) (g (ix2 0 j : S1x1024.Idx)) j := by
  unfold nrm
  generalize e : k0_pay5 a b x w = h
  pointwise [k0_pay6]
  rw [e]

theorem pay7_apply (a b : Vec Ideal S512x512 .bf16) (x : Vec Ideal S512x1024 .f32) (w : Vec Ideal S1024x1024 .bf16) (g : Vec Ideal S1x1024 .f32) (v : Vec Ideal S1024x2048 .bf16)
    (r : Fin 512) (j : Fin 2048) :
    k0_pay7 a b x w g v (ix2 r j) = ∑ k : Fin 1024, k0_pay6 a b x w g (ix2 r k) * v (ix2 k j : S1024x2048.Idx) := by
  generalize e : k0_pay6 a b x w g = n
  pointwise [k0_pay7]
  rw [e]

/-- The scores of one half query: its keys against the lanes from `o` on. -/
def tile (o : Nat) (ho : S512x2048.Slices ![0, o] S512x128) (q : FVec Ideal S512x2048 .bf16) (s : Vec Ideal S1x128x128 .bf16) : FVec Ideal S1x128x512 .f32 :=
  shapeCast S1x128x512 (matmul dot_S128x128_S512x128_S128x512_1_1_0_0_n_n none (shapeCast S128x128 s shapeCasts_S1x128x128_S128x128 : FVec Ideal S128x128 .bf16)
    (extractStridedSlice S512x128 ![0, o] q ho) (constant S128x512 .f32 0x00000000#32)) shapeCasts_S128x512_S1x128x512

theorem tile_apply (o : Nat) (ho : S512x2048.Slices ![0, o] S512x128) (l : o + 128 ≤ 2048) (q : FVec Ideal S512x2048 .bf16) (s : Vec Ideal S1x128x128 .bf16) (n : Fin 128) (r : Fin 512) :
    tile o ho q s (ix3 0 n r) = ∑ d : Fin 128, s (ix3 0 n d : S1x128x128.Idx) * q (ix2 r ⟨o + d, by omega⟩) := by
  pointwise [tile]

/-- A score of half query `a`: its key `n` against row `r`'s lanes. -/
def cell (q : FVec Ideal S512x2048 .bf16) (s : Vec Ideal S16x128x128 .bf16) (a : Fin 16) (n : Fin 128) (r : Fin 512) : EReal :=
  ∑ d : Fin 128, s (ix3 a n d : S16x128x128.Idx) * q (ix2 r ⟨128 * a + d, by omega⟩)

/-- The block of scores: sixteen half queries, each with its own keys. -/
def block (q : FVec Ideal S512x2048 .bf16) (s : Vec Ideal S16x128x128 .bf16) : Vec Ideal S16x128x512 .f32 := fun y => cell q s (y 0) (y 1) (y 2)

/-- The scores of half query `a` are the block's. -/
theorem piece (a o : Nat) (ha : a < 16) (ho : o = 128 * a) (hs : S512x2048.Slices ![0, o] S512x128)
    (i₁ : ∀ x, (![a, 0, 0] : Fin 3 → Nat) x + S1x128x128.size x ≤ S16x128x128.size x) (i₂ : ∀ x, (![a, 0, 0] : Fin 3 → Nat) x + S1x128x512.size x ≤ S16x128x512.size x)
    (q : FVec Ideal S512x2048 .bf16) (s : Vec Ideal S16x128x128 .bf16) (x : S1x128x512.Idx) :
    tile o hs q (View.ld s (Rect.unit (s := S16x128x128) ![a, 0, 0] S1x128x128.size i₁)) x = block q s ((Rect.unit (s := S16x128x512) ![a, 0, 0] S1x128x512.size i₂).idx x) := by
  idx_vars x
  have x0z : x0 = 0 := Subsingleton.elim _ _
  subst x0z
  rw [tile_apply o hs (by omega)]
  unfold block cell
  refine Finset.sum_congr rfl fun d _ => ?_
  refine congrArg₂ (fun a b : EReal => a * b) (congrArg s ?_) (congrArg q ?_)
  · funext b
    match b with
    | ⟨0, _⟩ => exact Fin.ext rfl
    | ⟨1, _⟩ => exact Fin.ext (by show 0 + 1 * (x1 : Nat) = 0 + 1 * (x1 : Nat); rfl)
    | ⟨2, _⟩ => exact Fin.ext (by show 0 + 1 * (d : Nat) = d; omega)
  · refine (ix2_inj _ _ _ _).2 ⟨Fin.ext (by show (x2 : Nat) = 0 + 1 * (x2 : Nat); omega), Fin.ext ?_⟩
    show o + (d : Nat) = 128 * (a + 1 * 0) + d
    omega

variable (a b : Vec Ideal S512x512 .bf16) (x : Vec Ideal S512x1024 .f32) (w : Vec Ideal S1024x1024 .bf16) (g : Vec Ideal S1x1024 .f32) (v : Vec Ideal S1024x2048 .bf16)
  (s : Vec Ideal S16x128x128 .bf16)

/-- What the body leaves: the hidden rows, -/
theorem out7_eq : out0_7 a b x w g v s = k0_pay5 a b x w := by
  unfold out0_7
  rw [View.ld_unit_lit _ a (by decide), View.ld_unit_lit _ b (by decide), View.ld_unit_lit _ x (by decide), View.ld_unit_lit _ w (by decide)]
  exact View.canon_cons_unit_lit _ _ _ (by decide)
/-- their norms, -/
theorem out8_eq : out0_8 a b x w g v s = k0_pay6 a b x w g := by
  unfold out0_8
  rw [View.ld_unit_lit _ a (by decide), View.ld_unit_lit _ b (by decide), View.ld_unit_lit _ x (by decide), View.ld_unit_lit _ w (by decide), View.ld_unit_lit _ g (by decide)]
  exact View.canon_cons_unit_lit _ _ _ (by decide)
/-- and their scores. -/
theorem out9_eq : out0_9 a b x w g v s = block (k0_pay7 a b x w g v) s := by
  have e : k0_pay24 a b x w g v s = k0_pay7 a b x w g v := by
    unfold k0_pay24
    rw [View.ld_unit_lit _ a (by decide), View.ld_unit_lit _ b (by decide), View.ld_unit_lit _ x (by decide), View.ld_unit_lit _ w (by decide), View.ld_unit_lit _ g (by decide),
      View.ld_unit_lit _ v (by decide)]
  unfold out0_9
  rw [View.ld_unit_lit _ a (by decide), View.ld_unit_lit _ b (by decide), View.ld_unit_lit _ x (by decide), View.ld_unit_lit _ w (by decide), View.ld_unit_lit _ g (by decide),
    View.ld_unit_lit _ v (by decide), e]
  funext y
  refine View.canon_apply_of_pieces (block (k0_pay7 a b x w g v) s) _ ?_ y (cover0_9 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact piece 15 1920 (by decide) (by decide) _ (by decide) (by decide) _ s
  · exact piece 14 1792 (by decide) (by decide) _ (by decide) (by decide) _ s
  · exact piece 13 1664 (by decide) (by decide) _ (by decide) (by decide) _ s
  · exact piece 12 1536 (by decide) (by decide) _ (by decide) (by decide) _ s
  · exact piece 11 1408 (by decide) (by decide) _ (by decide) (by decide) _ s
  · exact piece 10 1280 (by decide) (by decide) _ (by decide) (by decide) _ s
  · exact piece 9 1152 (by decide) (by decide) _ (by decide) (by decide) _ s
  · exact piece 8 1024 (by decide) (by decide) _ (by decide) (by decide) _ s
  · exact piece 7 896 (by decide) (by decide) _ (by decide) (by decide) _ s
  · exact piece 6 768 (by decide) (by decide) _ (by decide) (by decide) _ s
  · exact piece 5 640 (by decide) (by decide) _ (by decide) (by decide) _ s
  · exact piece 4 512 (by decide) (by decide) _ (by decide) (by decide) _ s
  · exact piece 3 384 (by decide) (by decide) _ (by decide) (by decide) _ s
  · exact piece 2 256 (by decide) (by decide) _ (by decide) (by decide) _ s
  · exact piece 1 128 (by decide) (by decide) _ (by decide) (by decide) _ s
  · exact piece 0 0 (by decide) (by decide) _ (by decide) (by decide) _ s

end Cert.Kernel3Ideal.Hand

end
-- ==== Proof.Ref3.lean ====
/- The third call's reference, read cell by cell. -/
module

public import proofs.«01_k».proof.Proof.Gen.Reference3Ideal.Run
public import proofs.«01_k».proof.Proof.Mid

@[expose] public section

set_option maxRecDepth 16384

noncomputable section

namespace Cert.Reference3Ideal.Hand

open Idealize.ShloMosaic Idealize.ShloMosaic.TcCoe Idealize.SL.Sem
open Cert.Reference3Ideal Cert.Reference3Ideal.Gen
open Cert.Kernel3Ideal.Hand (hid nrm)

/-- The hidden state: the input and the projected attentions. -/
def hidden (a b : FVec Ideal S16384x512 .bf16) (x : FVec Ideal S16384x1024 .f32) (w : FVec Ideal S1024x1024 .bf16) : FVec Ideal S16384x1024 .f32 :=
  addf x (Host.dotGeneral dot_S16384x1024_S1024x1024_S16384x1024_1_0_0_1_n_n none
    (concatenate S16384x1024 1 [⟨S16384x512, a⟩, ⟨S16384x512, b⟩] concatenates_S16384x512_S16384x512_S16384x1024_d1) w)

/-- A row's factor: the root of the mean of its squares, inverted. -/
def factor (h : FVec Ideal S16384x1024 .f32) : FVec Ideal S16384x1 .f32 :=
  Host.rsqrt (addf (Host.divf (broadcastInDim S16384x1 ![0] bcast_S16384_S16384x1_0 (Host.reduceAdd (mulf h h) (constant S_ .f32 0x00000000#32) reducesTo_S16384x1024_S16384_d1 h_S_))
    (broadcastInDim S16384x1 ![] bcast_S_S16384x1 (constant S_ .f32 0x44800000#32))) (broadcastInDim S16384x1 ![] bcast_S_S16384x1 (constant S_ .f32 0x358637BD#32)))

/-- The gains for every row. -/
def gains (g : FVec Ideal S1x1024 .f32) : FVec Ideal S16384x1024 .f32 :=
  broadcastInDim S16384x1024 ![0, 1] bcast_S1x1024_S16384x1024_0_1 (broadcastInDim S1x1024 ![1] bcast_S1024_S1x1024_1 (shapeCast S1024 g shapeCasts_S1x1024_S1024))

/-- The norm. -/
def norm (h : FVec Ideal S16384x1024 .f32) (g : FVec Ideal S1x1024 .f32) : FVec Ideal S16384x1024 .bf16 :=
  truncf .bf16 (mulf (mulf h (broadcastInDim S16384x1024 ![0, 1] bcast_S16384x1_S16384x1024_0_1 (factor h))) (gains g)) bitsLt_bf16_f32

/-- The half queries. -/
def queries (n : FVec Ideal S16384x1024 .bf16) (v : FVec Ideal S1024x2048 .bf16) : FVec Ideal S16384x8x2x128 .bf16 :=
  shapeCast S16384x8x2x128 (truncf .bf16 (Host.dotGeneral dot_S16384x1024_S1024x2048_S16384x2048_1_0_0_1_n_n none n v) bitsLt_bf16_f32 : FVec Ideal S16384x2048 .bf16)
    shapeCasts_S16384x2048_S16384x8x2x128

/-- The scores of every half query against its keys. -/
def scores (q : FVec Ideal S16384x8x2x128 .bf16) (s : FVec Ideal S16x128x128 .bf16) : FVec Ideal S16x128x16384 .f32 :=
  shapeCast S16x128x16384 (transpose S8x2x128x16384 [1, 2, 3, 0] (transpose S16384x8x2x128 [3, 0, 1, 2]
    (Host.dotGeneral dot_S8x2x128x128_S16384x8x2x128_S8x2x128x16384_3_3_2_0_01_12 none (shapeCast S8x2x128x128 s shapeCasts_S16x128x128_S8x2x128x128 : FVec Ideal S8x2x128x128 .bf16) q)
    transposes_S8x2x128x16384_S16384x8x2x128_3_0_1_2) transposes_S16384x8x2x128_S8x2x128x16384_1_2_3_0) shapeCasts_S8x2x128x16384_S16x128x16384

/-- The reference's run, its three results by these names. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = hidden (m ((c.tc : Thread nD τ).loc main_arg0)) (m ((c.tc : Thread nD τ).loc main_arg1)) (m ((c.tc : Thread nD τ).loc main_arg2))
        (m ((c.tc : Thread nD τ).loc main_arg3))
      ∧ r.2.mem ((c.tc : Thread nD τ).loc main_v17) = norm (hidden (m ((c.tc : Thread nD τ).loc main_arg0)) (m ((c.tc : Thread nD τ).loc main_arg1)) (m ((c.tc : Thread nD τ).loc main_arg2))
        (m ((c.tc : Thread nD τ).loc main_arg3))) (m ((c.tc : Thread nD τ).loc main_arg4))
      ∧ r.2.mem ((c.tc : Thread nD τ).loc main_v25) = scores (queries (norm (hidden (m ((c.tc : Thread nD τ).loc main_arg0)) (m ((c.tc : Thread nD τ).loc main_arg1))
        (m ((c.tc : Thread nD τ).loc main_arg2)) (m ((c.tc : Thread nD τ).loc main_arg3))) (m ((c.tc : Thread nD τ).loc main_arg4))) (m ((c.tc : Thread nD τ).loc main_arg5)))
        (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.Reference3Ideal.Value.run (F := Ideal) m ρ

theorem hidden_apply (a b : FVec Ideal S16384x512 .bf16) (x : FVec Ideal S16384x1024 .f32) (w : FVec Ideal S1024x1024 .bf16) (r : Fin 16384) (j : Fin 1024) :
    hidden a b x w (ix2 r j) = hid (fun i => a (ix2 r i)) (fun i => b (ix2 r i)) (x (ix2 r j)) (fun k => w (ix2 k j)) := by
  pointwise [hidden, hid]

theorem norm_apply (h : FVec Ideal S16384x1024 .f32) (g : FVec Ideal S1x1024 .f32) (r : Fin 16384) (j : Fin 1024) :
    norm h g (ix2 r j) = nrm (fun i => h (ix2 r i)) (g (ix2 0 j)) j := by
  unfold nrm
  pointwise [norm, factor, gains]

theorem queries_apply (n : FVec Ideal S16384x1024 .bf16) (v : FVec Ideal S1024x2048 .bf16) (r : Fin 16384) (h : Fin 8) (e : Fin 2) (d : Fin 128) :
    queries n v (ix4 r h e d) = ∑ k : Fin 1024, n (ix2 r k) * v (ix2 k ⟨h * 256 + e * 128 + d, by omega⟩) := by
  pointwise [queries]

theorem scores_apply (q : FVec Ideal S16384x8x2x128 .bf16) (s : FVec Ideal S16x128x128 .bf16) (a : Fin 16) (p : Fin 128) (r : Fin 16384) :
    scores q s (ix3 a p r) = ∑ d : Fin 128, s (ix3 a p d) * q (ix4 r ⟨a / 2, by omega⟩ ⟨a % 2, by omega⟩ d) := by
  pointwise [scores]

/-- A score, from the norm's row. -/
theorem scores_queries (n : FVec Ideal S16384x1024 .bf16) (v : FVec Ideal S1024x2048 .bf16) (s : FVec Ideal S16x128x128 .bf16) (a : Fin 16) (p : Fin 128) (r : Fin 16384) :
    scores (queries n v) s (ix3 a p r) = ∑ d : Fin 128, s (ix3 a p d) * ∑ k : Fin 1024, n (ix2 r k) * v (ix2 k ⟨128 * a + d, by omega⟩) := by
  rw [scores_apply]
  refine Finset.sum_congr rfl fun d _ => congrArg _ ((queries_apply _ _ _ _ _ _).trans (Finset.sum_congr rfl fun k _ => ?_))
  refine congrArg (fun z => _ * v (ix2 k z)) (Fin.ext ?_)
  show (a : Nat) / 2 * 256 + a % 2 * 128 + d = 128 * a + d
  omega

end Cert.Reference3Ideal.Hand

end
-- ==== Proof.Arr3.lean ====
/- The third call's result arrays. -/
module

public import proofs.«01_k».proof.Proof.Ref3
public import Idealize.ShloMosaic.Lib.Pipeline.ValueKit

@[expose] public section

set_option maxRecDepth 16384

noncomputable section

namespace Cert.Kernel3Ideal.Hand

open Idealize.ShloMosaic Idealize.ShloMosaic.TcCoe Idealize.SL.Sem
open Cert.Kernel3Ideal Cert.Kernel3Ideal.Gen
open Cert.Reference3Ideal.Hand (hidden norm queries scores hidden_apply norm_apply scores_queries)
open Idealize.ShloMosaic.Pipeline (Dat)

variable (m : (ℓ : Loc nD τ sig) → Buf (Elt Ideal) ℓ) (ρ : Dev nD → PrngReg) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![t.val, 0] ∧ win0_8.index t = ![t.val, 0] ∧ win0_9.index t = ![0, 0, t.val] :=
  (by decide +kernel : ∀ t : Fin grid0.N, _)

/-- The arguments. -/
abbrev A0 : FVec Ideal S16384x512 .bf16 := m ((c : Thread nD τ).loc main_arg0)
abbrev A1 : FVec Ideal S16384x512 .bf16 := m ((c : Thread nD τ).loc main_arg1)
abbrev A2 : FVec Ideal S16384x1024 .f32 := m ((c : Thread nD τ).loc main_arg2)
abbrev A3 : FVec Ideal S1024x1024 .bf16 := m ((c : Thread nD τ).loc main_arg3)
abbrev A4 : FVec Ideal S1x1024 .f32 := m ((c : Thread nD τ).loc main_arg4)
abbrev A5 : FVec Ideal S1024x2048 .bf16 := m ((c : Thread nD τ).loc main_arg5)
abbrev A6 : FVec Ideal S16x128x128 .bf16 := m ((c : Thread nD τ).loc main_arg6)

/-- The blocks are the arguments' rows of a point, or whole arguments. -/
theorem blk0 (t : Fin cfg0.N) (i : Fin 512) (j : Fin 512) (i' : Fin 16384) (hi : (i' : Nat) = 512 * t.val + i) : iblk m c 0 t (ix2 i j) = A0 m c (ix2 i' j) := by
  blk_ext [iblk, V, idx t]
theorem blk1 (t : Fin cfg0.N) (i : Fin 512) (j : Fin 512) (i' : Fin 16384) (hi : (i' : Nat) = 512 * t.val + i) : iblk m c 1 t (ix2 i j) = A1 m c (ix2 i' j) := by
  blk_ext [iblk, V, idx t]
theorem blk2 (t : Fin cfg0.N) (i : Fin 512) (j : Fin 1024) (i' : Fin 16384) (hi : (i' : Nat) = 512 * t.val + i) : iblk m c 2 t (ix2 i j) = A2 m c (ix2 i' j) := by
  blk_ext [iblk, V, idx t]
theorem blk3 (t : Fin cfg0.N) (i : Fin 1024) (j : Fin 1024) : iblk m c 3 t (ix2 i j) = A3 m c (ix2 i j) := by
  blk_ext [iblk, V, idx t]
theorem blk4 (t : Fin cfg0.N) (i : Fin 1) (j : Fin 1024) : iblk m c 4 t (ix2 i j) = A4 m c (ix2 i j) := by
  blk_ext [iblk, V, idx t]
theorem blk5 (t : Fin cfg0.N) (i : Fin 1024) (j : Fin 2048) : iblk m c 5 t (ix2 i j) = A5 m c (ix2 i j) := by
  blk_ext [iblk, V, idx t]
theorem blk6 (t : Fin cfg0.N) (i : Fin 16) (j : Fin 128) (k : Fin 128) : iblk m c 6 t (ix3 i j k) = A6 m c (ix3 i j k) := by
  blk_ext [iblk, V, idx t]

/-- A point's hidden rows are the reference's, -/
theorem hidden_at (t : Fin cfg0.N) (i : Fin 512) (j : Fin 1024) (i' : Fin 16384) (hi : (i' : Nat) = 512 * t.val + i) :
    k0_pay5 (iblk m c 0 t) (iblk m c 1 t) (iblk m c 2 t) (iblk m c 3 t) (ix2 i j) = hidden (A0 m c) (A1 m c) (A2 m c) (A3 m c) (ix2 i' j) := by
  rw [hidden_apply, pay5_apply]
  simp only [blk0 m c t i _ i' hi, blk1 m c t i _ i' hi, blk2 m c t i _ i' hi, blk3]
/-- and so are their norms. -/
theorem norm_at (t : Fin cfg0.N) (i : Fin 512) (j : Fin 1024) (i' : Fin 16384) (hi : (i' : Nat) = 512 * t.val + i) :
    k0_pay6 (iblk m c 0 t) (iblk m c 1 t) (iblk m c 2 t) (iblk m c 3 t) (iblk m c 4 t) (ix2 i j) = norm (hidden (A0 m c) (A1 m c) (A2 m c) (A3 m c)) (A4 m c) (ix2 i' j) := by
  rw [norm_apply, pay6_apply, blk4]
  simp only [hidden_at m c t i _ i' hi]

theorem final7 : (dats m 0 c).arrAt 7 (cfgs 0).N = hidden (A0 m c) (A1 m c) (A2 m c) (A3 m c) := by
  refine (dats m 0 c).arrAt_eq_of_covers 7 _ (by decide +kernel) fun t _ y => ?_
  blk_simp
  rw [after0_7, out7_eq]
  idx_vars y
  have hN : (t : Nat) < 32 := t.isLt
  have z0 : (y0 : Nat) < 512 := y0.isLt
  have ep : (((View.whole main_v0_0).slice (win0_7.rect t)).emb (ix2 y0 y1) : S16384x1024.Idx) = ix2 ⟨512 * t.val + y0, by omega⟩ y1 := by
    blk_ext [iblk, V, idx t]
  rw [ep]
  exact hidden_at m c t y0 y1 _ rfl

theorem final8 : (dats m 0 c).arrAt 8 (cfgs 0).N = norm (hidden (A0 m c) (A1 m c) (A2 m c) (A3 m c)) (A4 m c) := by
  refine (dats m 0 c).arrAt_eq_of_covers 8 _ (by decide +kernel) fun t _ y => ?_
  blk_simp
  rw [after0_8, out8_eq]
  idx_vars y
  have hN : (t : Nat) < 32 := t.isLt
  have z0 : (y0 : Nat) < 512 := y0.isLt
  have ep : (((View.whole main_v0_1).slice (win0_8.rect t)).emb (ix2 y0 y1) : S16384x1024.Idx) = ix2 ⟨512 * t.val + y0, by omega⟩ y1 := by
    blk_ext [iblk, V, idx t]
  rw [ep]
  exact norm_at m c t y0 y1 _ rfl

theorem final9 : (dats m 0 c).arrAt 9 (cfgs 0).N = scores (queries (norm (hidden (A0 m c) (A1 m c) (A2 m c) (A3 m c)) (A4 m c)) (A5 m c)) (A6 m c) := by
  refine (dats m 0 c).arrAt_eq_of_covers 9 _ (by decide +kernel) fun t _ y => ?_
  blk_simp
  rw [after0_9, out9_eq]
  idx_vars y
  have hN : (t : Nat) < 32 := t.isLt
  have z2 : (y2 : Nat) < 512 := y2.isLt
  have ep : (((View.whole main_v0_2).slice (win0_9.rect t)).emb (ix3 y0 y1 y2) : S16x128x16384.Idx) = ix3 y0 y1 ⟨512 * t.val + y2, by omega⟩ := by
    blk_ext [iblk, V, idx t]
  rw [ep, scores_queries]
  unfold block cell
  refine Finset.sum_congr (M := EReal) rfl fun d _ => ?_
  refine congrArg₂ (fun a b : EReal => a * b) (blk6 m c t y0 y1 d) ((pay7_apply _ _ _ _ _ _ _ _).trans ?_)
  refine Finset.sum_congr (M := EReal) rfl fun k _ => ?_
  exact congrArg₂ (fun a b : EReal => a * b) (norm_at m c t y2 k _ rfl) (blk5 m c t k _)

/-- The kernel's run: its three results, and its arguments unchanged. -/
theorem run_value : θ_run defs (onTc (τ := τ) (main (F := Ideal))) ⟨m, fun _ => 0, ρ⟩ fun r => ∀ c : Dev nD,
      r.2.mem ((c.tc : Thread nD τ).loc main_v0_0) = hidden (A0 m c) (A1 m c) (A2 m c) (A3 m c)
      ∧ r.2.mem ((c.tc : Thread nD τ).loc main_v0_1) = norm (hidden (A0 m c) (A1 m c) (A2 m c) (A3 m c)) (A4 m c)
      ∧ r.2.mem ((c.tc : Thread nD τ).loc main_v0_2) = scores (queries (norm (hidden (A0 m c) (A1 m c) (A2 m c) (A3 m c)) (A4 m c)) (A5 m c)) (A6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (final7 m c), (h c).2.1.trans (final8 m c), (h c).2.2.1.trans (final9 m c), (h c).2.2.2⟩) (Cert.Kernel3Ideal.Value.run_blocks m ρ)

end Cert.Kernel3Ideal.Hand

end
-- ==== Proof.Proj.lean ====
/- The fourth call's tile: what its block of rows holds after a point, cell by cell. -/
module

public import proofs.«01_k».proof.Proof.Gen.Kernel4Ideal.Value
public import proofs.«01_k».proof.Proof.Mid
public import Idealize.ShloMosaic.Lib.Pointwise
public import Idealize.ShloMosaic.Lib.Pipeline.ValueKit

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen
open Cert.Kernel3Ideal.Hand (nrm)

/-- A row's projection. -/
def prj (x : Fin 1024 → EReal) (g : Fin 1024 → EReal) (w : Fin 1024 → EReal) : EReal := ∑ k : Fin 1024, nrm x (g k) k * w k

theorem pay3_apply (x : Vec Ideal S512x1024 .f32) (g : Vec Ideal S1x1024 .f32) (w : Vec Ideal S1024x2304 .bf16) (r : Fin 512) (j : Fin 2304) :
    k0_pay3 x g w (ix2 r j) = prj (fun i => x (ix2 r i : S512x1024.Idx)) (fun i => g (ix2 0 i : S1x1024.Idx)) (fun k => w (ix2 k j : S1024x2304.Idx)) := by
  unfold prj nrm
  pointwise [k0_pay3]

/-- A column times its inverse root, from the products of the squares with a column of the averaging matrix. -/
def avg {n : Nat} (P b : Fin n → EReal) (j : Fin n) : EReal :=
  P j * Ideal.rsqrt ((∑ k : Fin n, P k * P k * b k + ∑ k : Fin n, (P k * P k - P k * P k) * b k) + Ideal.ofBits .f32 0x358637BD#32)

theorem pay10_apply (x : Vec Ideal S512x1024 .f32) (g : Vec Ideal S1x1024 .f32) (w : Vec Ideal S1024x2304 .bf16) (b : Vec Ideal S512x512 .bf16) (r j : Fin 512) :
    k0_pay10 x g w b (ix2 r j) = avg (fun k : Fin 512 => k0_pay3 x g w (ix2 r ⟨k, by omega⟩)) (fun k => b (ix2 k j : S512x512.Idx)) j := by
  generalize e : k0_pay3 x g w = p
  unfold avg
  pointwise [k0_pay10, k0_pay9]
  rw [e]

theorem pay13_apply (p : FVec Ideal S512x2304 .f32) (b : FVec Ideal S512x512 .bf16)  (r : Fin 512) (j : Fin 128) :
    k0_pay13 p b (ix2 r j) = avg (fun k : Fin 128 => p (ix2 r ⟨512 + k, by omega⟩)) (fun k => b (ix2 ⟨k, by omega⟩ ⟨j, by omega⟩)) j := by
  unfold avg
  pointwise [k0_pay13]

/-- Which half of a rotation a column lies in: its place among 32 below 16, -/
theorem word32 : ∀ j : Fin 512, (IntOp.cmpi CmpIPredicate.slt (Scalar.select (IntOp.andi (IntOp.xori (IntOp.cmpi CmpIPredicate.slt
      (IntOp.remsi ArithUnit.vector (BitVec.ofNat 32 ↑j) (Scalar.select (Scalar.cmpi CmpIPredicate.eq 32#32 0#32) 1#32 32#32)) 0#32)
      (Scalar.cmpi CmpIPredicate.slt (Scalar.select (Scalar.cmpi CmpIPredicate.eq 32#32 0#32) 1#32 32#32) 0#32))
      (IntOp.cmpi CmpIPredicate.ne (IntOp.remsi ArithUnit.vector (BitVec.ofNat 32 ↑j) (Scalar.select (Scalar.cmpi CmpIPredicate.eq 32#32 0#32) 1#32 32#32)) 0#32))
      (IntOp.addi (IntOp.remsi ArithUnit.vector (BitVec.ofNat 32 ↑j) (Scalar.select (Scalar.cmpi CmpIPredicate.eq 32#32 0#32) 1#32 32#32))
      (Scalar.select (Scalar.cmpi CmpIPredicate.eq 32#32 0#32) 1#32 32#32))
      (IntOp.remsi ArithUnit.vector (BitVec.ofNat 32 ↑j) (Scalar.select (Scalar.cmpi CmpIPredicate.eq 32#32 0#32) 1#32 32#32))) 16#32 : BitVec 1)
    = if (j : Nat) % 64 % 32 < 16 then 1#1 else 0#1 := by decide +kernel
/-- or among 64 below 8. -/
theorem word64 : ∀ j : Fin 512, (IntOp.cmpi CmpIPredicate.slt (Scalar.select (IntOp.andi (IntOp.xori (IntOp.cmpi CmpIPredicate.slt
      (IntOp.remsi ArithUnit.vector (BitVec.ofNat 32 ↑j) (Scalar.select (Scalar.cmpi CmpIPredicate.eq 64#32 0#32) 1#32 64#32)) 0#32)
      (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 ↑j) (Scalar.select (Scalar.cmpi CmpIPredicate.eq 64#32 0#32) 1#32 64#32)) 0#32))
      (IntOp.addi (IntOp.remsi ArithUnit.vector (BitVec.ofNat 32 ↑j) (Scalar.select (Scalar.cmpi CmpIPredicate.eq 64#32 0#32) 1#32 64#32))
      (Scalar.select (Scalar.cmpi CmpIPredicate.eq 64#32 0#32) 1#32 64#32))
      (IntOp.remsi ArithUnit.vector (BitVec.ofNat 32 ↑j) (Scalar.select (Scalar.cmpi CmpIPredicate.eq 64#32 0#32) 1#32 64#32))) 8#32 : BitVec 1)
    = if (j : Nat) % 64 < 8 then 1#1 else 0#1 := by decide +kernel

/-- A head's entry turned: itself times `C`, and its partner 16 places on or back times `S`. -/
def turnA (y : Fin 64 → EReal) (C S : EReal) (d : Fin 64) : EReal :=
  y d * C + (if h : (d : Nat) % 32 < 16 then y ⟨d + 16, by omega⟩ else y ⟨d - 16, by omega⟩) * S
/-- The same with the partner 8 places on or back. -/
def turnB (y : Fin 64 → EReal) (C S : EReal) (d : Fin 64) : EReal :=
  y d * C + (if h : (d : Nat) < 8 then y ⟨d + 8, by omega⟩ else y ⟨d - 8, by omega⟩) * S

/-- The head of a column. -/
abbrev head {n : Nat} (j : Fin n) (hn : 64 ∣ n) (e : Fin 64) : Fin n := ⟨64 * (j / 64) + e, by omega⟩

theorem pickA {n : Nat} (hn : 64 ∣ n) (Y : Fin n → EReal) (w : BitVec 1) (j a b : Fin n) (hw : w = if (j : Nat) % 64 % 32 < 16 then 1#1 else 0#1)
    (ha : (j : Nat) % 64 % 32 < 16 → (a : Nat) = j + 16) (hb : ¬(j : Nat) % 64 % 32 < 16 → (b : Nat) + 16 = j) :
    Scalar.select w (Y a) (Y b) = if h : (j : Nat) % 64 % 32 < 16 then Y (head j hn ⟨j % 64 + 16, by omega⟩) else Y (head j hn ⟨j % 64 - 16, by omega⟩) := by
  subst hw
  by_cases c : (j : Nat) % 64 % 32 < 16
  · rw [if_pos c, dif_pos c]
    exact congrArg Y (Fin.ext (by have := ha c; simp only; omega))
  · rw [if_neg c, dif_neg c]
    exact congrArg Y (Fin.ext (by have := hb c; simp only; omega))

theorem pickB {n : Nat} (hn : 64 ∣ n) (Y : Fin n → EReal) (w : BitVec 1) (j a b : Fin n) (hw : w = if (j : Nat) % 64 < 8 then 1#1 else 0#1)
    (ha : (j : Nat) % 64 < 8 → (a : Nat) = j + 8) (hb : ¬(j : Nat) % 64 < 8 → (b : Nat) + 8 = j) :
    Scalar.select w (Y a) (Y b) = if h : (j : Nat) % 64 < 8 then Y (head j hn ⟨j % 64 + 8, by omega⟩) else Y (head j hn ⟨j % 64 - 8, by omega⟩) := by
  subst hw
  by_cases c : (j : Nat) % 64 < 8
  · rw [if_pos c, dif_pos c]
    exact congrArg Y (Fin.ext (by have := ha c; simp only; omega))
  · rw [if_neg c, dif_neg c]
    exact congrArg Y (Fin.ext (by have := hb c; simp only; omega))

theorem head_self {n : Nat} (hn : 64 ∣ n) (j : Fin n) : head j hn ⟨j % 64, by omega⟩ = j := Fin.ext (by simp only; omega)

/-- Four copies side by side. -/
theorem four (f : Fin 128 → EReal) (j : Fin 512) :
    (if h : (j : Nat) < 128 then f ⟨j, h⟩ else if h' : (j : Nat) - 128 < 128 then f ⟨j - 128, h'⟩
      else if h'' : (j : Nat) - 128 - 128 < 128 then f ⟨j - 128 - 128, h''⟩ else f ⟨j - 128 - 128 - 128, by omega⟩) = f ⟨j % 128, by omega⟩ := by
  split_ifs <;> exact congrArg f (Fin.ext (by simp only; omega))

theorem pay12_apply (c s : FVec Ideal S512x128 .f32) (q : FVec Ideal S512x512 .f32) (g : FVec Ideal S1x512 .f32) (r j : Fin 512) :
    k0_pay12 c s q g (ix2 r j) = turnA (fun e => q (ix2 r (head j (by decide) e)) * g (ix2 0 (head j (by decide) e)))
      (c (ix2 r ⟨j % 128, by omega⟩)) (s (ix2 r ⟨j % 128, by omega⟩)) ⟨j % 64, by omega⟩ := by
  unfold turnA
  simp only [head_self]
  pointwise [k0_pay12]
  refine congrArg₂ (fun a b : EReal => a + b) (congrArg (fun z : EReal => _ * z) (four (fun i => c (ix2 r i)) j)) (congrArg₂ (fun a b : EReal => a * b) ?_ (four (fun i => s (ix2 r i)) j))
  exact pickA (by decide) (fun i => q (ix2 r i) * g (ix2 0 i)) _ j ⟨(j + 512 - 496) % 512, by omega⟩ ⟨(j + 512 - 16) % 512, by omega⟩ (word32 j) (fun _ => by simp only; omega) (fun _ => by simp only; omega)

theorem pay14_apply (c s : FVec Ideal S512x128 .f32) (q : FVec Ideal S512x128 .f32) (g : FVec Ideal S1x128 .f32) (r : Fin 512) (j : Fin 128) :
    k0_pay14 c s q g (ix2 r j) = turnA (fun e => q (ix2 r (head j (by decide) e)) * g (ix2 0 (head j (by decide) e)))
      (c (ix2 r j)) (s (ix2 r j)) ⟨j % 64, by omega⟩ := by
  unfold turnA
  simp only [head_self]
  pointwise [k0_pay14]
  refine congrArg (fun b : EReal => _ + b) (congrArg (fun a : EReal => a * _) ?_)
  exact pickA (by decide) (fun i => q (ix2 r i) * g (ix2 0 i)) _ j ⟨(j + 128 - 112) % 128, by omega⟩ ⟨(j + 128 - 16) % 128, by omega⟩ (word32 ⟨j, by omega⟩) (fun _ => by simp only; omega) (fun _ => by simp only; omega)

theorem pay15_apply (p : FVec Ideal S512x2304 .f32)  (r : Fin 512) (j : Fin 128) :
    k0_pay15 p (ix3 0 j r) = p (ix2 r ⟨640 + j, by omega⟩) := by
  pointwise [k0_pay15]
theorem pay2_apply (p : FVec Ideal S512x2304 .f32)  (r : Fin 512) (j : Fin 512) :
    k0_pay2 p (ix3 0 j r) = p (ix2 r ⟨1792 + j, by omega⟩) := by
  pointwise [k0_pay2]

theorem pay18_apply (p : FVec Ideal S512x2304 .f32) (c s : FVec Ideal S512x128 .f32) (r : Fin 512) (j : Fin 512) :
    k0_pay18 s (k0_pay16 p) (k0_pay17 p c) (iota .tc S512x512 32 [1] iota_S512x512_d1_w32) 504#32 (ix2 r j)
      = turnB (fun e => p (ix2 r ⟨768 + (head j (by decide) e : Fin 512), by omega⟩)) (c (ix2 r ⟨j % 128, by omega⟩)) (s (ix2 r ⟨j % 128, by omega⟩)) ⟨j % 64, by omega⟩
        * (Named.named κ "q_scale" (1043900987#32 : BitVec (FTy.bits .f32)) : Ideal .f32) := by
  unfold turnB
  simp only [head_self]
  pointwise [k0_pay18, k0_pay16, k0_pay17]
  refine congrArg (fun a : EReal => a * _) ?_
  refine congrArg₂ (fun a b : EReal => a + b) (congrArg₂ (fun y z : EReal => y * z) ?_ (four (fun i => c (ix2 r i)) j)) (congrArg₂ (fun a b : EReal => a * b) ?_ (four (fun i => s (ix2 r i)) j))
  · exact congrArg (fun i : Fin 2304 => p (ix2 r i)) (Fin.ext (by simp only; omega))
  · exact pickB (by decide) (fun i => p (ix2 r ⟨768 + i, by omega⟩)) _ j ⟨(j + 512 - 504) % 512, by omega⟩ ⟨(j + 512 - 8) % 512, by omega⟩ (word64 j) (fun _ => by simp only; omega) (fun _ => by simp only; omega)

theorem pay1_apply (p : FVec Ideal S512x2304 .f32) (c s : FVec Ideal S512x128 .f32) (r : Fin 512) (j : Fin 512) :
    k0_pay1 s (k0_pay20 p c) (k0_pay21 p) (k0_pay22 p) (Scalar.select (Scalar.cmpi .eq 64#32 0#32) 1#32 64#32) k0_pay23 k0_pay24 k0_pay25 (ix2 r j)
      = turnB (fun e => p (ix2 r ⟨1280 + (head j (by decide) e : Fin 512), by omega⟩)) (c (ix2 r ⟨j % 128, by omega⟩)) (s (ix2 r ⟨j % 128, by omega⟩)) ⟨j % 64, by omega⟩ := by
  unfold turnB
  simp only [head_self]
  pointwise [k0_pay1, k0_pay20, k0_pay21, k0_pay22, k0_pay23, k0_pay24, k0_pay25, k0_pay19]
  refine congrArg₂ (fun a b : EReal => a + b) (congrArg₂ (fun y z : EReal => y * z) ?_ (four (fun i => c (ix2 r i)) j)) (congrArg₂ (fun a b : EReal => a * b) ?_ (four (fun i => s (ix2 r i)) j))
  · exact congrArg (fun i : Fin 2304 => p (ix2 r i)) (Fin.ext (by simp only; omega))
  · exact pickB (by decide) (fun i => p (ix2 r ⟨1280 + i, by omega⟩)) _ j ⟨(j + 512 - 504) % 512, by omega⟩ ⟨(j + 512 - 8) % 512, by omega⟩ (word64 j) (fun _ => by simp only; omega) (fun _ => by simp only; omega)

/-- The tables' columns: 128 each. -/
theorem pay5_apply (t : Vec Ideal S512x512 .f32) (r : Fin 512) (j : Fin 128) : k0_pay5 t (ix2 r j) = t (ix2 r ⟨j, by omega⟩ : S512x512.Idx) := by
  pointwise [k0_pay5, k0_pay4]
theorem pay6_apply (t : Vec Ideal S512x512 .f32) (r : Fin 512) (j : Fin 128) : k0_pay6 t (ix2 r j) = t (ix2 r ⟨128 + j, by omega⟩ : S512x512.Idx) := by
  pointwise [k0_pay6, k0_pay4]
theorem pay7_apply (t : Vec Ideal S512x512 .f32) (r : Fin 512) (j : Fin 128) : k0_pay7 t (ix2 r j) = t (ix2 r ⟨256 + j, by omega⟩ : S512x512.Idx) := by
  pointwise [k0_pay7, k0_pay4]
theorem pay8_apply (t : Vec Ideal S512x512 .f32) (r : Fin 512) (j : Fin 128) : k0_pay8 t (ix2 r j) = t (ix2 r ⟨384 + j, by omega⟩ : S512x512.Idx) := by
  pointwise [k0_pay8, k0_pay4]
theorem pay11_apply (g : Vec Ideal S1x512 .f32) (j : Fin 512) : k0_pay11 g (ix2 0 j) = g (ix2 0 j : S1x512.Idx) := by
  pointwise [k0_pay11]
theorem pay9_apply (b : Vec Ideal S512x512 .bf16) (i j : Fin 512) : k0_pay9 b (ix2 i j) = b (ix2 i j : S512x512.Idx) := by
  pointwise [k0_pay9]

variable (x : Vec Ideal S512x1024 .f32) (g : Vec Ideal S1x1024 .f32) (w : Vec Ideal S1024x2304 .bf16) (qg : Vec Ideal S1x512 .f32) (kg : Vec Ideal S1x128 .f32) (t : Vec Ideal S512x512 .f32)
  (b : Vec Ideal S512x512 .bf16)

theorem pay26_eq : k0_pay26 x g w qg kg t b = k0_pay3 x g w := by
  unfold k0_pay26
  rw [View.ld_unit_lit _ x (by decide), View.ld_unit_lit _ g (by decide), View.ld_unit_lit _ w (by decide)]
theorem pay27_eq : k0_pay27 x g w qg kg t b = k0_pay5 t := by
  unfold k0_pay27
  rw [View.ld_unit_lit _ t (by decide)]
theorem pay28_eq : k0_pay28 x g w qg kg t b = k0_pay6 t := by
  unfold k0_pay28
  rw [View.ld_unit_lit _ t (by decide)]
theorem pay29_eq : k0_pay29 x g w qg kg t b = k0_pay7 t := by
  unfold k0_pay29
  rw [View.ld_unit_lit _ t (by decide)]
theorem pay30_eq : k0_pay30 x g w qg kg t b = k0_pay8 t := by
  unfold k0_pay30
  rw [View.ld_unit_lit _ t (by decide)]

/-- What the body leaves, result by result. -/
theorem out7_eq : out0_7 x g w qg kg t b = k0_pay12 (k0_pay5 t) (k0_pay6 t) (k0_pay10 x g w b) (k0_pay11 qg) := by
  unfold out0_7
  rw [pay27_eq, pay28_eq, View.ld_unit_lit _ x (by decide), View.ld_unit_lit _ g (by decide), View.ld_unit_lit _ w (by decide), View.ld_unit_lit _ b (by decide), View.ld_unit_lit _ qg (by decide)]
  exact View.canon_cons_unit_lit _ _ _ (by decide)
theorem out8_eq : out0_8 x g w qg kg t b = k0_pay14 (k0_pay5 t) (k0_pay6 t) (k0_pay13 (k0_pay3 x g w) (k0_pay9 b)) kg := by
  unfold out0_8
  rw [pay26_eq, pay27_eq, pay28_eq, View.ld_unit_lit _ b (by decide), View.ld_unit_lit _ kg (by decide)]
  exact View.canon_cons_unit_lit _ _ _ (by decide)
theorem out9_eq : out0_9 x g w qg kg t b = k0_pay15 (k0_pay3 x g w) := by
  unfold out0_9
  rw [pay26_eq]
  exact View.canon_cons_unit_lit _ _ _ (by decide)
theorem out10_eq : out0_10 x g w qg kg t b = k0_pay18 (k0_pay8 t) (k0_pay16 (k0_pay3 x g w)) (k0_pay17 (k0_pay3 x g w) (k0_pay7 t)) (iota .tc S512x512 32 [1] iota_S512x512_d1_w32) 504#32 := by
  unfold out0_10
  rw [pay26_eq, pay29_eq, pay30_eq]
  exact View.canon_cons_unit_lit _ _ _ (by decide)
theorem out11_eq : out0_11 x g w qg kg t b = k0_pay1 (k0_pay8 t) (k0_pay20 (k0_pay3 x g w) (k0_pay7 t)) (k0_pay21 (k0_pay3 x g w)) (k0_pay22 (k0_pay3 x g w))
    (Scalar.select (Scalar.cmpi .eq 64#32 0#32) 1#32 64#32) k0_pay23 k0_pay24 k0_pay25 := by
  unfold out0_11
  rw [pay26_eq, pay29_eq, pay30_eq]
  exact View.canon_cons_unit_lit _ _ _ (by decide)
theorem out12_eq : out0_12 x g w qg kg t b = k0_pay2 (k0_pay3 x g w) := by
  unfold out0_12
  rw [pay26_eq]
  exact View.canon_cons_unit_lit _ _ _ (by decide)

end Cert.Kernel4Ideal.Hand

end
-- ==== Proof.Ref4.lean ====
/- The fourth call's reference, read cell by cell. -/
module

public import proofs.«01_k».proof.Proof.Gen.Reference4Ideal.Run
public import proofs.«01_k».proof.Proof.Proj

@[expose] public section

set_option maxRecDepth 16384

noncomputable section

namespace Cert.Reference4Ideal.Hand

open Idealize.ShloMosaic Idealize.ShloMosaic.TcCoe Idealize.SL.Sem
open Cert.Reference4Ideal Cert.Reference4Ideal.Gen
open Cert.Kernel3Ideal.Hand (nrm)
open Cert.Kernel4Ideal.Hand (prj)

/-- The projections of the normed rows. -/
def proj (x : FVec Ideal S16384x1024 .f32) (g : FVec Ideal S1x1024 .f32) (w : FVec Ideal S1024x2304 .bf16) : FVec Ideal S16384x2304 .f32 :=
  Host.dotGeneral dot_S16384x1024_S1024x2304_S16384x2304_1_0_0_1_n_n none (truncf .bf16 (mulf (mulf x (broadcastInDim S16384x1024 ![0, 1] bcast_S16384x1_S16384x1024_0_1
    (Host.rsqrt (addf (Host.divf (broadcastInDim S16384x1 ![0] bcast_S16384_S16384x1_0 (Host.reduceAdd (mulf x x) (constant S_ .f32 0x00000000#32) reducesTo_S16384x1024_S16384_d1 h_S_))
      (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast S1024 g shapeCasts_S1x1024_S1024)))) bitsLt_bf16_f32) w

theorem proj_apply (x : FVec Ideal S16384x1024 .f32) (g : FVec Ideal S1x1024 .f32) (w : FVec Ideal S1024x2304 .bf16) (r : Fin 16384) (j : Fin 2304) :
    proj x g w (ix2 r j) = prj (fun i => x (ix2 r i)) (fun i => g (ix2 0 i)) (fun k => w (ix2 k j)) := by
  unfold prj nrm
  pointwise [proj]

/-- A cell of a head's norm. -/
def nrm64 (y : Fin 64 → EReal) (g : EReal) (d : Fin 64) : EReal :=
  y d * Ideal.rsqrt (Ideal.div (∑ x : Fin 64, y x * y x) (Ideal.ofBits .f32 0x42800000#32) + Ideal.ofBits .f32 0x358637BD#32) * g

/-- A cell of a head turned by the angles of its row and column, from their cosines and sines. -/
def ax (y : Fin 64 → EReal) (cr sr cc sc : Fin 16 → EReal) (d : Fin 64) : EReal :=
  if h : (d : Nat) < 32 then
    if h' : (d : Nat) < 16 then y ⟨d, by omega⟩ * cr ⟨d, h'⟩ - y ⟨16 + d, by omega⟩ * sr ⟨d, h'⟩
    else y ⟨16 + (d - 16), by omega⟩ * cr ⟨d - 16, by omega⟩ + y ⟨d - 16, by omega⟩ * sr ⟨d - 16, by omega⟩
  else
    if h' : (d : Nat) - 32 < 16 then y ⟨32 + (d - 32), by omega⟩ * cc ⟨d - 32, h'⟩ - y ⟨32 + (16 + (d - 32)), by omega⟩ * sc ⟨d - 32, h'⟩
    else y ⟨32 + (16 + (d - 32 - 16)), by omega⟩ * cc ⟨d - 32 - 16, by omega⟩ + y ⟨32 + (d - 32 - 16), by omega⟩ * sc ⟨d - 32 - 16, by omega⟩

/-- A cell of a head whose first 16 entries are turned by the angles of its place. -/
def pt (y : Fin 64 → EReal) (cp sp : Fin 8 → EReal) (d : Fin 64) : EReal :=
  if h : (d : Nat) < 16 then
    if h' : (d : Nat) < 8 then y ⟨d, by omega⟩ * cp ⟨d, h'⟩ - y ⟨8 + d, by omega⟩ * sp ⟨d, h'⟩
    else y ⟨8 + (d - 8), by omega⟩ * cp ⟨d - 8, by omega⟩ + y ⟨d - 8, by omega⟩ * sp ⟨d - 8, by omega⟩
  else y ⟨16 + (d - 16), by omega⟩

/-- The scale of the queries. -/
def sc8 (a : EReal) : EReal := Ideal.div (a * Ideal.ofBits .f32 0x3E000000#32) (Ideal.log (Ideal.ofBits .f32 0x40000000#32))

/-- The columns of 8 heads from column `o` on, head by head. -/
def heads8 (o : Nat) (ho : S16384x2304.Slices ![0, o] S16384x512) (p : FVec Ideal S16384x2304 .f32) : FVec Ideal S16384x8x64 .f32 :=
  shapeCast S16384x8x64 (extractStridedSlice S16384x512 ![0, o] p ho) shapeCasts_S16384x512_S16384x8x64

theorem heads8_apply (o : Nat) (ho : S16384x2304.Slices ![0, o] S16384x512) (l : o + 512 ≤ 2304) (p : FVec Ideal S16384x2304 .f32) (r : Fin 16384) (h : Fin 8) (d : Fin 64) :
    heads8 o ho p (ix3 r h d) = p (ix2 r ⟨o + (h * 64 + d), by omega⟩) := by
  pointwise [heads8]

/-- The norm of 8 heads. -/
def norm8 (y : FVec Ideal S16384x8x64 .f32) (g : FVec Ideal S1x64 .f32) : FVec Ideal S16384x8x64 .f32 :=
  mulf (mulf y (broadcastInDim S16384x8x64 ![0, 1, 2] bcast_S16384x8x1_S16384x8x64_0_1_2 (Host.rsqrt (addf (Host.divf (broadcastInDim S16384x8x1 ![0, 1] bcast_S16384x8_S16384x8x1_0_1
    (Host.reduceAdd (mulf y y) (constant S_ .f32 0x00000000#32) reducesTo_S16384x8x64_S16384x8_d2 h_S_)) (broadcastInDim S16384x8x1 ![] bcast_S_S16384x8x1 (constant S_ .f32 0x42800000#32)))
    (broadcastInDim S16384x8x1 ![] bcast_S_S16384x8x1 (constant S_ .f32 0x358637BD#32))))))
    (broadcastInDim S16384x8x64 ![0, 1, 2] bcast_S1x1x64_S16384x8x64_0_1_2 (broadcastInDim S1x1x64 ![2] bcast_S64_S1x1x64_2 (shapeCast S64 g shapeCasts_S1x64_S64)))

theorem norm8_apply (y : FVec Ideal S16384x8x64 .f32) (g : FVec Ideal S1x64 .f32) (r : Fin 16384) (h : Fin 8) (d : Fin 64) :
    norm8 y g (ix3 r h d) = nrm64 (fun e => y (ix3 r h e)) (g (ix2 0 d)) d := by
  unfold nrm64
  pointwise [norm8]

/-- The first 16 entries of 32 less the last, turned. -/
def lo8 (y : FVec Ideal S16384x8x32 .f32) (c s : FVec Ideal S16384x16 .f32) : FVec Ideal S16384x8x32 .f32 :=
  concatenate S16384x8x32 2 [
    ⟨S16384x8x16, (subf (mulf (extractStridedSlice S16384x8x16 ![0, 0, 0] y slices_S16384x8x32_S16384x8x16_0_0_0) (broadcastInDim S16384x8x16 ![0, 1, 2] bcast_S16384x1x16_S16384x8x16_0_1_2 (broadcastInDim S16384x1x16 ![0, 2] bcast_S16384x16_S16384x1x16_0_2 c)))
      (mulf (extractStridedSlice S16384x8x16 ![0, 0, 16] y slices_S16384x8x32_S16384x8x16_0_0_16) (broadcastInDim S16384x8x16 ![0, 1, 2] bcast_S16384x1x16_S16384x8x16_0_1_2 (broadcastInDim S16384x1x16 ![0, 2] bcast_S16384x16_S16384x1x16_0_2 s))))⟩,
    ⟨S16384x8x16, (addf (mulf (extractStridedSlice S16384x8x16 ![0, 0, 16] y slices_S16384x8x32_S16384x8x16_0_0_16) (broadcastInDim S16384x8x16 ![0, 1, 2] bcast_S16384x1x16_S16384x8x16_0_1_2 (broadcastInDim S16384x1x16 ![0, 2] bcast_S16384x16_S16384x1x16_0_2 c)))
      (mulf (extractStridedSlice S16384x8x16 ![0, 0, 0] y slices_S16384x8x32_S16384x8x16_0_0_0) (broadcastInDim S16384x8x16 ![0, 1, 2] bcast_S16384x1x16_S16384x8x16_0_1_2 (broadcastInDim S16384x1x16 ![0, 2] bcast_S16384x16_S16384x1x16_0_2 s))))⟩]
    concatenates_S16384x8x16_S16384x8x16_S16384x8x32_d2

/-- Heads turned by the angles of their rows and columns. -/
def axial8 (y : FVec Ideal S16384x8x64 .f32) (cr sr cc sc : FVec Ideal S16384x16 .f32) : FVec Ideal S16384x8x64 .f32 :=
  concatenate S16384x8x64 2 [⟨S16384x8x32, lo8 (extractStridedSlice S16384x8x32 ![0, 0, 0] y slices_S16384x8x64_S16384x8x32_0_0_0) cr sr⟩,
    ⟨S16384x8x32, lo8 (extractStridedSlice S16384x8x32 ![0, 0, 32] y slices_S16384x8x64_S16384x8x32_0_0_32) cc sc⟩] concatenates_S16384x8x32_S16384x8x32_S16384x8x64_d2

theorem axial8_apply (y : FVec Ideal S16384x8x64 .f32) (cr sr cc sc : FVec Ideal S16384x16 .f32) (r : Fin 16384) (h : Fin 8) (d : Fin 64) :
    axial8 y cr sr cc sc (ix3 r h d) = ax (fun e => y (ix3 r h e)) (fun i => cr (ix2 r i)) (fun i => sr (ix2 r i)) (fun i => cc (ix2 r i)) (fun i => sc (ix2 r i)) d := by
  unfold ax
  pointwise [axial8, lo8]

/-- Heads side by side again. -/
def flat8 (y : FVec Ideal S16384x8x64 .f32) : FVec Ideal S16384x512 .bf16 :=
  truncf .bf16 (shapeCast S16384x512 y shapeCasts_S16384x8x64_S16384x512) bitsLt_bf16_f32

theorem flat8_apply (y : FVec Ideal S16384x8x64 .f32) (r : Fin 16384) (j : Fin 512) : flat8 y (ix2 r j) = y (ix3 r ⟨j / 64, by omega⟩ ⟨j % 64, by omega⟩) := by
  pointwise [flat8]

/-- The columns of 2 heads from column `o` on, head by head. -/
def heads2 (o : Nat) (ho : S16384x2304.Slices ![0, o] S16384x128) (p : FVec Ideal S16384x2304 .f32) : FVec Ideal S16384x2x64 .f32 :=
  shapeCast S16384x2x64 (extractStridedSlice S16384x128 ![0, o] p ho) shapeCasts_S16384x128_S16384x2x64

theorem heads2_apply (o : Nat) (ho : S16384x2304.Slices ![0, o] S16384x128) (l : o + 128 ≤ 2304) (p : FVec Ideal S16384x2304 .f32) (r : Fin 16384) (h : Fin 2) (d : Fin 64) :
    heads2 o ho p (ix3 r h d) = p (ix2 r ⟨o + (h * 64 + d), by omega⟩) := by
  pointwise [heads2]

/-- The norm of 2 heads. -/
def norm2 (y : FVec Ideal S16384x2x64 .f32) (g : FVec Ideal S1x64 .f32) : FVec Ideal S16384x2x64 .f32 :=
  mulf (mulf y (broadcastInDim S16384x2x64 ![0, 1, 2] bcast_S16384x2x1_S16384x2x64_0_1_2 (Host.rsqrt (addf (Host.divf (broadcastInDim S16384x2x1 ![0, 1] bcast_S16384x2_S16384x2x1_0_1
    (Host.reduceAdd (mulf y y) (constant S_ .f32 0x00000000#32) reducesTo_S16384x2x64_S16384x2_d2 h_S_)) (broadcastInDim S16384x2x1 ![] bcast_S_S16384x2x1 (constant S_ .f32 0x42800000#32)))
    (broadcastInDim S16384x2x1 ![] bcast_S_S16384x2x1 (constant S_ .f32 0x358637BD#32))))))
    (broadcastInDim S16384x2x64 ![0, 1, 2] bcast_S1x1x64_S16384x2x64_0_1_2 (broadcastInDim S1x1x64 ![2] bcast_S64_S1x1x64_2 (shapeCast S64 g shapeCasts_S1x64_S64)))

theorem norm2_apply (y : FVec Ideal S16384x2x64 .f32) (g : FVec Ideal S1x64 .f32) (r : Fin 16384) (h : Fin 2) (d : Fin 64) :
    norm2 y g (ix3 r h d) = nrm64 (fun e => y (ix3 r h e)) (g (ix2 0 d)) d := by
  unfold nrm64
  pointwise [norm2]

/-- The first 16 entries of 32 less the last, turned. -/
def lo2 (y : FVec Ideal S16384x2x32 .f32) (c s : FVec Ideal S16384x16 .f32) : FVec Ideal S16384x2x32 .f32 :=
  concatenate S16384x2x32 2 [
    ⟨S16384x2x16, (subf (mulf (extractStridedSlice S16384x2x16 ![0, 0, 0] y slices_S16384x2x32_S16384x2x16_0_0_0) (broadcastInDim S16384x2x16 ![0, 1, 2] bcast_S16384x1x16_S16384x2x16_0_1_2 (broadcastInDim S16384x1x16 ![0, 2] bcast_S16384x16_S16384x1x16_0_2 c)))
      (mulf (extractStridedSlice S16384x2x16 ![0, 0, 16] y slices_S16384x2x32_S16384x2x16_0_0_16) (broadcastInDim S16384x2x16 ![0, 1, 2] bcast_S16384x1x16_S16384x2x16_0_1_2 (broadcastInDim S16384x1x16 ![0, 2] bcast_S16384x16_S16384x1x16_0_2 s))))⟩,
    ⟨S16384x2x16, (addf (mulf (extractStridedSlice S16384x2x16 ![0, 0, 16] y slices_S16384x2x32_S16384x2x16_0_0_16) (broadcastInDim S16384x2x16 ![0, 1, 2] bcast_S16384x1x16_S16384x2x16_0_1_2 (broadcastInDim S16384x1x16 ![0, 2] bcast_S16384x16_S16384x1x16_0_2 c)))
      (mulf (extractStridedSlice S16384x2x16 ![0, 0, 0] y slices_S16384x2x32_S16384x2x16_0_0_0) (broadcastInDim S16384x2x16 ![0, 1, 2] bcast_S16384x1x16_S16384x2x16_0_1_2 (broadcastInDim S16384x1x16 ![0, 2] bcast_S16384x16_S16384x1x16_0_2 s))))⟩]
    concatenates_S16384x2x16_S16384x2x16_S16384x2x32_d2

/-- Heads turned by the angles of their rows and columns. -/
def axial2 (y : FVec Ideal S16384x2x64 .f32) (cr sr cc sc : FVec Ideal S16384x16 .f32) : FVec Ideal S16384x2x64 .f32 :=
  concatenate S16384x2x64 2 [⟨S16384x2x32, lo2 (extractStridedSlice S16384x2x32 ![0, 0, 0] y slices_S16384x2x64_S16384x2x32_0_0_0) cr sr⟩,
    ⟨S16384x2x32, lo2 (extractStridedSlice S16384x2x32 ![0, 0, 32] y slices_S16384x2x64_S16384x2x32_0_0_32) cc sc⟩] concatenates_S16384x2x32_S16384x2x32_S16384x2x64_d2

theorem axial2_apply (y : FVec Ideal S16384x2x64 .f32) (cr sr cc sc : FVec Ideal S16384x16 .f32) (r : Fin 16384) (h : Fin 2) (d : Fin 64) :
    axial2 y cr sr cc sc (ix3 r h d) = ax (fun e => y (ix3 r h e)) (fun i => cr (ix2 r i)) (fun i => sr (ix2 r i)) (fun i => cc (ix2 r i)) (fun i => sc (ix2 r i)) d := by
  unfold ax
  pointwise [axial2, lo2]

/-- Heads side by side again. -/
def flat2 (y : FVec Ideal S16384x2x64 .f32) : FVec Ideal S16384x128 .bf16 :=
  truncf .bf16 (shapeCast S16384x128 y shapeCasts_S16384x2x64_S16384x128) bitsLt_bf16_f32

theorem flat2_apply (y : FVec Ideal S16384x2x64 .f32) (r : Fin 16384) (j : Fin 128) : flat2 y (ix2 r j) = y (ix3 r ⟨j / 64, by omega⟩ ⟨j % 64, by omega⟩) := by
  pointwise [flat2]

/-- Heads whose first 16 entries are turned by the angles of their places. -/
def partial8 (y : FVec Ideal S16384x8x64 .f32) (c s : FVec Ideal S16384x8 .f32) : FVec Ideal S16384x8x64 .f32 :=
  concatenate S16384x8x64 2 [⟨S16384x8x16, concatenate S16384x8x16 2 [
    ⟨S16384x8x8, (subf (mulf (extractStridedSlice S16384x8x8 ![0, 0, 0] (extractStridedSlice S16384x8x16 ![0, 0, 0] y slices_S16384x8x64_S16384x8x16_0_0_0) slices_S16384x8x16_S16384x8x8_0_0_0) (broadcastInDim S16384x8x8 ![0, 1, 2] bcast_S16384x1x8_S16384x8x8_0_1_2 (broadcastInDim S16384x1x8 ![0, 2] bcast_S16384x8_S16384x1x8_0_2 c)))
      (mulf (extractStridedSlice S16384x8x8 ![0, 0, 8] (extractStridedSlice S16384x8x16 ![0, 0, 0] y slices_S16384x8x64_S16384x8x16_0_0_0) slices_S16384x8x16_S16384x8x8_0_0_8) (broadcastInDim S16384x8x8 ![0, 1, 2] bcast_S16384x1x8_S16384x8x8_0_1_2 (broadcastInDim S16384x1x8 ![0, 2] bcast_S16384x8_S16384x1x8_0_2 s))))⟩,
    ⟨S16384x8x8, (addf (mulf (extractStridedSlice S16384x8x8 ![0, 0, 8] (extractStridedSlice S16384x8x16 ![0, 0, 0] y slices_S16384x8x64_S16384x8x16_0_0_0) slices_S16384x8x16_S16384x8x8_0_0_8) (broadcastInDim S16384x8x8 ![0, 1, 2] bcast_S16384x1x8_S16384x8x8_0_1_2 (broadcastInDim S16384x1x8 ![0, 2] bcast_S16384x8_S16384x1x8_0_2 c)))
      (mulf (extractStridedSlice S16384x8x8 ![0, 0, 0] (extractStridedSlice S16384x8x16 ![0, 0, 0] y slices_S16384x8x64_S16384x8x16_0_0_0) slices_S16384x8x16_S16384x8x8_0_0_0) (broadcastInDim S16384x8x8 ![0, 1, 2] bcast_S16384x1x8_S16384x8x8_0_1_2 (broadcastInDim S16384x1x8 ![0, 2] bcast_S16384x8_S16384x1x8_0_2 s))))⟩]
    concatenates_S16384x8x8_S16384x8x8_S16384x8x16_d2⟩,
    ⟨S16384x8x48, extractStridedSlice S16384x8x48 ![0, 0, 16] y slices_S16384x8x64_S16384x8x48_0_0_16⟩] concatenates_S16384x8x16_S16384x8x48_S16384x8x64_d2

theorem partial8_apply (y : FVec Ideal S16384x8x64 .f32) (c s : FVec Ideal S16384x8 .f32) (r : Fin 16384) (h : Fin 8) (d : Fin 64) :
    partial8 y c s (ix3 r h d) = pt (fun e => y (ix3 r h e)) (fun i => c (ix2 r i)) (fun i => s (ix2 r i)) d := by
  unfold pt
  pointwise [partial8]

/-- The scaled queries. -/
def scale8 (y : FVec Ideal S16384x8x64 .f32) : FVec Ideal S16384x8x64 .f32 :=
  Host.divf (mulf y (broadcastInDim S16384x8x64 ![] bcast_S_S16384x8x64 (constant S_ .f32 0x3E000000#32))) (broadcastInDim S16384x8x64 ![] bcast_S_S16384x8x64 (Host.log (constant S_ .f32 0x40000000#32)))

theorem scale8_apply (y : FVec Ideal S16384x8x64 .f32) (r : Fin 16384) (h : Fin 8) (d : Fin 64) : scale8 y (ix3 r h d) = sc8 (y (ix3 r h d)) := by
  unfold sc8
  pointwise [scale8]

/-- The values of the first attention, in slabs of 512 rows, -/
def slabA (p : FVec Ideal S16384x2304 .f32) : FVec Ideal S32x128x512 .bf16 :=
  transpose S32x128x512 [0, 2, 1] (shapeCast S32x512x128 (truncf .bf16 (extractStridedSlice S16384x128 ![0, 640] p slices_S16384x2304_S16384x128_0_640) bitsLt_bf16_f32 : FVec Ideal S16384x128 .bf16) shapeCasts_S16384x128_S32x512x128) transposes_S32x512x128_S32x128x512_0_2_1
/-- and of the second. -/
def slabB (p : FVec Ideal S16384x2304 .f32) : FVec Ideal S32x512x512 .bf16 :=
  transpose S32x512x512 [0, 2, 1] (shapeCast S32x512x512 (truncf .bf16 (extractStridedSlice S16384x512 ![0, 1792] p slices_S16384x2304_S16384x512_0_1792) bitsLt_bf16_f32 : FVec Ideal S16384x512 .bf16) shapeCasts_S16384x512_S32x512x512) transposes_S32x512x512_S32x512x512_0_2_1

theorem slabA_apply (p : FVec Ideal S16384x2304 .f32) (a : Fin 32) (j : Fin 128) (r : Fin 512) : slabA p (ix3 a j r) = p (ix2 ⟨a * 512 + r, by omega⟩ ⟨640 + j, by omega⟩) := by
  pointwise [slabA]
theorem slabB_apply (p : FVec Ideal S16384x2304 .f32) (a : Fin 32) (j : Fin 512) (r : Fin 512) : slabB p (ix3 a j r) = p (ix2 ⟨a * 512 + r, by omega⟩ ⟨1792 + j, by omega⟩) := by
  pointwise [slabB]

/-- The six results, from the arguments. -/
def QA (x : FVec Ideal S16384x1024 .f32) (g : FVec Ideal S1x1024 .f32) (w : FVec Ideal S1024x2304 .bf16) (q : FVec Ideal S1x64 .f32) (ra ca : FVec Ideal S16384x16 .f32) : FVec Ideal S16384x512 .bf16 :=
  flat8 (scale8 (axial8 (norm8 (heads8 0 slices_S16384x2304_S16384x512_0_0 (proj x g w)) q) (Host.cos ra) (Host.sin ra) (Host.cos ca) (Host.sin ca)))
def KA (x : FVec Ideal S16384x1024 .f32) (g : FVec Ideal S1x1024 .f32) (w : FVec Ideal S1024x2304 .bf16) (k : FVec Ideal S1x64 .f32) (ra ca : FVec Ideal S16384x16 .f32) : FVec Ideal S16384x128 .bf16 :=
  flat2 (axial2 (norm2 (heads2 512 slices_S16384x2304_S16384x128_0_512 (proj x g w)) k) (Host.cos ra) (Host.sin ra) (Host.cos ca) (Host.sin ca))
def QB (x : FVec Ideal S16384x1024 .f32) (g : FVec Ideal S1x1024 .f32) (w : FVec Ideal S1024x2304 .bf16) (pa : FVec Ideal S16384x8 .f32) : FVec Ideal S16384x512 .bf16 :=
  flat8 (scale8 (partial8 (heads8 768 slices_S16384x2304_S16384x512_0_768 (proj x g w)) (Host.cos pa) (Host.sin pa)))
def KB (x : FVec Ideal S16384x1024 .f32) (g : FVec Ideal S1x1024 .f32) (w : FVec Ideal S1024x2304 .bf16) (pa : FVec Ideal S16384x8 .f32) : FVec Ideal S16384x512 .bf16 :=
  flat8 (partial8 (heads8 1280 slices_S16384x2304_S16384x512_0_1280 (proj x g w)) (Host.cos pa) (Host.sin pa))

/-- The reference's run, its six results by these names. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v182) = QA (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg5)) (m ((c.tc : Thread nD τ).loc main_arg6))
      ∧ r.2.mem ((c.tc : Thread nD τ).loc main_v183) = KA (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6))
      ∧ r.2.mem ((c.tc : Thread nD τ).loc main_v186) = slabA (proj (m ((c.tc : Thread nD τ).loc main_arg0)) (m ((c.tc : Thread nD τ).loc main_arg1)) (m ((c.tc : Thread nD τ).loc main_arg2)))
      ∧ r.2.mem ((c.tc : Thread nD τ).loc main_v187) = QB (m ((c.tc : Thread nD τ).loc main_arg0)) (m ((c.tc : Thread nD τ).loc main_arg1)) (m ((c.tc : Thread nD τ).loc main_arg2))
        (m ((c.tc : Thread nD τ).loc main_arg7))
      ∧ r.2.mem ((c.tc : Thread nD τ).loc main_v188) = KB (m ((c.tc : Thread nD τ).loc main_arg0)) (m ((c.tc : Thread nD τ).loc main_arg1)) (m ((c.tc : Thread nD τ).loc main_arg2))
        (m ((c.tc : Thread nD τ).loc main_arg7))
      ∧ r.2.mem ((c.tc : Thread nD τ).loc main_v191) = slabB (proj (m ((c.tc : Thread nD τ).loc main_arg0)) (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.Reference4Ideal.Value.run (F := Ideal) m ρ

end Cert.Reference4Ideal.Hand

end
-- ==== Proof.Turn.lean ====
/- The fourth call's mathematics: the averaged norm, the rotations and the scale, on extended reals. -/
module

public import proofs.«01_k».proof.Proof.Ref4
public import proofs.«01_k».proof.Proof.Out

@[expose] public section

set_option maxRecDepth 16384

noncomputable section

namespace Cert.Kernel4Ideal.Hand

open Idealize.ShloMosaic
open Cert.Kernel3Ideal.Hand (nrm)
open Cert.Attn (coe_sum)
open Cert.Reference4Ideal.Hand (nrm64 ax pt sc8)

/-- The tables' columns: cosines of the row and the column, -/
def cA (cr cc : Fin 16 → EReal) (d : Fin 64) : EReal := if (d : Nat) < 32 then cr ⟨d % 16, by omega⟩ else cc ⟨d % 16, by omega⟩
/-- sines, those of a first half with their signs turned, -/
def sA (sr sc : Fin 16 → EReal) (d : Fin 64) : EReal :=
  if (d : Nat) < 32 then if (d : Nat) < 16 then -sr ⟨d % 16, by omega⟩ else sr ⟨d % 16, by omega⟩
  else if (d : Nat) < 48 then -sc ⟨d % 16, by omega⟩ else sc ⟨d % 16, by omega⟩
/-- and those of the place, then ones and zeros. -/
def cB (cp : Fin 8 → EReal) (d : Fin 64) : EReal := if (d : Nat) < 16 then cp ⟨d % 8, by omega⟩ else 1
def sB (sp : Fin 8 → EReal) (d : Fin 64) : EReal := if (d : Nat) < 16 then if (d : Nat) < 8 then -sp ⟨d % 8, by omega⟩ else sp ⟨d % 8, by omega⟩ else 0

theorem less {a a' c c' b b' s s' : EReal} (ha : a = a') (hc : c = c') (hb : b = b') (hs : s = s') : a * c + b * -s = a' * c' - b' * s' := by
  subst ha hc hb hs
  rw [mul_neg, sub_eq_add_neg]
theorem plus {a a' c c' b b' s s' : EReal} (ha : a = a') (hc : c = c') (hb : b = b') (hs : s = s') : a * c + b * s = a' * c' + b' * s' := by
  subst ha hc hb hs
  rfl

theorem turnA_eq (y : Fin 64 → EReal) (cr sr cc sc : Fin 16 → EReal) (d : Fin 64) : turnA y (cA cr cc d) (sA sr sc d) d = ax y cr sr cc sc d := by
  unfold turnA cA sA ax
  split_ifs <;> first
    | (exfalso; omega)
    | exact less (congrArg _ (Fin.ext (by first | rfl | (simp only; omega)))) (congrArg _ (Fin.ext (by first | rfl | (simp only; omega))))
        (congrArg _ (Fin.ext (by first | rfl | (simp only; omega)))) (congrArg _ (Fin.ext (by first | rfl | (simp only; omega))))
    | exact plus (congrArg _ (Fin.ext (by first | rfl | (simp only; omega)))) (congrArg _ (Fin.ext (by first | rfl | (simp only; omega))))
        (congrArg _ (Fin.ext (by first | rfl | (simp only; omega)))) (congrArg _ (Fin.ext (by first | rfl | (simp only; omega))))

theorem turnB_eq (y : Fin 64 → EReal) (cp sp : Fin 8 → EReal) (d : Fin 64) : turnB y (cB cp d) (sB sp d) d = pt y cp sp d := by
  unfold turnB cB sB pt
  split_ifs <;> first
    | (exfalso; omega)
    | exact less (congrArg _ (Fin.ext (by first | rfl | (simp only; omega)))) (congrArg _ (Fin.ext (by first | rfl | (simp only; omega))))
        (congrArg _ (Fin.ext (by first | rfl | (simp only; omega)))) (congrArg _ (Fin.ext (by first | rfl | (simp only; omega))))
    | exact plus (congrArg _ (Fin.ext (by first | rfl | (simp only; omega)))) (congrArg _ (Fin.ext (by first | rfl | (simp only; omega))))
        (congrArg _ (Fin.ext (by first | rfl | (simp only; omega)))) (congrArg _ (Fin.ext (by first | rfl | (simp only; omega))))
    | (rw [mul_one, mul_zero, add_zero]; exact congrArg _ (Fin.ext (by simp only; omega)))

/-- The queries' scale as a number. -/
def K : ℝ := (Real.log 256)⁻¹

theorem K_pos : 0 ≤ K := inv_nonneg.mpr (Real.log_nonneg (by norm_num))

theorem sc8_eq (a : EReal) : sc8 a = a * (K : EReal) := by
  have h8 : Ideal.ofBits .f32 0x3E000000#32 = (((1 / 8 : ℝ)) : EReal) := by
    have e : Ideal.ofBits .f32 0x3E000000#32 = ((8388608 : ℝ) : EReal) * (((2 ^ 26 : ℝ)⁻¹ : ℝ) : EReal) := by simp [Ideal.ofBits, Ideal.ieee]
    rw [e, ← EReal.coe_mul]
    norm_num
  have h2 : Ideal.ofBits .f32 0x40000000#32 = ((2 : ℝ) : EReal) := by
    have e : Ideal.ofBits .f32 0x40000000#32 = ((8388608 : ℝ) : EReal) * (((2 ^ 22 : ℝ)⁻¹ : ℝ) : EReal) := by simp [Ideal.ofBits, Ideal.ieee]
    rw [e, ← EReal.coe_mul]
    norm_num
  have hl : Ideal.log ((2 : ℝ) : EReal) = (Real.log 2 : EReal) := by
    show (if (2 : ℝ) ≤ 0 then (⊥ : EReal) else (Real.log 2 : EReal)) = _
    rw [if_neg (by norm_num)]
  have hp : Real.log 2 ≠ 0 := (Real.log_pos (by norm_num)).ne'
  unfold sc8 Ideal.div
  rw [h8, h2, hl, if_neg (by exact_mod_cast hp), ← EReal.coe_inv, mul_assoc, ← EReal.coe_mul]
  unfold K
  rw [show (256 : ℝ) = 2 ^ 8 from by norm_num, Real.log_pow]
  congr 2
  push_cast
  field_simp

theorem turnA_scale (y : Fin 64 → EReal) (C S : EReal) (d : Fin 64) : turnA (fun e => y e * (K : EReal)) C S d = turnA y C S d * (K : EReal) := by
  have k : (0 : EReal) ≤ (K : EReal) := by exact_mod_cast K_pos
  unfold turnA
  rw [EReal.right_distrib_of_nonneg_of_ne_top k (EReal.coe_ne_top K)]
  split_ifs <;> exact congrArg₂ (fun a b : EReal => a + b) (mul_right_comm _ _ _) (mul_right_comm _ _ _)

theorem rsqrt_pos {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg h.le.not_gt, if_neg h.ne']

/-- A normed cell before its gain is a number, whatever the row holds. -/
theorem nrm_real (h : Fin 1024 → EReal) (g : EReal) (hg : ∃ a : ℝ, g = (a : EReal)) (j : Fin 1024) : ∃ a : ℝ, nrm h g j = (a : EReal) := by
  obtain ⟨γ, rfl⟩ := hg
  have hn : Ideal.ofBits .f32 0x44800000#32 = ((1024 : ℝ) : EReal) := by
    have e : Ideal.ofBits .f32 0x44800000#32 = ((8388608 : ℝ) : EReal) * (((2 ^ 13 : ℝ)⁻¹ : ℝ) : EReal) := by simp [Ideal.ofBits, Ideal.ieee]
    rw [e, ← EReal.coe_mul]
    norm_num
  have he : ∃ ε : ℝ, 0 < ε ∧ Ideal.ofBits .f32 0x358637BD#32 = (ε : EReal) := by
    have e : Ideal.ofBits .f32 0x358637BD#32 = ((8796093 : ℝ) : EReal) * (((2 ^ 43 : ℝ)⁻¹ : ℝ) : EReal) := by simp [Ideal.ofBits, Ideal.ieee]
    exact ⟨8796093 * (2 ^ 43)⁻¹, by positivity, by rw [e, ← EReal.coe_mul]⟩
  obtain ⟨ε, hε, he⟩ := he
  have h1 : ((1024 : ℝ) : EReal) ≠ 0 := by exact_mod_cast (by norm_num : (1024 : ℝ) ≠ 0)
  unfold nrm Ideal.div
  rw [hn, he, if_neg h1, ← EReal.coe_inv]
  by_cases hr : ∀ i, ∃ a : ℝ, h i = (a : EReal)
  · choose x hx using hr
    simp only [hx, ← EReal.coe_mul, ← coe_sum, ← EReal.coe_add]
    have p : 0 < (∑ i, x i * x i) * (1024 : ℝ)⁻¹ + ε := by
      have : 0 ≤ ∑ i, x i * x i := Finset.sum_nonneg fun i _ => mul_self_nonneg _
      positivity
    refine ⟨x j * (Real.sqrt ((∑ i, x i * x i) * (1024 : ℝ)⁻¹ + ε))⁻¹ * γ, ?_⟩
    rw [rsqrt_pos p, ← EReal.coe_mul, ← EReal.coe_mul]
  · have hi : ∃ i, h i * h i = ⊤ := by
      by_contra hc
      refine hr fun i => ?_
      have hci : h i * h i ≠ ⊤ := fun q => hc ⟨i, q⟩
      generalize h i = z at hci
      induction z using EReal.rec with
      | bot => exact absurd (by simp) hci
      | coe a => exact ⟨a, rfl⟩
      | top => exact absurd (by simp) hci
    obtain ⟨i, hi⟩ := hi
    have pos : ∀ i, 0 ≤ h i * h i := fun i => by
      generalize h i = z
      induction z using EReal.rec with
      | bot => simp
      | coe a => exact_mod_cast mul_self_nonneg a
      | top => simp
    have hs : ∑ i, h i * h i = ⊤ := top_unique (hi ▸ Finset.single_le_sum (f := fun i => h i * h i) (fun i _ => pos i) (Finset.mem_univ i))
    rw [hs, EReal.top_mul_coe_of_pos (by norm_num), EReal.top_add_coe]
    exact ⟨0, by show _ * (0 : EReal) * _ = _; simp⟩

/-- So a projection is, where gains and weights are. -/
theorem prj_real (x g w : Fin 1024 → EReal) (hg : ∀ i, ∃ a : ℝ, g i = (a : EReal)) (hw : ∀ i, ∃ a : ℝ, w i = (a : EReal)) : ∃ a : ℝ, prj x g w = (a : EReal) := by
  choose n hn using fun k => nrm_real x (g k) (hg k) k
  choose v hv using hw
  refine ⟨∑ k, n k * v k, ?_⟩
  rw [coe_sum]
  exact Finset.sum_congr rfl fun k _ => by rw [hn, hv, EReal.coe_mul]

/-- The averaging matrix's entries: a 64th within a head, and nothing across. -/
def mean (i j : Nat) : EReal := if i / 64 = j / 64 then ((64⁻¹ : ℝ) : EReal) else 0

theorem avg_eq {n : Nat} (hn : 64 ∣ n) (P b : Fin n → EReal) (j : Fin n) (hP : ∀ k, ∃ a : ℝ, P k = (a : EReal)) (hb : ∀ k, b k = mean k j) (g : EReal) :
    avg P b j * g = nrm64 (fun e => P (head j hn e)) g ⟨j % 64, by omega⟩ := by
  choose p hp using hP
  have h64 : Ideal.ofBits .f32 0x42800000#32 = ((64 : ℝ) : EReal) := by
    have e : Ideal.ofBits .f32 0x42800000#32 = ((8388608 : ℝ) : EReal) * (((2 ^ 17 : ℝ)⁻¹ : ℝ) : EReal) := by simp [Ideal.ofBits, Ideal.ieee]
    rw [e, ← EReal.coe_mul]
    norm_num
  have h1 : ((64 : ℝ) : EReal) ≠ 0 := by exact_mod_cast (by norm_num : (64 : ℝ) ≠ 0)
  have z : ∑ k : Fin n, (P k * P k - P k * P k) * b k = 0 := Finset.sum_eq_zero fun k _ => by
    rw [hp, ← EReal.coe_mul, ← EReal.coe_sub, sub_self, EReal.coe_zero, zero_mul]
  have s : ∑ k : Fin n, P k * P k * b k = (((∑ e : Fin 64, p (head j hn e) * p (head j hn e)) * 64⁻¹ : ℝ) : EReal) := by
    have t : ∀ k : Fin n, P k * P k * b k = ((if (k : Nat) / 64 = j / 64 then p k * p k * 64⁻¹ else 0 : ℝ) : EReal) := fun k => by
      rw [hp, hb, mean]
      split_ifs
      · rw [EReal.coe_mul, EReal.coe_mul]
      · rw [mul_zero, EReal.coe_zero]
    rw [Finset.sum_congr rfl fun k _ => t k, ← coe_sum, ← Finset.sum_filter, Finset.sum_mul]
    congr 1
    symm
    refine Finset.sum_bij (fun e _ => head j hn e) (fun e _ => ?_) (fun a _ b _ q => ?_) (fun k hk => ?_) (fun e _ => rfl)
    · rw [Finset.mem_filter]
      exact ⟨Finset.mem_univ _, by simp only; omega⟩
    · have := congrArg Fin.val q
      simp only at this
      exact Fin.ext (by omega)
    · have := (Finset.mem_filter.mp hk).2
      exact ⟨⟨k % 64, by omega⟩, Finset.mem_univ _, Fin.ext (by simp only; omega)⟩
  have u : ∑ e : Fin 64, P (head j hn e) * P (head j hn e) = ((∑ e : Fin 64, p (head j hn e) * p (head j hn e) : ℝ) : EReal) := by
    rw [coe_sum]
    exact Finset.sum_congr rfl fun e _ => by rw [hp, EReal.coe_mul]
  unfold avg nrm64 Ideal.div
  rw [z, s, add_zero, h64, if_neg h1, ← EReal.coe_inv, u, ← EReal.coe_mul]
  simp only [head_self]

end Cert.Kernel4Ideal.Hand

end
-- ==== Proof.Host4.lean ====
/- The fourth call's tables, averaging matrix and gains, as the host leaves them. -/
module

public import proofs.«01_k».proof.Proof.Turn
public import Idealize.ShloMosaic.Lib.Pipeline.ValueKit
public import Idealize.ShloMosaic.Lib.StableHlo.RunRead

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- The arguments. -/
abbrev A0 : FVec Ideal S16384x1024 .f32 := m ((c : Thread nD τ).loc main_arg0)
abbrev A1 : FVec Ideal S1x1024 .f32 := m ((c : Thread nD τ).loc main_arg1)
abbrev A2 : FVec Ideal S1024x2304 .bf16 := m ((c : Thread nD τ).loc main_arg2)
abbrev A3 : FVec Ideal S1x64 .f32 := m ((c : Thread nD τ).loc main_arg3)
abbrev A4 : FVec Ideal S1x64 .f32 := m ((c : Thread nD τ).loc main_arg4)
abbrev A5 : FVec Ideal S16384x16 .f32 := m ((c : Thread nD τ).loc main_arg5)
abbrev A6 : FVec Ideal S16384x16 .f32 := m ((c : Thread nD τ).loc main_arg6)
abbrev A7 : FVec Ideal S16384x8 .f32 := m ((c : Thread nD τ).loc main_arg7)

abbrev tab : FVec Ideal S16384x512 .f32 := V m c main_v19
abbrev bd : FVec Ideal S512x512 .bf16 := V m c main_v26
abbrev qg : FVec Ideal S1x512 .f32 := V m c main_v36
abbrev kg : FVec Ideal S1x128 .f32 := V m c main_v41

theorem kg_apply (j : Fin 128) : kg m c (ix2 0 j) = A4 m c (ix2 0 ⟨j % 64, by omega⟩) := by
  unfold kg V
  after_reads_simp
  pointwise []

theorem qg_apply (j : Fin 512) : qg m c (ix2 0 j) = Cert.Reference4Ideal.Hand.sc8 (A3 m c (ix2 0 ⟨j % 64, by omega⟩)) := by
  unfold qg V Cert.Reference4Ideal.Hand.sc8
  after_reads_simp
  pointwise []

theorem bd_apply (i j : Fin 512) : bd m c (ix2 i j) = mean i j := by
  have h : Ideal.ofBits .bf16 0x3C80#16 = ((64⁻¹ : ℝ) : EReal) := by
    have e : Ideal.ofBits .bf16 0x3C80#16 = ((128 : ℝ) : EReal) * (((2 ^ 13 : ℝ)⁻¹ : ℝ) : EReal) := by simp [Ideal.ofBits, Ideal.ieee]
    rw [e, ← EReal.coe_mul]
    norm_num
  have w : ∀ a b : Fin 8, IntOp.cmpi .eq (BitVec.ofNat 32 a) (BitVec.ofNat 32 b) = if (a : Nat) = b then 1#1 else 0#1 := by decide +kernel
  unfold bd V mean
  after_reads_simp
  pointwise []
  rw [h, w ⟨i / 64, by omega⟩ ⟨j / 64, by omega⟩]
  simp only
  by_cases q : (i : Nat) / 64 = j / 64
  · rw [if_pos q, if_pos q]
    rfl
  · rw [if_neg q, if_neg q]
    rfl

set_option maxHeartbeats 1000000 in
/-- The tables' four parts. -/
theorem tab0 (r : Fin 16384) (j : Fin 128) : tab m c (ix2 r ⟨j, by omega⟩) = cA (fun i => Host.cos (A5 m c) (ix2 r i)) (fun i => Host.cos (A6 m c) (ix2 r i)) ⟨j % 64, by omega⟩ := by
  unfold tab V cA
  after_reads_simp
  pointwise []
  after_reads_simp
  pointwise []
  after_reads_simp
  pointwise []
  all_goals by_cases q0 : (j : Nat) % 64 < 32
  all_goals try first | rw [if_pos q0] | rw [if_neg q0]
  all_goals split_ifs <;> first
    | (exfalso; omega)
    | exact congrArg (fun i : Fin 16 => Ideal.cos (A5 m c (ix2 r i))) (Fin.ext (by first | omega | (simp only; omega)))
    | exact congrArg (fun i : Fin 16 => Ideal.cos (A6 m c (ix2 r i))) (Fin.ext (by first | omega | (simp only; omega)))

set_option maxHeartbeats 4000000 in
theorem tab1 (r : Fin 16384) (j : Fin 128) : tab m c (ix2 r ⟨128 + j, by omega⟩) = sA (fun i => Host.sin (A5 m c) (ix2 r i)) (fun i => Host.sin (A6 m c) (ix2 r i)) ⟨j % 64, by omega⟩ := by
  unfold tab V sA
  after_reads_simp
  pointwise []
  after_reads_simp
  pointwise []
  after_reads_simp
  pointwise []
  all_goals by_cases q0 : (j : Nat) % 64 < 32
  all_goals by_cases q1 : (j : Nat) % 64 < 16
  all_goals by_cases q2 : (j : Nat) % 64 < 48
  all_goals try first | rw [if_pos q0] | rw [if_neg q0]
  all_goals try first | rw [if_pos q1] | rw [if_neg q1]
  all_goals try first | rw [if_pos q2] | rw [if_neg q2]
  all_goals split_ifs <;> first
    | (exfalso; omega)
    | exact congrArg (fun i : Fin 16 => Ideal.sin (A5 m c (ix2 r i))) (Fin.ext (by first | omega | (simp only; omega)))
    | exact congrArg (fun i : Fin 16 => -Ideal.sin (A5 m c (ix2 r i))) (Fin.ext (by first | omega | (simp only; omega)))
    | exact congrArg (fun i : Fin 16 => Ideal.sin (A6 m c (ix2 r i))) (Fin.ext (by first | omega | (simp only; omega)))
    | exact congrArg (fun i : Fin 16 => -Ideal.sin (A6 m c (ix2 r i))) (Fin.ext (by first | omega | (simp only; omega)))

set_option maxHeartbeats 1000000 in
theorem tab2 (r : Fin 16384) (j : Fin 128) : tab m c (ix2 r ⟨256 + j, by omega⟩) = cB (fun i => Host.cos (A7 m c) (ix2 r i)) ⟨j % 64, by omega⟩ := by
  unfold tab V cB
  after_reads_simp
  pointwise []
  rw [dif_neg (show ¬(256 + (j : Nat) < 128) by omega), dif_neg (show ¬(256 + (j : Nat) - 128 < 128) by omega), dif_pos (show 256 + (j : Nat) - 128 - 128 < 128 by omega)]
  after_reads_simp
  pointwise []
  after_reads_simp
  pointwise []
  all_goals by_cases q0 : (j : Nat) % 64 < 16
  all_goals try first | rw [if_pos q0] | rw [if_neg q0]
  all_goals split_ifs <;> first
    | (exfalso; omega)
    | with_reducible rfl
    | exact congrArg (fun i : Fin 8 => Ideal.cos (A7 m c (ix2 r i))) (Fin.ext (by first | omega | (simp only; omega)))

set_option maxHeartbeats 1000000 in
theorem tab3 (r : Fin 16384) (j : Fin 128) : tab m c (ix2 r ⟨384 + j, by omega⟩) = sB (fun i => Host.sin (A7 m c) (ix2 r i)) ⟨j % 64, by omega⟩ := by
  unfold tab V sB
  after_reads_simp
  pointwise []
  rw [dif_neg (show ¬(384 + (j : Nat) < 128) by omega), dif_neg (show ¬(384 + (j : Nat) - 128 < 128) by omega), dif_neg (show ¬(384 + (j : Nat) - 128 - 128 < 128) by omega)]
  simp only [show 384 + (j : Nat) - 128 - 128 - 128 = j by omega]
  after_reads_simp
  pointwise []
  after_reads_simp
  pointwise []
  all_goals by_cases q0 : (j : Nat) % 64 < 16
  all_goals by_cases q1 : (j : Nat) % 64 < 8
  all_goals try first | rw [if_pos q0] | rw [if_neg q0]
  all_goals try first | rw [if_pos q1] | rw [if_neg q1]
  all_goals split_ifs <;> first
    | (exfalso; omega)
    | with_reducible rfl
    | exact congrArg (fun i : Fin 8 => -Ideal.sin (A7 m c (ix2 r i))) (Fin.ext (by first | omega | (simp only; omega)))
    | exact congrArg (fun i : Fin 8 => Ideal.sin (A7 m c (ix2 r i))) (Fin.ext (by first | omega | (simp only; omega)))

end Cert.Kernel4Ideal.Hand

end
-- ==== Proof.Arr4.lean ====
/- The fourth call's result arrays. -/
module

public import proofs.«01_k».proof.Proof.Host4

@[expose] public section

set_option maxRecDepth 16384

noncomputable section

namespace Cert.Kernel4Ideal.Hand

open Idealize.ShloMosaic Idealize.ShloMosaic.TcCoe Idealize.SL.Sem
open Cert.Kernel4Ideal Cert.Kernel4Ideal.Gen
open Cert.Reference4Ideal.Hand
open Idealize.ShloMosaic.Pipeline (Dat)

variable (m : (ℓ : Loc nD τ sig) → Buf (Elt Ideal) ℓ) (ρ : Dev nD → PrngReg) (c : Dev nD)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0, 0]
    ∧ win0_10.index t = ![t.val, 0] ∧ win0_11.index t = ![t.val, 0] ∧ win0_12.index t = ![t.val, 0, 0] :=
  (by decide +kernel : ∀ t : Fin grid0.N, _)

/-- The blocks are the rows of a point, or whole arrays. -/
theorem blk0 (t : Fin cfg0.N) (i : Fin 512) (j : Fin 1024) (i' : Fin 16384) (hi : (i' : Nat) = 512 * t.val + i) : iblk m c 0 t (ix2 i j) = A0 m c (ix2 i' j) := by
  unfold A0
  rw [← V_main_arg0 m c]
  blk_ext [iblk, idx t]
theorem blk1 (t : Fin cfg0.N) (i : Fin 1) (j : Fin 1024) : iblk m c 1 t (ix2 i j) = A1 m c (ix2 i j) := by
  unfold A1
  rw [← V_main_arg1 m c]
  blk_ext [iblk, idx t]
theorem blk2 (t : Fin cfg0.N) (i : Fin 1024) (j : Fin 2304) : iblk m c 2 t (ix2 i j) = A2 m c (ix2 i j) := by
  unfold A2
  rw [← V_main_arg2 m c]
  blk_ext [iblk, idx t]
theorem blk3 (t : Fin cfg0.N) (i : Fin 1) (j : Fin 512) : iblk m c 3 t (ix2 i j) = qg m c (ix2 i j) := by
  blk_ext [iblk, idx t]
theorem blk4 (t : Fin cfg0.N) (i : Fin 1) (j : Fin 128) : iblk m c 4 t (ix2 i j) = kg m c (ix2 i j) := by
  blk_ext [iblk, idx t]
theorem blk5 (t : Fin cfg0.N) (i : Fin 512) (j : Fin 512) (i' : Fin 16384) (hi : (i' : Nat) = 512 * t.val + i) : iblk m c 5 t (ix2 i j) = tab m c (ix2 i' j) := by
  blk_ext [iblk, idx t]
theorem blk6 (t : Fin cfg0.N) (i : Fin 512) (j : Fin 512) : iblk m c 6 t (ix2 i j) = bd m c (ix2 i j) := by
  blk_ext [iblk, idx t]

variable (t : Fin cfg0.N) (i : Fin 512) (i' : Fin 16384) (hi : (i' : Nat) = 512 * t.val + i)

/-- A point's projections are the reference's, -/
theorem proj_at (j : Fin 2304) (hi : (i' : Nat) = 512 * t.val + i) :
    k0_pay3 (iblk m c 0 t) (iblk m c 1 t) (iblk m c 2 t) (ix2 i j) = proj (A0 m c) (A1 m c) (A2 m c) (ix2 i' j) := by
  rw [proj_apply, pay3_apply]
  simp only [blk0 m c t i _ i' hi, blk1, blk2]

/-- numbers where gains and weights are. -/
theorem proj_real (hg : ∀ k, ∃ a : ℝ, A1 m c (ix2 0 k) = (a : EReal)) (hw : ∀ (k : Fin 1024) (j : Fin 2304), (j : Nat) < 640 → ∃ a : ℝ, A2 m c (ix2 k j) = (a : EReal))
    (j : Fin 2304) (hj : (j : Nat) < 640) : ∃ a : ℝ, k0_pay3 (iblk m c 0 t) (iblk m c 1 t) (iblk m c 2 t) (ix2 i j) = (a : EReal) := by
  rw [pay3_apply]
  simp only [blk1, blk2]
  exact prj_real _ _ _ hg fun k => hw k j hj

theorem cosA (j : Fin 128) (d : Fin 64) (hd : (d : Nat) = j % 64) (hi : (i' : Nat) = 512 * t.val + i) :
    k0_pay5 (iblk m c 5 t) (ix2 i j) = cA (fun a => Host.cos (A5 m c) (ix2 i' a)) (fun a => Host.cos (A6 m c) (ix2 i' a)) d := by
  rw [pay5_apply, blk5 m c t i _ i' hi, show d = ⟨j % 64, by omega⟩ from Fin.ext hd]
  exact tab0 m c i' j
theorem sinA (j : Fin 128) (d : Fin 64) (hd : (d : Nat) = j % 64) (hi : (i' : Nat) = 512 * t.val + i) :
    k0_pay6 (iblk m c 5 t) (ix2 i j) = sA (fun a => Host.sin (A5 m c) (ix2 i' a)) (fun a => Host.sin (A6 m c) (ix2 i' a)) d := by
  rw [pay6_apply, blk5 m c t i _ i' hi, show d = ⟨j % 64, by omega⟩ from Fin.ext hd]
  exact tab1 m c i' j
theorem cosB (j : Fin 128) (d : Fin 64) (hd : (d : Nat) = j % 64) (hi : (i' : Nat) = 512 * t.val + i) :
    k0_pay7 (iblk m c 5 t) (ix2 i j) = cB (fun a => Host.cos (A7 m c) (ix2 i' a)) d := by
  rw [pay7_apply, blk5 m c t i _ i' hi, show d = ⟨j % 64, by omega⟩ from Fin.ext hd]
  exact tab2 m c i' j
theorem sinB (j : Fin 128) (d : Fin 64) (hd : (d : Nat) = j % 64) (hi : (i' : Nat) = 512 * t.val + i) :
    k0_pay8 (iblk m c 5 t) (ix2 i j) = sB (fun a => Host.sin (A7 m c) (ix2 i' a)) d := by
  rw [pay8_apply, blk5 m c t i _ i' hi, show d = ⟨j % 64, by omega⟩ from Fin.ext hd]
  exact tab3 m c i' j

theorem turnA_congr {y y' : Fin 64 → EReal} {C C' S S' : EReal} (d : Fin 64) (hy : ∀ e, y e = y' e) (hC : C = C') (hS : S = S') : turnA y C S d = turnA y' C' S' d := by
  obtain rfl : y = y' := funext hy
  rw [hC, hS]
theorem turnB_congr {y y' : Fin 64 → EReal} {C C' S S' : EReal} (d : Fin 64) (hy : ∀ e, y e = y' e) (hC : C = C') (hS : S = S') : turnB y C S d = turnB y' C' S' d := by
  obtain rfl : y = y' := funext hy
  rw [hC, hS]
theorem nrm64_congr {y y' : Fin 64 → EReal} {g g' : EReal} {d d' : Fin 64} (hy : ∀ e, y e = y' e) (hg : g = g') (hd : d = d') : nrm64 y g d = nrm64 y' g' d' := by
  obtain rfl : y = y' := funext hy
  rw [hg, hd]

/-- The first attention's queries, -/
theorem qa_at (hg : ∀ k, ∃ a : ℝ, A1 m c (ix2 0 k) = (a : EReal)) (hw : ∀ (k : Fin 1024) (j : Fin 2304), (j : Nat) < 640 → ∃ a : ℝ, A2 m c (ix2 k j) = (a : EReal))
    (hi : (i' : Nat) = 512 * t.val + i) (j : Fin 512) :
    k0_pay12 (k0_pay5 (iblk m c 5 t)) (k0_pay6 (iblk m c 5 t)) (k0_pay10 (iblk m c 0 t) (iblk m c 1 t) (iblk m c 2 t) (iblk m c 6 t)) (k0_pay11 (iblk m c 3 t)) (ix2 i j)
      = QA (A0 m c) (A1 m c) (A2 m c) (A3 m c) (A5 m c) (A6 m c) (ix2 i' j) := by
  unfold QA
  rw [pay12_apply, flat8_apply, scale8_apply, axial8_apply, sc8_eq, ← turnA_eq, ← turnA_scale]
  refine turnA_congr _ (fun e => ?_) (cosA m c t i i' _ _ (by simp only; omega) hi) (sinA m c t i i' _ _ (by simp only; omega) hi)
  rw [pay10_apply, pay11_apply, blk3, qg_apply, sc8_eq, ← mul_assoc, norm8_apply,
    avg_eq (by decide) _ _ _ (fun k => proj_real m c t i hg hw _ (by simp only; omega)) (fun k => by rw [blk6, bd_apply])]
  refine congrArg (fun z : EReal => z * _) (nrm64_congr (fun e' => ?_) ?_ ?_)
  · rw [proj_at m c t i i' _ hi, heads8_apply _ _ (by decide)]
    exact congrArg (fun z : Fin 2304 => proj (A0 m c) (A1 m c) (A2 m c) (ix2 i' z)) (Fin.ext (by simp only; omega))
  · exact congrArg (fun z : Fin 64 => A3 m c (ix2 0 z)) (Fin.ext (by simp only; omega))
  · exact Fin.ext (by simp only; omega)

/-- keys, -/
theorem ka_at (hg : ∀ k, ∃ a : ℝ, A1 m c (ix2 0 k) = (a : EReal)) (hw : ∀ (k : Fin 1024) (j : Fin 2304), (j : Nat) < 640 → ∃ a : ℝ, A2 m c (ix2 k j) = (a : EReal))
    (hi : (i' : Nat) = 512 * t.val + i) (j : Fin 128) :
    k0_pay14 (k0_pay5 (iblk m c 5 t)) (k0_pay6 (iblk m c 5 t)) (k0_pay13 (k0_pay3 (iblk m c 0 t) (iblk m c 1 t) (iblk m c 2 t)) (k0_pay9 (iblk m c 6 t))) (iblk m c 4 t) (ix2 i j)
      = KA (A0 m c) (A1 m c) (A2 m c) (A4 m c) (A5 m c) (A6 m c) (ix2 i' j) := by
  unfold KA
  rw [pay14_apply, flat2_apply, axial2_apply, ← turnA_eq]
  refine turnA_congr _ (fun e => ?_) (cosA m c t i i' _ _ rfl hi) (sinA m c t i i' _ _ rfl hi)
  rw [pay13_apply, blk4, kg_apply, norm2_apply,
    avg_eq (by decide) _ _ _ (fun k => proj_real m c t i hg hw _ (by simp only; omega)) (fun k => by rw [pay9_apply, blk6, bd_apply])]
  refine nrm64_congr (fun e' => ?_) ?_ ?_
  · rw [proj_at m c t i i' _ hi, heads2_apply _ _ (by decide)]
    exact congrArg (fun z : Fin 2304 => proj (A0 m c) (A1 m c) (A2 m c) (ix2 i' z)) (Fin.ext (by simp only; omega))
  · exact congrArg (fun z : Fin 64 => A4 m c (ix2 0 z)) (Fin.ext (by simp only; omega))
  · exact Fin.ext (by simp only; omega)

/-- the second's queries, -/
theorem qb_at (hi : (i' : Nat) = 512 * t.val + i) (j : Fin 512) :
    k0_pay18 (k0_pay8 (iblk m c 5 t)) (k0_pay16 (k0_pay3 (iblk m c 0 t) (iblk m c 1 t) (iblk m c 2 t))) (k0_pay17 (k0_pay3 (iblk m c 0 t) (iblk m c 1 t) (iblk m c 2 t)) (k0_pay7 (iblk m c 5 t)))
        (iota .tc S512x512 32 [1] iota_S512x512_d1_w32) 504#32 (ix2 i j)
      = QB (A0 m c) (A1 m c) (A2 m c) (A7 m c) (ix2 i' j) := by
  unfold QB
  rw [pay18_apply, flat8_apply, scale8_apply, partial8_apply, sc8_eq, ← turnB_eq]
  refine congrArg₂ (fun a b : EReal => a * b) (turnB_congr _ (fun e => ?_) (cosB m c t i i' _ _ (by simp only; omega) hi) (sinB m c t i i' _ _ (by simp only; omega) hi)) rfl
  rw [proj_at m c t i i' _ hi, heads8_apply _ _ (by decide)]
  exact congrArg (fun z : Fin 2304 => proj (A0 m c) (A1 m c) (A2 m c) (ix2 i' z)) (Fin.ext (by simp only; omega))

/-- and its keys. -/
theorem kb_at (hi : (i' : Nat) = 512 * t.val + i) (j : Fin 512) :
    k0_pay1 (k0_pay8 (iblk m c 5 t)) (k0_pay20 (k0_pay3 (iblk m c 0 t) (iblk m c 1 t) (iblk m c 2 t)) (k0_pay7 (iblk m c 5 t))) (k0_pay21 (k0_pay3 (iblk m c 0 t) (iblk m c 1 t) (iblk m c 2 t)))
        (k0_pay22 (k0_pay3 (iblk m c 0 t) (iblk m c 1 t) (iblk m c 2 t))) (Scalar.select (Scalar.cmpi .eq 64#32 0#32) 1#32 64#32) k0_pay23 k0_pay24 k0_pay25 (ix2 i j)
      = KB (A0 m c) (A1 m c) (A2 m c) (A7 m c) (ix2 i' j) := by
  unfold KB
  rw [pay1_apply, flat8_apply, partial8_apply, ← turnB_eq]
  refine turnB_congr _ (fun e => ?_) (cosB m c t i i' _ _ (by simp only; omega) hi) (sinB m c t i i' _ _ (by simp only; omega) hi)
  rw [proj_at m c t i i' _ hi, heads8_apply _ _ (by decide)]
  exact congrArg (fun z : Fin 2304 => proj (A0 m c) (A1 m c) (A2 m c) (ix2 i' z)) (Fin.ext (by simp only; omega))

theorem final9 : (dats m 0 c).arrAt 9 (cfgs 0).N = slabA (proj (A0 m c) (A1 m c) (A2 m c)) := by
  refine (dats m 0 c).arrAt_eq_of_covers 9 _ (by decide +kernel) fun t _ y => ?_
  blk_simp
  rw [after0_9, out9_eq]
  idx_vars y
  have hN : (t : Nat) < 32 := t.isLt
  have z2 : (y2 : Nat) < 512 := y2.isLt
  have e0 : y0 = 0 := Fin.ext (by have : (y0 : Nat) < 1 := y0.isLt; show (y0 : Nat) = 0; omega)
  have ep : (((View.whole main_v42_2).slice (win0_9.rect t)).emb (ix3 y0 y1 y2) : S32x128x512.Idx) = ix3 ⟨t.val, hN⟩ y1 y2 := by
    blk_ext [iblk, idx t]
  rw [ep, e0, slabA_apply]
  exact (pay15_apply _ y2 y1).trans (proj_at m c t y2 _ _ (by simp only; omega))

theorem final10 : (dats m 0 c).arrAt 10 (cfgs 0).N = QB (A0 m c) (A1 m c) (A2 m c) (A7 m c) := by
  refine (dats m 0 c).arrAt_eq_of_covers 10 _ (by decide +kernel) fun t _ y => ?_
  blk_simp
  rw [after0_10, out10_eq]
  idx_vars y
  have hN : (t : Nat) < 32 := t.isLt
  have z0 : (y0 : Nat) < 512 := y0.isLt
  have ep : (((View.whole main_v42_3).slice (win0_10.rect t)).emb (ix2 y0 y1) : S16384x512.Idx) = ix2 ⟨512 * t.val + y0, by omega⟩ y1 := by
    blk_ext [iblk, idx t]
  rw [ep]
  exact qb_at m c t y0 _ rfl y1

theorem final11 : (dats m 0 c).arrAt 11 (cfgs 0).N = KB (A0 m c) (A1 m c) (A2 m c) (A7 m c) := by
  refine (dats m 0 c).arrAt_eq_of_covers 11 _ (by decide +kernel) fun t _ y => ?_
  blk_simp
  rw [after0_11, out11_eq]
  idx_vars y
  have hN : (t : Nat) < 32 := t.isLt
  have z0 : (y0 : Nat) < 512 := y0.isLt
  have ep : (((View.whole main_v42_4).slice (win0_11.rect t)).emb (ix2 y0 y1) : S16384x512.Idx) = ix2 ⟨512 * t.val + y0, by omega⟩ y1 := by
    blk_ext [iblk, idx t]
  rw [ep]
  exact kb_at m c t y0 _ rfl y1

theorem final12 : (dats m 0 c).arrAt 12 (cfgs 0).N = slabB (proj (A0 m c) (A1 m c) (A2 m c)) := by
  refine (dats m 0 c).arrAt_eq_of_covers 12 _ (by decide +kernel) fun t _ y => ?_
  blk_simp
  rw [after0_12, out12_eq]
  idx_vars y
  have hN : (t : Nat) < 32 := t.isLt
  have z2 : (y2 : Nat) < 512 := y2.isLt
  have e0 : y0 = 0 := Fin.ext (by have : (y0 : Nat) < 1 := y0.isLt; show (y0 : Nat) = 0; omega)
  have ep : (((View.whole main_v42_5).slice (win0_12.rect t)).emb (ix3 y0 y1 y2) : S32x512x512.Idx) = ix3 ⟨t.val, hN⟩ y1 y2 := by
    blk_ext [iblk, idx t]
  rw [ep, e0, slabB_apply]
  exact (pay2_apply _ y2 y1).trans (proj_at m c t y2 _ _ (by simp only; omega))

section

variable (hg : ∀ k, ∃ a : ℝ, A1 m c (ix2 0 k) = (a : EReal)) (hw : ∀ (k : Fin 1024) (j : Fin 2304), (j : Nat) < 640 → ∃ a : ℝ, A2 m c (ix2 k j) = (a : EReal))
include hg hw

theorem final7 : (dats m 0 c).arrAt 7 (cfgs 0).N = QA (A0 m c) (A1 m c) (A2 m c) (A3 m c) (A5 m c) (A6 m c) := by
  refine (dats m 0 c).arrAt_eq_of_covers 7 _ (by decide +kernel) fun t _ y => ?_
  blk_simp
  rw [after0_7, out7_eq]
  idx_vars y
  have hN : (t : Nat) < 32 := t.isLt
  have z0 : (y0 : Nat) < 512 := y0.isLt
  have ep : (((View.whole main_v42_0).slice (win0_7.rect t)).emb (ix2 y0 y1) : S16384x512.Idx) = ix2 ⟨512 * t.val + y0, by omega⟩ y1 := by
    blk_ext [iblk, idx t]
  rw [ep]
  exact qa_at m c t y0 _ hg hw rfl y1

theorem final8 : (dats m 0 c).arrAt 8 (cfgs 0).N = KA (A0 m c) (A1 m c) (A2 m c) (A4 m c) (A5 m c) (A6 m c) := by
  refine (dats m 0 c).arrAt_eq_of_covers 8 _ (by decide +kernel) fun t _ y => ?_
  blk_simp
  rw [after0_8, out8_eq]
  idx_vars y
  have hN : (t : Nat) < 32 := t.isLt
  have z0 : (y0 : Nat) < 512 := y0.isLt
  have ep : (((View.whole main_v42_1).slice (win0_8.rect t)).emb (ix2 y0 y1) : S16384x128.Idx) = ix2 ⟨512 * t.val + y0, by omega⟩ y1 := by
    blk_ext [iblk, idx t]
  rw [ep]
  exact ka_at m c t y0 _ hg hw rfl y1

end

/-- The kernel's run: its six results, and its arguments unchanged. -/
theorem run_value (hg : ∀ (c : Dev nD) k, ∃ a : ℝ, A1 m c (ix2 0 k) = (a : EReal)) (hw : ∀ (c : Dev nD) (k : Fin 1024) (j : Fin 2304), (j : Nat) < 640 → ∃ a : ℝ, A2 m c (ix2 k j) = (a : EReal)) :
    θ_run defs (onTc (τ := τ) (main (F := Ideal))) ⟨m, fun _ => 0, ρ⟩ fun r => ∀ c : Dev nD,
      r.2.mem ((c.tc : Thread nD τ).loc main_v42_0) = QA (A0 m c) (A1 m c) (A2 m c) (A3 m c) (A5 m c) (A6 m c)
      ∧ r.2.mem ((c.tc : Thread nD τ).loc main_v42_1) = KA (A0 m c) (A1 m c) (A2 m c) (A4 m c) (A5 m c) (A6 m c)
      ∧ r.2.mem ((c.tc : Thread nD τ).loc main_v42_2) = slabA (proj (A0 m c) (A1 m c) (A2 m c))
      ∧ r.2.mem ((c.tc : Thread nD τ).loc main_v42_3) = QB (A0 m c) (A1 m c) (A2 m c) (A7 m c)
      ∧ r.2.mem ((c.tc : Thread nD τ).loc main_v42_4) = KB (A0 m c) (A1 m c) (A2 m c) (A7 m c)
      ∧ r.2.mem ((c.tc : Thread nD τ).loc main_v42_5) = slabB (proj (A0 m c) (A1 m c) (A2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final7 m c (hg c) (hw c)), (h c).2.1.trans (final8 m c (hg c) (hw c)), (h c).2.2.1.trans (final9 m c), (h c).2.2.2.1.trans (final10 m c),
    (h c).2.2.2.2.1.trans (final11 m c), (h c).2.2.2.2.2.1.trans (final12 m c), (h c).2.2.2.2.2.2⟩) (Cert.Kernel4Ideal.Value.run_blocks m ρ)

end Cert.Kernel4Ideal.Hand

end
-- ==== Proof.Pre4.lean ====
/- What the fourth call's precondition says: the gains, and the weights of the first 640 columns, are real numbers. -/
module

public import proofs.«01_k».proof.Pre_finite_projection
public import proofs.«01_k».proof.Proof.Pre2

@[expose] public section

noncomputable section

namespace Cert.Pre_finite_projection.Hand

open Idealize.ShloMosaic
open Cert.Pre_finite_projection

/-- The shape conditions. -/
theorem facts : Facts where
  bcast_S_S1x1024 := by decide
  slices_S1024x2304_S1024x640_0_0 := by decide
  bitsLt_bf16_f32 := by decide
  bcast_S_S1024x640 := by decide

/-- A column's weights, read from the first 640. -/
theorem weight (w : FVec Ideal S1024x2304 .bf16) (h : S1024x2304.Slices ![0, 0] S1024x640) (i : Fin 1024) (j : Fin 2304) (hj : (j : Nat) < 640) :
    extractStridedSlice S1024x640 ![0, 0] w h (ix2 i ⟨j, hj⟩) = w (ix2 i j) := by
  pointwise []

end Cert.Pre_finite_projection.Hand

end
-- ==== Proof.lean ====
/- The proof of the claim: the frames from the generated runs, the named constant, and the values of the four calls — a
   call's result arrays and its reference's are the same terms of the arguments — from `Proof/Arr.lean`, `Proof/Ref.lean`
   and the modules of the same names with a 2, a 3 and a 4. -/
module

public import proofs.«01_k».proof.Proof.Gen.KernelIdeal.Value
public import proofs.«01_k».proof.Proof.Gen.ReferenceIdeal.Run
public import proofs.«01_k».proof.Proof.Arr
public import proofs.«01_k».proof.Proof.Pre
public import proofs.«01_k».proof.Proof.Arr2
public import proofs.«01_k».proof.Proof.Pre2
public import proofs.«01_k».proof.Proof.Arr3
public import proofs.«01_k».proof.Proof.Arr4
public import proofs.«01_k».proof.Proof.Pre4
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel3
public import proofs.«01_k».proof.Proof.Gen.Kernel3.Frame
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import Idealize.ShloMosaic.Adequacy
public import Idealize.ShloMosaic.Init

@[expose] public section

noncomputable section

namespace Cert.Proof

open Idealize.ShloMosaic Idealize.SL.Sem Cert.Kernel

/-- The host's run of the reference: its arguments unchanged, and no semaphore anywhere. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The one named constant: the program's table gives `"log2_e"` the value `1 / ln 2`. -/
theorem preserves : Cert.preserves_Kernel_KernelIdeal :=
  IdealRules.named_const.statement Cert.KernelIdeal.κ "log2_e" .f32 0x3FB8AA3B#32 (((Real.log 2)⁻¹ : ℝ) : EReal) rfl

/-- Queries and keys are real numbers where the precondition holds. -/
theorem real_args [h : Cert.Pre_finite_scores.Facts] (m : (ℓ : Loc Cert.KernelIdeal.nD Cert.KernelIdeal.τ Cert.KernelIdeal.sig) → Buf (Elt Ideal) ℓ)
    (hp : Cert.Pre_KernelIdeal_finite_scores m) (c : Dev Cert.KernelIdeal.nD) :
    (∀ i j, ∃ a : ℝ, m ((c.tc : Thread Cert.KernelIdeal.nD Cert.KernelIdeal.τ).loc Cert.KernelIdeal.main_arg0) (ix2 i j) = (a : EReal))
      ∧ ∀ i j, ∃ a : ℝ, m ((c.tc : Thread Cert.KernelIdeal.nD Cert.KernelIdeal.τ).loc Cert.KernelIdeal.main_arg1) (ix2 i j) = (a : EReal) :=
  ⟨fun i j => Cert.Pre_finite_scores.Hand.real_of_lt _ _ _ h.bcast_S_S16384x512 _ (congrFun (hp c).1 (ix2 i j)),
    fun i j => Cert.Pre_finite_scores.Hand.real_of_lt _ _ _ h.bcast_S_S16384x128 _ (congrFun (hp c).2 (ix2 i j))⟩

/-- The kernel's result is the reference's. -/
theorem value [Cert.Pre_finite_scores.Facts] : Cert.algebraic_KernelIdeal_ReferenceIdeal_pre_finite_scores := fun m g m' g' hp ha =>
  ⟨fun c => Cert.ReferenceIdeal.Hand.REF (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.Hand.run_value m g (fun c => (real_args m hp c).1) (fun c => (real_args m hp c).2),
    (θ_run Cert.ReferenceIdeal.defs _ _).mono (fun r h c => ⟨(h c).1.trans (by rw [(ha c).1, (ha c).2.1, (ha c).2.2]), (h c).2⟩)
      (Cert.ReferenceIdeal.Hand.run_ref m' g')⟩

/-- The second call: its reference's run, its arguments unchanged. -/
theorem frame_ri2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The same named constant in the second call. -/
theorem preserves2 : Cert.preserves_Kernel2_Kernel2Ideal :=
  IdealRules.named_const.statement Cert.Kernel2Ideal.κ "log2_e" .f32 0x3FB8AA3B#32 (((Real.log 2)⁻¹ : ℝ) : EReal) rfl

section

variable [h : Cert.Pre_finite_but_gain.Facts] (m : (ℓ : Loc Cert.Kernel2Ideal.nD Cert.Kernel2Ideal.τ Cert.Kernel2Ideal.sig) → Buf (Elt Ideal) ℓ)
  (hp : Cert.Pre_Kernel2Ideal_finite_but_gain m) (c : Dev Cert.Kernel2Ideal.nD)
include hp

/-- Where the precondition holds, the four vectors are real numbers, -/
theorem real_lam (i j) : ∃ a : ℝ, m ((c.tc : Thread Cert.Kernel2Ideal.nD Cert.Kernel2Ideal.τ).loc Cert.Kernel2Ideal.main_arg0) (ix2 i j) = (a : EReal) :=
  Cert.Pre_finite_but_gain.Hand.real_of_lt _ _ h.bcast_S_S4x64 _ (congrFun (hp c).1 (ix2 i j))
/-- the queries, -/
theorem real_q (i j) : ∃ a : ℝ, m ((c.tc : Thread Cert.Kernel2Ideal.nD Cert.Kernel2Ideal.τ).loc Cert.Kernel2Ideal.main_arg1) (ix2 i j) = (a : EReal) :=
  Cert.Pre_finite_scores.Hand.real_of_lt _ _ _ h.bcast_S_S16384x512 _ (congrFun (hp c).2.1 (ix2 i j))
/-- the keys -/
theorem real_k (i j) : ∃ a : ℝ, m ((c.tc : Thread Cert.Kernel2Ideal.nD Cert.Kernel2Ideal.τ).loc Cert.Kernel2Ideal.main_arg2) (ix2 i j) = (a : EReal) :=
  Cert.Pre_finite_scores.Hand.real_of_lt _ _ _ h.bcast_S_S16384x512 _ (congrFun (hp c).2.2.1 (ix2 i j))
/-- and the values. -/
theorem real_v (i j k) : ∃ a : ℝ, m ((c.tc : Thread Cert.Kernel2Ideal.nD Cert.Kernel2Ideal.τ).loc Cert.Kernel2Ideal.main_arg3) (ix3 i j k) = (a : EReal) :=
  Cert.Pre_finite_scores.Hand.real_of_lt _ _ _ h.bcast_S_S32x512x512 _ (congrFun (hp c).2.2.2 (ix3 i j k))

end

/-- The second call's result is its reference's. -/
theorem value2 [Cert.Pre_finite_but_gain.Facts] : Cert.algebraic_Kernel2Ideal_Reference2Ideal_pre_finite_but_gain := fun m g m' g' hp ha =>
  ⟨fun c => Cert.Reference2Ideal.Hand.REF (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    Cert.Kernel2Ideal.Hand.run_value m g (real_lam m hp) (real_q m hp) (real_k m hp) (real_v m hp),
    (θ_run Cert.Reference2Ideal.defs _ _).mono
      (fun r h c => ⟨(h c).1.trans (by rw [(ha c).1, (ha c).2.1, (ha c).2.2.1, (ha c).2.2.2.1, (ha c).2.2.2.2]), (h c).2⟩)
      (Cert.Reference2Ideal.Hand.run_ref m' g')⟩

/-- The third call: its reference's run, its arguments unchanged. -/
theorem frame_ri3 : Cert.quiescent_Reference3Ideal := fun m ρ _ =>
  (θ_run Cert.Reference3Ideal.defs _ _).mono (fun r h => ⟨fun c => (h c).2.2.2,
      Idealize.ShloMosaic.sem_eq_zero_of_no_sems (by decide) r.2⟩)
    (Cert.Reference3Ideal.Value.run (F := Ideal) m ρ)

/-- Nothing is named in the third call. -/
theorem preserves3 : Cert.preserves_Kernel3_Kernel3Ideal := trivial

/-- The third call's results are its reference's. -/
theorem value3 : Cert.algebraic_Kernel3Ideal_Reference3Ideal := fun m g m' g' _ ha =>
  ⟨fun c => Cert.Reference3Ideal.Hand.hidden (Cert.Kernel3Ideal.Hand.A0 m c) (Cert.Kernel3Ideal.Hand.A1 m c) (Cert.Kernel3Ideal.Hand.A2 m c) (Cert.Kernel3Ideal.Hand.A3 m c),
    fun c => Cert.Reference3Ideal.Hand.norm (Cert.Reference3Ideal.Hand.hidden (Cert.Kernel3Ideal.Hand.A0 m c) (Cert.Kernel3Ideal.Hand.A1 m c) (Cert.Kernel3Ideal.Hand.A2 m c) (Cert.Kernel3Ideal.Hand.A3 m c)) (Cert.Kernel3Ideal.Hand.A4 m c),
    fun c => Cert.Reference3Ideal.Hand.scores (Cert.Reference3Ideal.Hand.queries (Cert.Reference3Ideal.Hand.norm (Cert.Reference3Ideal.Hand.hidden (Cert.Kernel3Ideal.Hand.A0 m c) (Cert.Kernel3Ideal.Hand.A1 m c) (Cert.Kernel3Ideal.Hand.A2 m c) (Cert.Kernel3Ideal.Hand.A3 m c)) (Cert.Kernel3Ideal.Hand.A4 m c)) (Cert.Kernel3Ideal.Hand.A5 m c)) (Cert.Kernel3Ideal.Hand.A6 m c),
    Cert.Kernel3Ideal.Hand.run_value m g,
    (θ_run Cert.Reference3Ideal.defs _ _).mono
      (fun r h c => ⟨(h c).1.trans (by rw [(ha c).1, (ha c).2.1, (ha c).2.2.1, (ha c).2.2.2.1]),
        (h c).2.1.trans (by rw [(ha c).1, (ha c).2.1, (ha c).2.2.1, (ha c).2.2.2.1, (ha c).2.2.2.2.1]),
        (h c).2.2.1.trans (by rw [(ha c).1, (ha c).2.1, (ha c).2.2.1, (ha c).2.2.2.1, (ha c).2.2.2.2.1, (ha c).2.2.2.2.2.1, (ha c).2.2.2.2.2.2]), (h c).2.2.2⟩)
      (Cert.Reference3Ideal.Hand.run_ref m' g')⟩

/-- The fourth call: its reference's run, its arguments unchanged. -/
theorem frame_ri4 : Cert.quiescent_Reference4Ideal := fun m ρ _ =>
  (θ_run Cert.Reference4Ideal.defs _ _).mono (fun r h => ⟨fun c => (h c).2.2.2.2.2.2,
      Idealize.ShloMosaic.sem_eq_zero_of_no_sems (by decide) r.2⟩)
    (Cert.Reference4Ideal.Value.run (F := Ideal) m ρ)

/-- The fourth call's named constant, the scale of the queries: `"q_scale"` is `1 / ln 256`. -/
theorem preserves4 : Cert.preserves_Kernel4_Kernel4Ideal :=
  IdealRules.named_const.statement Cert.Kernel4Ideal.κ "q_scale" .f32 0x3E38AA3B#32 (((Real.log 256)⁻¹ : ℝ) : EReal) rfl

section

open Cert.Kernel4Ideal.Hand Cert.Reference4Ideal.Hand

variable [h : Cert.Pre_finite_projection.Facts] (m : (ℓ : Loc Cert.Kernel4Ideal.nD Cert.Kernel4Ideal.τ Cert.Kernel4Ideal.sig) → Buf (Elt Ideal) ℓ)
  (hp : Cert.Pre_Kernel4Ideal_finite_projection m) (c : Dev Cert.Kernel4Ideal.nD)
include hp

/-- Where the precondition holds, the gains are real numbers, -/
theorem real_gain (k) : ∃ a : ℝ, A1 m c (ix2 0 k) = (a : EReal) :=
  Cert.Pre_finite_but_gain.Hand.real_of_lt _ _ h.bcast_S_S1x1024 _ (congrFun (hp c).1 (ix2 0 k))
/-- and so are the weights of the first 640 columns. -/
theorem real_weight (k : Fin 1024) (j : Fin 2304) (hj : (j : Nat) < 640) : ∃ a : ℝ, A2 m c (ix2 k j) = (a : EReal) := by
  obtain ⟨a, e⟩ := Cert.Pre_finite_scores.Hand.real_of_lt _ _ _ h.bcast_S_S1024x640 _ (congrFun (hp c).2 (ix2 k ⟨j, hj⟩))
  exact ⟨a, (Cert.Pre_finite_projection.Hand.weight (A2 m c) h.slices_S1024x2304_S1024x640_0_0 k j hj).symm.trans e⟩

omit hp in
/-- The fourth call's results are its reference's. -/
theorem value4 : Cert.algebraic_Kernel4Ideal_Reference4Ideal_pre_finite_projection := fun m g m' g' hp ha =>
  ⟨fun c => QA (A0 m c) (A1 m c) (A2 m c) (A3 m c) (A5 m c) (A6 m c), fun c => KA (A0 m c) (A1 m c) (A2 m c) (A4 m c) (A5 m c) (A6 m c),
    fun c => slabA (proj (A0 m c) (A1 m c) (A2 m c)), fun c => QB (A0 m c) (A1 m c) (A2 m c) (A7 m c),
    fun c => KB (A0 m c) (A1 m c) (A2 m c) (A7 m c), fun c => slabB (proj (A0 m c) (A1 m c) (A2 m c)),
    Cert.Kernel4Ideal.Hand.run_value m g (real_gain m hp) (real_weight m hp),
    (θ_run Cert.Reference4Ideal.defs _ _).mono
      (fun r h c => ⟨(h c).1.trans (by rw [(ha c).1, (ha c).2.1, (ha c).2.2.1, (ha c).2.2.2.1, (ha c).2.2.2.2.2.1, (ha c).2.2.2.2.2.2.1]),
        (h c).2.1.trans (by rw [(ha c).1, (ha c).2.1, (ha c).2.2.1, (ha c).2.2.2.2.1, (ha c).2.2.2.2.2.1, (ha c).2.2.2.2.2.2.1]),
        (h c).2.2.1.trans (by rw [(ha c).1, (ha c).2.1, (ha c).2.2.1]),
        (h c).2.2.2.1.trans (by rw [(ha c).1, (ha c).2.1, (ha c).2.2.1, (ha c).2.2.2.2.2.2.2]),
        (h c).2.2.2.2.1.trans (by rw [(ha c).1, (ha c).2.1, (ha c).2.2.1, (ha c).2.2.2.2.2.2.2]),
        (h c).2.2.2.2.2.1.trans (by rw [(ha c).1, (ha c).2.1, (ha c).2.2.1]), (h c).2.2.2.2.2.2⟩)
      (Cert.Reference4Ideal.Hand.run_ref m' g')⟩

end

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Pre_finite_scores.Hand.facts, Cert.Pre_finite_but_gain.Hand.facts, Cert.Pre_finite_projection.Hand.facts,
    fun m ρ _ => Cert.Kernel.Gen.frame m ρ, fun m ρ _ => Cert.KernelIdeal.Gen.frame m ρ, fun m ρ _ => Cert.KernelIdeal.Gen.frame m ρ,
    frame_ri, fun m ρ _ => frame_ri m ρ trivial,
    fun m ρ _ => Cert.Kernel2.Gen.frame m ρ, fun m ρ _ => Cert.Kernel2Ideal.Gen.frame m ρ, fun m ρ _ => Cert.Kernel2Ideal.Gen.frame m ρ,
    frame_ri2, fun m ρ _ => frame_ri2 m ρ trivial,
    fun m ρ _ => Cert.Kernel3.Gen.frame m ρ, fun m ρ _ => Cert.Kernel3Ideal.Gen.frame m ρ, frame_ri3,
    fun m ρ _ => Cert.Kernel4.Gen.frame m ρ, fun m ρ _ => Cert.Kernel4Ideal.Gen.frame m ρ, fun m ρ _ => Cert.Kernel4Ideal.Gen.frame m ρ,
    frame_ri4, fun m ρ _ => frame_ri4 m ρ trivial,
    preserves,
    haveI := Cert.Pre_finite_scores.Hand.facts
    value,
    preserves2,
    haveI := Cert.Pre_finite_but_gain.Hand.facts
    value2,
    preserves3, value3,
    preserves4,
    haveI := Cert.Pre_finite_projection.Hand.facts
    value4⟩

end Cert.Proof

end
